-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "scale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v17) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S_ : Shape := ⟨0, ![]⟩

class Facts : Prop where
  bcast_S_S8x2048x8x2x64 : S_.BroadcastsInDim S8x2048x8x2x64 (![] : Fin 0 → Fin S8x2048x8x2x64.rank)
  bcast_S_S8x2048x8x128 : S_.BroadcastsInDim S8x2048x8x128 (![] : Fin 0 → Fin S8x2048x8x128.rank)
  bcast_S_S64 : S_.BroadcastsInDim S64 (![] : Fin 0 → Fin S64.rank)

variable [Facts]

def fn_part1 {F : FTy → Type} [FloatOps F] (main_arg6 : FVec F S64 .f32) (main_v2 : IVec S8x2048x8x2x64 1) (main_v5 : IVec S8x2048x8x2x64 1) (main_v8 : IVec S8x2048x8x128 1) (main_v11 : IVec S64 1) (main_v14 : IVec S64 1) (main_v17 : IVec S64 1) : IVec S8x2048x8x2x64 1 × IVec S8x2048x8x2x64 1 × IVec S8x2048x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x2048x8x2x64 .f32) (main_arg1 : FVec F S8x2048x8x2x64 .f32) (main_arg2 : FVec F S8x2048x8x128 .f32) (main_arg3 : FVec F S64 .f32) (main_arg4 : FVec F S64 .f32) (main_arg5 : FVec F S64 .f32) (main_arg6 : FVec F S64 .f32) (main_arg7 : FVec F S128 .f32) : IVec S8x2048x8x2x64 1 × IVec S8x2048x8x2x64 1 × IVec S8x2048x8x128 1 × IVec S64 1 × IVec S64 1 × IVec S64 1 × IVec S64 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_v3 : FVec F S8x2048x8x2x64 .f32 := Host.absf main_arg1
  let main_cst_0 : FVec F S_ .f32 := constant S_ .f32 0x7F800000#32
  let main_v4 : FVec F S8x2048x8x2x64 .f32 := broadcastInDim S8x2048x8x2x64 ![] bcast_S_S8x2048x8x2x64 main_cst_0
  let main_v5 : IVec S8x2048x8x2x64 1 := cmpf .olt main_v3 main_v4
  let main_v6 : FVec F S8x2048x8x128 .f32 := Host.absf main_arg2
  let main_cst_1 : FVec F S_ .f32 := constant S_ .f32 0x7F800000#32
  let main_v7 : FVec F S8x2048x8x128 .f32 := broadcastInDim S8x2048x8x128 ![] bcast_S_S8x2048x8x128 main_cst_1
  let main_v8 : IVec S8x2048x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_finite4.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S8x256x1024 : Shape := ⟨3, ![8, 256, 1024]⟩
abbrev S_ : Shape := ⟨0, ![]⟩

class Facts : Prop where
  slices_S8x256x2048_S8x256x1024_0_0_0 : S8x256x2048.Slices ![0, 0, 0] S8x256x1024
  bcast_S_S8x2048x1024 : S_.BroadcastsInDim S8x2048x1024 (![] : Fin 0 → Fin S8x2048x1024.rank)
  bcast_S_S8x256x1024 : S_.BroadcastsInDim S8x256x1024 (![] : Fin 0 → Fin S8x256x1024.rank)
  bcast_S_S1024x1024 : S_.BroadcastsInDim S1024x1024 (![] : Fin 0 → Fin S1024x1024.rank)

variable [Facts]

def fn {F : FTy → Type} [FloatOps F] (main_arg0 : FVec F S8x2048x1024 .f32) (main_arg1 : FVec F S8x256x2048 .f32) (main_arg2 : FVec F S1024x1024 .f32) (main_arg3 : FVec F S1024x1024 .f32) (main_arg4 : FVec F S1024 .f32) (main_arg5 : FVec F S1024 .f32) : IVec S8x2048x1024 1 × IVec S8x256x1024 1 × IVec S1024x1024 1 :=
  let main_v0 : FVec F S8x256x1024 .f32 := (extractStridedSlice S8x256x1024 ![0, 0, 0] · slices_S8x256x2048_S8x256x1024_0_0_0) main_arg1
  let main_v1 : FVec F S8x2048x1024 .f32 := Host.absf main_arg0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_v4 : FVec F S8x256x1024 .f32 := Host.absf main_v0
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_v7 : FVec F S1024x1024 .f32 := Host.absf main_arg2
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  (main_v3, main_v6, main_v9)
-- ==== Kernel.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S8x2048x1024 : Shape := ⟨3, ![8, 2048, 1024]⟩
abbrev S8x2048x2048 : Shape := ⟨3, ![8, 2048, 2048]⟩
abbrev S8x8x256x8x128 : Shape := ⟨5, ![8, 8, 256, 8, 128]⟩
abbrev S8x8x8x128x256 : Shape := ⟨5, ![8, 8, 8, 128, 256]⟩
abbrev S_ : Shape := ⟨0, ![]⟩
abbrev S8x8x8x16x256 : Shape := ⟨5, ![8, 8, 8, 16, 256]⟩
abbrev S8x8x8x144x256 : Shape := ⟨5, ![8, 8, 8, 144, 256]⟩
abbrev S1x64 : Shape := ⟨2, ![1, 64]⟩
abbrev S4x64 : Shape := ⟨2, ![4, 64]⟩
abbrev S128x1 : Shape := ⟨2, ![128, 1]⟩
abbrev S1x256x256 : Shape := ⟨3, ![1, 256, 256]⟩
abbrev S1x2048x256 : Shape := ⟨3, ![1, 2048, 256]⟩
abbrev S1x2x8x144x256 : Shape := ⟨5, ![1, 2, 8, 144, 256]⟩
abbrev S2x2x256x512 : Shape := ⟨4, ![2, 2, 256, 512]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S1x1x256x512 : Shape := ⟨4, ![1, 1, 256, 512]⟩
abbrev S1x512 : Shape := ⟨2, ![1, 512]⟩
abbrev S144x512 : Shape := ⟨2, ![144, 512]⟩
abbrev S1x1x1x144x256 : Shape := ⟨5, ![1, 1, 1, 144, 256]⟩
abbrev S144x256 : Shape := ⟨2, ![144, 256]⟩
abbrev S512 : Shape := ⟨1, ![512]⟩
abbrev S1 : Shape := ⟨1, ![1]⟩
abbrev S1x1 : Shape := ⟨2, ![1, 1]⟩
abbrev S64x512 : Shape := ⟨2, ![64, 512]⟩
abbrev S128x512 : Shape := ⟨2, ![128, 512]⟩
abbrev S128x256 : Shape := ⟨2, ![128, 256]⟩
abbrev S256 : Shape := ⟨1, ![256]⟩
abbrev S1x256 : Shape := ⟨2, ![1, 256]⟩

abbrev nBuf : Space → Nat
  | .hbm => 25
  | .vmem => 12
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x2048x1024, .f32⟩
  | .hbm, ⟨9, _⟩ => ⟨S8x2048x1024, .f32⟩
  | .hbm, ⟨10, _⟩ => ⟨S8x2048x2048, .f32⟩
  | .hbm, ⟨11, _⟩ => ⟨S8x2048x2048, .bf16⟩
  | .hbm, ⟨12, _⟩ => ⟨S8x8x256x8x128, .f32⟩
  | .hbm, ⟨13, _⟩ => ⟨S8x8x8x128x256, .f32⟩
  | .hbm, ⟨14, _⟩ => ⟨S_, .f32⟩
  | .hbm, ⟨15, _⟩ => ⟨S8x8x8x16x256, .f32⟩
  | .hbm, ⟨16, _⟩ => ⟨S8x8x8x144x256, .f32⟩
  | .hbm, ⟨17, _⟩ => ⟨S8x8x8x144x256, .bf16⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S128x1, .f32⟩
  | .hbm, ⟨24, _⟩ => ⟨S8x2048x1024, .bf16⟩
  | .local _ .vmem, ⟨0, _⟩ => ⟨S4x64, .f32⟩
  | .local _ .vmem, ⟨1, _⟩ => ⟨S128x1, .f32⟩
  | .local _ .vmem, ⟨2, _⟩ => ⟨S1x256x256, .bf16⟩
  | .local _ .vmem, ⟨3, _⟩ => ⟨S1x256x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2x8x144x256, .bf16⟩
  | .local _ .vmem, ⟨7, _⟩ => ⟨S1x2x8x144x256, .bf16⟩
  | .local _ .vmem, ⟨8, _⟩ => ⟨S1x256x256, .bf16⟩
  | .local _ .vmem, ⟨9, _⟩ => ⟨S1x256x256, .bf16⟩
  | .local _ .vmem, ⟨10, _⟩ => ⟨S2x2x256x512, .f32⟩
  | .local _ .vmem, ⟨11, _⟩ => ⟨S2x2x256x512, .bf16⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
def k0_mult2 : BitVec 32 :=
  let c0_i32_21 : BitVec 32 := 0#32
  c0_i32_21
@[reducible] def k0_t1_loop (i : grid0.Coords) : Scf.Loop 32 :=
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_44 : BitVec 32 := 1#32
  ⟨c0_i32_42, v78, c1_i32_44⟩
def k0_off1 (i : grid0.Coords) (k0_t1 : Fin (k0_t1_loop i).trips) : Fin 4 → Nat :=
  let c0_152 : Index := 0#32
  let c0_i32_42 : BitVec 32 := 0#32
  let c1_i32_44 : BitVec 32 := 1#32
  let arg11 : BitVec 32 := Scf.iv c0_i32_42 c1_i32_44 k0_t1
  let c1_i32_151 : BitVec 32 := 1#32
  let v339 : BitVec 32 := Scalar.andi arg11 c1_i32_151
  let v340 : Index := Scalar.indexCast v339
  let c0_153 : Index := 0#32
  let c0_154 : Index := 0#32
  ![0, v340.toNat, 0, 0]
def k0_off2 (i : grid0.Coords) (k0_t1 : Fin (k0_t1_loop i).trips) : Fin 4 → Nat :=
  let c0_156 : Index := 0#32
  let c1_i32_155 : BitVec 32 := 1#32
  let c0_i32_42 : BitVec 32 := 0#32
  let c1_i32_44 : BitVec 32 := 1#32
  let arg11 : BitVec 32 := Scf.iv c0_i32_42 c1_i32_44 k0_t1
  let c1_i32_151 : BitVec 32 := 1#32
  let v339 : BitVec 32 := Scalar.andi arg11 c1_i32_151
  let v343 : BitVec 32 := Scalar.subi c1_i32_155 v339
  let v344 : Index := Scalar.indexCast v343
  let c0_157 : Index := 0#32
  let c0_158 : Index := 0#32
  ![0, v344.toNat, 0, 0]
def k0_off3 (i : grid0.Coords) (k0_t1 : Fin (k0_t1_loop i).trips) : Fin 4 → Nat :=
  let c1_159 : Index := 1#32
  let c0_i32_42 : BitVec 32 := 0#32
  let c1_i32_44 : BitVec 32 := 1#32
  let arg11 : BitVec 32 := Scf.iv c0_i32_42 c1_i32_44 k0_t1
  let c1_i32_151 : BitVec 32 := 1#32
  let v339 : BitVec 32 := Scalar.andi arg11 c1_i32_151
  let v347 : Index := Scalar.indexCast v339
  let c0_160 : Index := 0#32
  let c0_161 : Index := 0#32
  ![1, v347.toNat, 0, 0]
def k0_off4 (i : grid0.Coords) (k0_t1 : Fin (k0_t1_loop i).trips) : Fin 4 → Nat :=
  let c1_163 : Index := 1#32
  let c1_i32_162 : BitVec 32 := 1#32
  let c0_i32_42 : BitVec 32 := 0#32
  let c1_i32_44 : BitVec 32 := 1#32
  let arg11 : BitVec 32 := Scf.iv c0_i32_42 c1_i32_44 k0_t1
  let c1_i32_151 : BitVec 32 := 1#32
  let v339 : BitVec 32 := Scalar.andi arg11 c1_i32_151
  let v350 : BitVec 32 := Scalar.subi c1_i32_162 v339
  let v351 : Index := Scalar.indexCast v350
  let c0_164 : Index := 0#32
  let c0_165 : Index := 0#32
  ![1, v351.toNat, 0, 0]
def k0_off5 (i : grid0.Coords) (k0_t1 : Fin (k0_t1_loop i).trips) : Fin 5 → Nat :=
  let c0_168 : Index := 0#32
  let c0_169 : Index := 0#32
  let c0_i32_42 : BitVec 32 := 0#32
  let c1_i32_44 : BitVec 32 := 1#32
  let arg11 : BitVec 32 := Scf.iv c0_i32_42 c1_i32_44 k0_t1
  let c1_i32_166 : BitVec 32 := 1#32
  let v354 : BitVec 32 := Scalar.subi arg11 c1_i32_166
  let c0_i32_167 : BitVec 32 := 0#32
  let v355 : BitVec 32 := Scalar.maxsi v354 c0_i32_167
  let v356 : Index := Scalar.indexCast v355
  let c0_170 : Index := 0#32
  let c0_171 : Index := 0#32
  ![0, 0, v356.toNat, 0, 0]
def k0_off6 (i : grid0.Coords) (k0_t1 : Fin (k0_t1_loop i).trips) : Fin 5 → Nat :=
  let c0_175 : Index := 0#32
  let c1_176 : Index := 1#32
  let c0_i32_42 : BitVec 32 := 0#32
  let c1_i32_44 : BitVec 32 := 1#32
  let arg11 : BitVec 32 := Scf.iv c0_i32_42 c1_i32_44 k0_t1
  let c1_i32_173 : BitVec 32 := 1#32
  let v360 : BitVec 32 := Scalar.subi arg11 c1_i32_173
  let c0_i32_174 : BitVec 32 := 0#32
  let v361 : BitVec 32 := Scalar.maxsi v360 c0_i32_174
  let v362 : Index := Scalar.indexCast v361
  let c0_177 : Index := 0#32
  let c0_178 : Index := 0#32
  ![0, 1, v362.toNat, 0, 0]
def k0_mult3 (i : grid0.Coords) (k0_t1 : Fin (k0_t1_loop i).trips) : BitVec 32 :=
  let c0_i32_42 : BitVec 32 := 0#32
  let c1_i32_44 : BitVec 32 := 1#32
  let arg11 : BitVec 32 := Scf.iv c0_i32_42 c1_i32_44 k0_t1
  let c1_i32_180 : BitVec 32 := 1#32
  let v366 : BitVec 32 := Scalar.addi arg11 c1_i32_180
  let c256_i32_181 : BitVec 32 := 256#32
  let v367 : BitVec 32 := Scalar.muli v366 c256_i32_181
  v367
def k0_off7 (i : grid0.Coords) (k0_t1 : Fin (k0_t1_loop i).trips) : Fin 3 → Nat :=
  let c0_182 : Index := 0#32
  let c0_i32_42 : BitVec 32 := 0#32
  let c1_i32_44 : BitVec 32 := 1#32
  let arg11 : BitVec 32 := Scf.iv c0_i32_42 c1_i32_44 k0_t1
  let c1_i32_180 : BitVec 32 := 1#32
  let v366 : BitVec 32 := Scalar.addi arg11 c1_i32_180
  let c256_i32_181 : BitVec 32 := 256#32
  let v367 : BitVec 32 := Scalar.muli v366 c256_i32_181
  let v368 : BitVec 32 := v367
  let v369 : Index := Scalar.indexCast v368
  let c0_183 : Index := 0#32
  ![0, v369.toNat, 0]
def k0_mult4 (i : grid0.Coords) (k0_t1 : Fin (k0_t1_loop i).trips) : BitVec 32 :=
  let c0_i32_42 : BitVec 32 := 0#32
  let c1_i32_44 : BitVec 32 := 1#32
  let arg11 : BitVec 32 := Scf.iv c0_i32_42 c1_i32_44 k0_t1
  let c1_i32_185 : BitVec 32 := 1#32
  let v373 : BitVec 32 := Scalar.addi arg11 c1_i32_185
  let c256_i32_186 : BitVec 32 := 256#32
  let v374 : BitVec 32 := Scalar.muli v373 c256_i32_186
  v374
def k0_off8 (i : grid0.Coords) (k0_t1 : Fin (k0_t1_loop i).trips) : Fin 3 → Nat :=
  let c0_187 : Index := 0#32
  let c0_i32_42 : BitVec 32 := 0#32
  let c1_i32_44 : BitVec 32 := 1#32
  let arg11 : BitVec 32 := Scf.iv c0_i32_42 c1_i32_44 k0_t1
  let c1_i32_185 : BitVec 32 := 1#32
  let v373 : BitVec 32 := Scalar.addi arg11 c1_i32_185
  let c256_i32_186 : BitVec 32 := 256#32
  let v374 : BitVec 32 := Scalar.muli v373 c256_i32_186
  let v375 : BitVec 32 := v374
  let v376 : Index := Scalar.indexCast v375
  let c128_188 : Index := 128#32
  ![0, v376.toNat, 128]
@[reducible] def k0_t2_loop (i : grid0.Coords) : Scf.Loop 32 :=
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let v75 : BitVec 32 := Scalar.addi c0_i32_42 v74
  let c1_i32_45 : BitVec 32 := 1#32
  ⟨v78, v75, c1_i32_45⟩
def k0_off9 (i : grid0.Coords) (k0_t2 : Fin (k0_t2_loop i).trips) : Fin 4 → Nat :=
  let c0_152 : Index := 0#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_151 : BitVec 32 := 1#32
  let v339 : BitVec 32 := Scalar.andi arg11 c1_i32_151
  let v340 : Index := Scalar.indexCast v339
  let c0_153 : Index := 0#32
  let c0_154 : Index := 0#32
  ![0, v340.toNat, 0, 0]
def k0_off10 (i : grid0.Coords) (k0_t2 : Fin (k0_t2_loop i).trips) : Fin 4 → Nat :=
  let c0_156 : Index := 0#32
  let c1_i32_155 : BitVec 32 := 1#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_151 : BitVec 32 := 1#32
  let v339 : BitVec 32 := Scalar.andi arg11 c1_i32_151
  let v343 : BitVec 32 := Scalar.subi c1_i32_155 v339
  let v344 : Index := Scalar.indexCast v343
  let c0_157 : Index := 0#32
  let c0_158 : Index := 0#32
  ![0, v344.toNat, 0, 0]
def k0_off11 (i : grid0.Coords) (k0_t2 : Fin (k0_t2_loop i).trips) : Fin 4 → Nat :=
  let c1_159 : Index := 1#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_151 : BitVec 32 := 1#32
  let v339 : BitVec 32 := Scalar.andi arg11 c1_i32_151
  let v347 : Index := Scalar.indexCast v339
  let c0_160 : Index := 0#32
  let c0_161 : Index := 0#32
  ![1, v347.toNat, 0, 0]
def k0_off12 (i : grid0.Coords) (k0_t2 : Fin (k0_t2_loop i).trips) : Fin 4 → Nat :=
  let c1_163 : Index := 1#32
  let c1_i32_162 : BitVec 32 := 1#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_151 : BitVec 32 := 1#32
  let v339 : BitVec 32 := Scalar.andi arg11 c1_i32_151
  let v350 : BitVec 32 := Scalar.subi c1_i32_162 v339
  let v351 : Index := Scalar.indexCast v350
  let c0_164 : Index := 0#32
  let c0_165 : Index := 0#32
  ![1, v351.toNat, 0, 0]
def k0_off13 (i : grid0.Coords) (k0_t2 : Fin (k0_t2_loop i).trips) : Fin 5 → Nat :=
  let c0_168 : Index := 0#32
  let c0_169 : Index := 0#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_166 : BitVec 32 := 1#32
  let v354 : BitVec 32 := Scalar.subi arg11 c1_i32_166
  let c0_i32_167 : BitVec 32 := 0#32
  let v355 : BitVec 32 := Scalar.maxsi v354 c0_i32_167
  let v356 : Index := Scalar.indexCast v355
  let c0_170 : Index := 0#32
  let c0_171 : Index := 0#32
  ![0, 0, v356.toNat, 0, 0]
def k0_off14 (i : grid0.Coords) (k0_t2 : Fin (k0_t2_loop i).trips) : Fin 5 → Nat :=
  let c0_175 : Index := 0#32
  let c1_176 : Index := 1#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_173 : BitVec 32 := 1#32
  let v360 : BitVec 32 := Scalar.subi arg11 c1_i32_173
  let c0_i32_174 : BitVec 32 := 0#32
  let v361 : BitVec 32 := Scalar.maxsi v360 c0_i32_174
  let v362 : Index := Scalar.indexCast v361
  let c0_177 : Index := 0#32
  let c0_178 : Index := 0#32
  ![0, 1, v362.toNat, 0, 0]
def k0_mult5 (i : grid0.Coords) (k0_t2 : Fin (k0_t2_loop i).trips) : BitVec 32 :=
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_180 : BitVec 32 := 1#32
  let v366 : BitVec 32 := Scalar.addi arg11 c1_i32_180
  let c256_i32_181 : BitVec 32 := 256#32
  let v367 : BitVec 32 := Scalar.muli v366 c256_i32_181
  v367
def k0_off15 (i : grid0.Coords) (k0_t2 : Fin (k0_t2_loop i).trips) : Fin 3 → Nat :=
  let c0_182 : Index := 0#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_180 : BitVec 32 := 1#32
  let v366 : BitVec 32 := Scalar.addi arg11 c1_i32_180
  let c256_i32_181 : BitVec 32 := 256#32
  let v367 : BitVec 32 := Scalar.muli v366 c256_i32_181
  let v368 : BitVec 32 := v367
  let v369 : Index := Scalar.indexCast v368
  let c0_183 : Index := 0#32
  ![0, v369.toNat, 0]
def k0_mult6 (i : grid0.Coords) (k0_t2 : Fin (k0_t2_loop i).trips) : BitVec 32 :=
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_185 : BitVec 32 := 1#32
  let v373 : BitVec 32 := Scalar.addi arg11 c1_i32_185
  let c256_i32_186 : BitVec 32 := 256#32
  let v374 : BitVec 32 := Scalar.muli v373 c256_i32_186
  v374
def k0_off16 (i : grid0.Coords) (k0_t2 : Fin (k0_t2_loop i).trips) : Fin 3 → Nat :=
  let c0_187 : Index := 0#32
  let c0_i32_42 : BitVec 32 := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v74 : BitVec 32 := Scalar.subi v73 c0_i32_42
  let c1_i32_43 : BitVec 32 := 1#32
  let v76 : BitVec 32 := Scalar.divsi v74 c1_i32_43
  let v77 : BitVec 32 := Scalar.muli v76 c1_i32_43
  let v78 : BitVec 32 := Scalar.addi c0_i32_42 v77
  let c1_i32_45 : BitVec 32 := 1#32
  let arg11 : BitVec 32 := Scf.iv v78 c1_i32_45 k0_t2
  let c1_i32_185 : BitVec 32 := 1#32
  let v373 : BitVec 32 := Scalar.addi arg11 c1_i32_185
  let c256_i32_186 : BitVec 32 := 256#32
  let v374 : BitVec 32 := Scalar.muli v373 c256_i32_186
  let v375 : BitVec 32 := v374
  let v376 : Index := Scalar.indexCast v375
  let c128_188 : Index := 128#32
  ![0, v376.toNat, 128]
def k0_off17 (i : grid0.Coords) : Fin 4 → Nat :=
  let c0_55 : Index := 0#32
  let c1_i32_54 : BitVec 32 := 1#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_51 : BitVec 32 := 1#32
  let v98 : BitVec 32 := Scalar.andi v73 c1_i32_51
  let v101 : BitVec 32 := Scalar.subi c1_i32_54 v98
  let v102 : Index := Scalar.indexCast v101
  let c0_56 : Index := 0#32
  let c0_57 : Index := 0#32
  ![0, v102.toNat, 0, 0]
def k0_off18 (i : grid0.Coords) : Fin 5 → Nat :=
  let c0_58 : Index := 0#32
  let c0_59 : Index := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_52 : BitVec 32 := 1#32
  let v99 : BitVec 32 := Scalar.subi v73 c1_i32_52
  let c0_i32_53 : BitVec 32 := 0#32
  let v100 : BitVec 32 := Scalar.maxsi v99 c0_i32_53
  let v105 : Index := Scalar.indexCast v100
  let c0_60 : Index := 0#32
  let c0_61 : Index := 0#32
  ![0, 0, v105.toNat, 0, 0]
def k0_off19 (i : grid0.Coords) : Fin 4 → Nat :=
  let c0_63 : Index := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_51 : BitVec 32 := 1#32
  let v98 : BitVec 32 := Scalar.andi v73 c1_i32_51
  let v109 : Index := Scalar.indexCast v98
  let c0_64 : Index := 0#32
  let c0_65 : Index := 0#32
  ![0, v109.toNat, 0, 0]
def k0_off20 (i : grid0.Coords) : Fin 5 → Nat :=
  let c0_86 : Index := 0#32
  let c0_87 : Index := 0#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v184 : Index := Scalar.indexCast v73
  let c0_88 : Index := 0#32
  let c0_89 : Index := 0#32
  ![0, 0, v184.toNat, 0, 0]
def k0_off21 (i : grid0.Coords) : Fin 4 → Nat :=
  let c1_103 : Index := 1#32
  let c1_i32_102 : BitVec 32 := 1#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_51 : BitVec 32 := 1#32
  let v98 : BitVec 32 := Scalar.andi v73 c1_i32_51
  let v221 : BitVec 32 := Scalar.subi c1_i32_102 v98
  let v222 : Index := Scalar.indexCast v221
  let c0_104 : Index := 0#32
  let c0_105 : Index := 0#32
  ![1, v222.toNat, 0, 0]
def k0_off22 (i : grid0.Coords) : Fin 5 → Nat :=
  let c0_106 : Index := 0#32
  let c1_107 : Index := 1#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_100 : BitVec 32 := 1#32
  let v219 : BitVec 32 := Scalar.subi v73 c1_i32_100
  let c0_i32_101 : BitVec 32 := 0#32
  let v220 : BitVec 32 := Scalar.maxsi v219 c0_i32_101
  let v225 : Index := Scalar.indexCast v220
  let c0_108 : Index := 0#32
  let c0_109 : Index := 0#32
  ![0, 1, v225.toNat, 0, 0]
def k0_off23 (i : grid0.Coords) : Fin 4 → Nat :=
  let c1_111 : Index := 1#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let c1_i32_51 : BitVec 32 := 1#32
  let v98 : BitVec 32 := Scalar.andi v73 c1_i32_51
  let v229 : Index := Scalar.indexCast v98
  let c0_112 : Index := 0#32
  let c0_113 : Index := 0#32
  ![1, v229.toNat, 0, 0]
def k0_off24 (i : grid0.Coords) : Fin 5 → Nat :=
  let c0_137 : Index := 0#32
  let c1_138 : Index := 1#32
  let arg2 : BitVec 32 := BitVec.ofNat 32 (i 2).val
  let c256_i32 : BitVec 32 := 256#32
  let v56 : BitVec 32 := Scalar.muli arg2 c256_i32
  let c0_i32_37 : BitVec 32 := 0#32
  let v58 : BitVec 1 := Scalar.cmpi .sgt v56 c0_i32_37
  let v59 : BitVec 32 := Scalar.extui v58
  let c0_i32_38 : BitVec 32 := 0#32
  let v60 : BitVec 1 := Scalar.cmpi .slt v56 c0_i32_38
  let v61 : BitVec 32 := Scalar.extui v60
  let v62 : BitVec 32 := Scalar.subi v59 v61
  let c256_i32_36 : BitVec 32 := 256#32
  let c0_i32_39 : BitVec 32 := 0#32
  let v63 : BitVec 1 := Scalar.cmpi .sgt c256_i32_36 c0_i32_39
  let v64 : BitVec 32 := Scalar.extui v63
  let c0_i32_40 : BitVec 32 := 0#32
  let v65 : BitVec 1 := Scalar.cmpi .slt c256_i32_36 c0_i32_40
  let v66 : BitVec 32 := Scalar.extui v65
  let v67 : BitVec 32 := Scalar.subi v64 v66
  let v68 : BitVec 1 := Scalar.cmpi .ne v62 v67
  let v69 : BitVec 32 := Scalar.remsi v56 c256_i32_36
  let c0_i32_41 : BitVec 32 := 0#32
  let v70 : BitVec 1 := Scalar.cmpi .ne v69 c0_i32_41
  let v71 : BitVec 1 := Scalar.andi v68 v70
  let v57 : BitVec 32 := Scalar.divsi v56 c256_i32_36
  let c1_i32 : BitVec 32 := 1#32
  let v72 : BitVec 32 := Scalar.subi v57 c1_i32
  let v73 : BitVec 32 := Scalar.select v71 v72 v57
  let v304 : Index := Scalar.indexCast v73
  let c0_139 : Index := 0#32
  let c0_140 : Index := 0#32
  ![0, 1, v304.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x8x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some ((8⁻¹ * (Real.log 2)⁻¹ : ℝ) : EReal)
  | _ => none
-- ==== ReferenceIdeal.lean ====
abbrev S8x2048x8x2x64 : Shape := ⟨5, ![8, 2048, 8, 2, 64]⟩
abbrev S8x2048x8x128 : Shape := ⟨4, ![8, 2048, 8, 128]⟩
abbrev S64 : Shape := ⟨1, ![64]⟩
abbrev S128 : Shape := ⟨1, ![128]⟩
abbrev S_ : Shape := ⟨0, ![]⟩
abbrev S8x8x2x2048x2048 : Shape := ⟨5, ![8, 8, 2, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x1024 : Shape := ⟨3, ![8, 2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8x2x2048x2048, .f32⟩
  | .hbm, ⟨20, _⟩ => ⟨S_, .f32⟩
  | .hbm, ⟨21, _⟩ => ⟨S8x8x2x2048x2048, .f32⟩
  | .hbm, ⟨22, _⟩ => ⟨S8x8x2x2048x2048, .f32⟩
  | .hbm, ⟨23, _⟩ => ⟨S2048, .i32⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S1x2048, .i32⟩
  | .hbm, ⟨43, _⟩ => ⟨S2048x1, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S_, .f32⟩
  | .hbm, ⟨48, _⟩ => ⟨S_, .f32⟩
  | .hbm, ⟨49, _⟩ => ⟨S8x8x2x2048x2048, .i1⟩
  | .hbm, ⟨50, _⟩ => ⟨S8x8x2x2048x2048, .f32⟩
  | .hbm, ⟨51, _⟩ => ⟨S8x8x2x2048x2048, .f32⟩
  | .hbm, ⟨52, _⟩ => ⟨S_, .f32⟩
  | .hbm, ⟨53, _⟩ => ⟨S8x8x2x2048, .f32⟩
  | .hbm, ⟨54, _⟩ => ⟨S_, .f32⟩
  | .hbm, ⟨55, _⟩ => ⟨S8x8x2x2048, .f32⟩
  | .hbm, ⟨56, _⟩ => ⟨S8x8x2x2048, .f32⟩
  | .hbm, ⟨57, _⟩ => ⟨S8x8x2x2048x1, .f32⟩
  | .hbm, ⟨58, _⟩ => ⟨S8x8x2x2048x2048, .f32⟩
  | .hbm, ⟨59, _⟩ => ⟨S8x8x2x2048x2048, .f32⟩
  | .hbm, ⟨60, _⟩ => ⟨S8x8x2x2048x2048, .f32⟩
  | .hbm, ⟨61, _⟩ => ⟨S_, .f32⟩
  | .hbm, ⟨62, _⟩ => ⟨S8x8x2x2048, .f32⟩
  | .hbm, ⟨63, _⟩ => ⟨S8x8x2x2048x1, .f32⟩
  | .hbm, ⟨64, _⟩ => ⟨S8x8x2x2048x2048, .f32⟩
  | .hbm, ⟨65, _⟩ => ⟨S8x8x2x2048x2048, .f32⟩
  | .hbm, ⟨66, _⟩ => ⟨S8x8x1x2048x2048, .f32⟩
  | .hbm, ⟨67, _⟩ => ⟨S8x8x2048x2048, .f32⟩
  | .hbm, ⟨68, _⟩ => ⟨S8x8x1x2048x2048, .f32⟩
  | .hbm, ⟨69, _⟩ => ⟨S8x8x2048x2048, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S8x8x128x2048, .f32⟩
  | .hbm, ⟨74, _⟩ => ⟨S8x2048x8x128, .f32⟩
  | .hbm, ⟨75, _⟩ => ⟨S8x2048x8x128, .f32⟩
  | .hbm, ⟨76, _⟩ => ⟨S_, .f32⟩
  | .hbm, ⟨77, _⟩ => ⟨S8x2048x8, .f32⟩
  | .hbm, ⟨78, _⟩ => ⟨S8x2048x8x1, .f32⟩
  | .hbm, ⟨79, _⟩ => ⟨S_, .f32⟩
  | .hbm, ⟨80, _⟩ => ⟨S8x2048x8x1, .f32⟩
  | .hbm, ⟨81, _⟩ => ⟨S8x2048x8x1, .f32⟩
  | .hbm, ⟨82, _⟩ => ⟨S_, .f32⟩
  | .hbm, ⟨83, _⟩ => ⟨S8x2048x8x1, .f32⟩
  | .hbm, ⟨84, _⟩ => ⟨S8x2048x8x1, .f32⟩
  | .hbm, ⟨85, _⟩ => ⟨S8x2048x8x1, .f32⟩
  | .hbm, ⟨86, _⟩ => ⟨S8x2048x8x128, .f32⟩
  | .hbm, ⟨87, _⟩ => ⟨S8x2048x8x128, .f32⟩
  | .hbm, ⟨88, _⟩ => ⟨S1x1x1x128, .f32⟩
  | .hbm, ⟨89, _⟩ => ⟨S8x2048x8x128, .f32⟩
  | .hbm, ⟨90, _⟩ => ⟨S8x2048x8x128, .f32⟩
  | .hbm, ⟨91, _⟩ => ⟨S_, .f32⟩
  | .hbm, ⟨92, _⟩ => ⟨S8x2048x8x128, .f32⟩
  | .hbm, ⟨93, _⟩ => ⟨S8x2048x8x128, .f32⟩
  | .hbm, ⟨94, _⟩ => ⟨S8x2048x1024, .f32⟩
  | .hbm, ⟨95, _⟩ => ⟨S8x2048x1024, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_cst_5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x4096 : Shape := ⟨2, ![1024, 4096]⟩
abbrev S4096x1024 : Shape := ⟨2, ![4096, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .hbm, ⟨13, _⟩ => ⟨S8x2048x1024, .f32⟩
  | .hbm, ⟨14, _⟩ => ⟨S8x2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8x2048x4096 : Shape := ⟨3, ![8, 2048, 4096]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x3x1024 : Shape := ⟨4, ![8, 2048, 3, 1024]⟩
abbrev S1024x1024 : Shape := ⟨2, ![1024, 1024]⟩
abbrev S1024 : Shape := ⟨1, ![1024]⟩
abbrev S16384x1024 : Shape := ⟨2, ![16384, 1024]⟩
abbrev S16384x3072 : Shape := ⟨2, ![16384, 3072]⟩
abbrev S1x1024 : Shape := ⟨2, ![1, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 30
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x3x1024, .f32⟩
  | .hbm, ⟨4, _⟩ => ⟨S8x2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S16384x1024, .bf16⟩
  | .hbm, ⟨17, _⟩ => ⟨S16384x3072, .f32⟩
  | .hbm, ⟨18, _⟩ => ⟨S16384x3072, .bf16⟩
  | .hbm, ⟨19, _⟩ => ⟨S16384x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .bf16⟩
  | .hbm, ⟨28, _⟩ => ⟨S8x2048x1024, .f32⟩
  | .hbm, ⟨29, _⟩ => ⟨S8x2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x2048x1024 : Shape := ⟨3, ![8, 2048, 1024]⟩
abbrev S8x2048x3x1024 : Shape := ⟨4, ![8, 2048, 3, 1024]⟩
abbrev S1024x1024 : Shape := ⟨2, ![1024, 1024]⟩
abbrev S1024 : Shape := ⟨1, ![1024]⟩
abbrev S8x2048x1x1024 : Shape := ⟨4, ![8, 2048, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x3x1024, .f32⟩
  | .hbm, ⟨4, _⟩ => ⟨S8x2048x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S8x2048x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x256x2048 : Shape := ⟨3, ![1, 256, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x2048x1024, .bf16⟩
  | .hbm, ⟨7, _⟩ => ⟨S8x256x2048, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .hbm, ⟨13, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x256x2048, .bf16⟩
  | .local _ .vmem, ⟨5, _⟩ => ⟨S1x256x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S8x2048x1024 : Shape := ⟨3, ![8, 2048, 1024]⟩
abbrev S8x256x2048 : Shape := ⟨3, ![8, 256, 2048]⟩
abbrev S1024x1024 : Shape := ⟨2, ![1024, 1024]⟩
abbrev S1024 : Shape := ⟨1, ![1024]⟩
abbrev S8x2048x4x256 : Shape := ⟨4, ![8, 2048, 4, 256]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S8x2048x1024, .f32⟩
  | .hbm, ⟨7, _⟩ => ⟨S8x2048x4x256, .f32⟩
  | .hbm, ⟨8, _⟩ => ⟨S8x256x1024, .f32⟩
  | .hbm, ⟨9, _⟩ => ⟨S8x256x1024, .f32⟩
  | .hbm, ⟨10, _⟩ => ⟨S8x256x4x256, .f32⟩
  | .hbm, ⟨11, _⟩ => ⟨S8x256x4x256, .f32⟩
  | .hbm, ⟨12, _⟩ => ⟨S8x4x2048x256, .f32⟩
  | .hbm, ⟨13, _⟩ => ⟨S_, .f32⟩
  | .hbm, ⟨14, _⟩ => ⟨S8x4x2048x256, .f32⟩
  | .hbm, ⟨15, _⟩ => ⟨S8x4x2048x256, .f32⟩
  | .hbm, ⟨16, _⟩ => ⟨S_, .f32⟩
  | .hbm, ⟨17, _⟩ => ⟨S8x4x2048, .f32⟩
  | .hbm, ⟨18, _⟩ => ⟨S_, .f32⟩
  | .hbm, ⟨19, _⟩ => ⟨S8x4x2048, .f32⟩
  | .hbm, ⟨20, _⟩ => ⟨S8x4x2048, .f32⟩
  | .hbm, ⟨21, _⟩ => ⟨S8x4x2048x1, .f32⟩
  | .hbm, ⟨22, _⟩ => ⟨S8x4x2048x256, .f32⟩
  | .hbm, ⟨23, _⟩ => ⟨S8x4x2048x256, .f32⟩
  | .hbm, ⟨24, _⟩ => ⟨S8x4x2048x256, .f32⟩
  | .hbm, ⟨25, _⟩ => ⟨S_, .f32⟩
  | .hbm, ⟨26, _⟩ => ⟨S8x4x2048, .f32⟩
  | .hbm, ⟨27, _⟩ => ⟨S8x4x2048x1, .f32⟩
  | .hbm, ⟨28, _⟩ => ⟨S8x4x2048x256, .f32⟩
  | .hbm, ⟨29, _⟩ => ⟨S8x4x2048x256, .f32⟩
  | .hbm, ⟨30, _⟩ => ⟨S8x4x256x2048, .f32⟩
  | .hbm, ⟨31, _⟩ => ⟨S8x2048x4x256, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proof.Loop.lean ====
/- The counted loop of the attention body over the key blocks before the queries' own: one trip as a function of the
   carried values and of the two scratch buffers' contents, the state after `k` trips by recursion, and the invariant
   with which a run of the body passes the loop. -/
module

public import proofs.«01_k».proof.Proof.Gen.KernelIdeal.Frame
public import proofs.«01_k».proof.Proof.Gen.KernelIdeal.Loops
public import Idealize.ShloMosaic.Lib.Tactic
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop carries: per head a running maximum and a running sum. -/
abbrev Carry (F : FTy → Type) : Type := FVec F S1x512 .f32 × FVec F S144x512 .f32 × FVec F S1x512 .f32 × FVec F S144x512 .f32

/-- The slot of the scores' buffer, or of the weights' buffer, at given offsets. -/
abbrev slotR (off : Fin 4 → ℕ) (h : ∀ a, off a + S1x1x256x512.size a ≤ S2x2x256x512.size a) : Rect S2x2x256x512 :=
  Rect.unit (s := S2x2x256x512) off S1x1x256x512.size h

section Trip

variable (i : grid0.Coords) (arg6 : Memref sig .tc .vmem S1x2048x256 .bf16) (arg7 : Memref sig .tc .vmem S1x2x8x144x256 .bf16)
  (arg9 : Memref sig .tc .vmem S2x2x256x512 .f32) (arg10 : Memref sig .tc .vmem S2x2x256x512 .bf16)
  (v14 v29 : FVec F S512x128 .bf16)
  (X6 : BufTy.Contents (Elt F) arg6.view.ty) (X7 : BufTy.Contents (Elt F) arg7.view.ty)

/-- The scores of trip `k`, as the trip finds them, per head. -/
def sIn0 (k : Fin (k0_t1_loop i).trips) (f9 : BufTy.Contents (Elt F) arg9.view.ty) : Vec F S1x1x256x512 .f32 :=
  arg9.view.readAt (Elt F) (slotR (k0_off1 i k) (Gen.k0_off1_inb i k)).toLoadRect f9
def sIn1 (k : Fin (k0_t1_loop i).trips) (f9 : BufTy.Contents (Elt F) arg9.view.ty) : Vec F S1x1x256x512 .f32 :=
  arg9.view.readAt (Elt F) (slotR (k0_off3 i k) (Gen.k0_off3_inb i k)).toLoadRect f9
/-- The weights of the trip before, per head. -/
def pIn0 (k : Fin (k0_t1_loop i).trips) (f10 : BufTy.Contents (Elt F) arg10.view.ty) : Vec F S1x1x256x512 .bf16 :=
  arg10.view.readAt (Elt F) (slotR (k0_off2 i k) (Gen.k0_off2_inb i k)).toLoadRect f10
def pIn1 (k : Fin (k0_t1_loop i).trips) (f10 : BufTy.Contents (Elt F) arg10.view.ty) : Vec F S1x1x256x512 .bf16 :=
  arg10.view.readAt (Elt F) (slotR (k0_off4 i k) (Gen.k0_off4_inb i k)).toLoadRect f10
/-- The block of values the trip multiplies, per head. -/
def vIn0 (k : Fin (k0_t1_loop i).trips) : Vec F S1x1x1x144x256 .bf16 :=
  arg7.view.readAt (Elt F) (Rect.unit (s := S1x2x8x144x256) (k0_off5 i k) S1x1x1x144x256.size (Gen.k0_off5_inb i k)).toLoadRect X7
def vIn1 (k : Fin (k0_t1_loop i).trips) : Vec F S1x1x1x144x256 .bf16 :=
  arg7.view.readAt (Elt F) (Rect.unit (s := S1x2x8x144x256) (k0_off6 i k) S1x1x1x144x256.size (Gen.k0_off6_inb i k)).toLoadRect X7
/-- The block of keys whose scores the trip computes, per head. -/
def kIn0 (k : Fin (k0_t1_loop i).trips) : Vec F S1x256x128 .bf16 :=
  arg6.view.readAt (Elt F) (Rect.unit (s := S1x2048x256) (k0_off7 i k) S1x256x128.size (Gen.k0_off7_inb i k)).toLoadRect X6
def kIn1 (k : Fin (k0_t1_loop i).trips) : Vec F S1x256x128 .bf16 :=
  arg6.view.readAt (Elt F) (Rect.unit (s := S1x2048x256) (k0_off8 i k) S1x256x128.size (Gen.k0_off8_inb i k)).toLoadRect X6

/-- What a trip carries on. -/
def tripC (k : Fin (k0_t1_loop i).trips) (acc : Carry F) (f9 : BufTy.Contents (Elt F) arg9.view.ty)
    (f10 : BufTy.Contents (Elt F) arg10.view.ty) : Carry F :=
  (k0_pay7 acc.1 (k0_pay2 (sIn0 i arg9 k f9)),
    k0_pay37 acc.2.1 (k0_pay4 (pIn0 i arg10 k f10) (vIn0 i arg7 X7 k)) (k0_pay8 acc.1 (k0_pay2 (sIn0 i arg9 k f9))),
    k0_pay9 acc.2.2.1 (k0_pay3 (sIn1 i arg9 k f9)),
    k0_pay38 acc.2.2.2 (k0_pay5 (pIn1 i arg10 k f10) (vIn1 i arg7 X7 k)) (k0_pay10 acc.2.2.1 (k0_pay3 (sIn1 i arg9 k f9))))

/-- What a trip writes into the scores' buffer, last first. -/
def trip9 (k : Fin (k0_t1_loop i).trips) : List (View.Piece (Elt F) S2x2x256x512 .f32) :=
  [⟨slotR (k0_off4 i k) (Gen.k0_off4_inb i k), k0_pay35 (k0_pay6 v29 (kIn1 i arg6 X6 k))⟩,
    ⟨slotR (k0_off2 i k) (Gen.k0_off2_inb i k), k0_pay12 v14 (kIn0 i arg6 X6 k)⟩]

/-- What a trip writes into the weights' buffer, last first. -/
def trip10 (k : Fin (k0_t1_loop i).trips) (acc : Carry F) (f9 : BufTy.Contents (Elt F) arg9.view.ty) :
    List (View.Piece (Elt F) S2x2x256x512 .bf16) :=
  [⟨slotR (k0_off3 i k) (Gen.k0_off3_inb i k), k0_pay36 (k0_pay11 acc.2.2.1 (k0_pay3 (sIn1 i arg9 k f9)))⟩,
    ⟨slotR (k0_off1 i k) (Gen.k0_off1_inb i k), k0_pay13 acc.1 (k0_pay2 (sIn0 i arg9 k f9))⟩]

/-- A state of the loop: the carried values and the pieces written so far into the two buffers, last first. -/
abbrev St (F : FTy → Type) : Type :=
  Carry F × List (View.Piece (Elt F) S2x2x256x512 .f32) × List (View.Piece (Elt F) S2x2x256x512 .bf16)

/-- The state after a trip from the state before it. -/
def gstep (G9 : BufTy.Contents (Elt F) arg9.view.ty) (G10 : BufTy.Contents (Elt F) arg10.view.ty)
    (k : Fin (k0_t1_loop i).trips) (s : St F) : St F :=
  (tripC i arg7 arg9 arg10 X7 k s.1 (arg9.view.writes (Elt F) G9 s.2.1) (arg10.view.writes (Elt F) G10 s.2.2),
    trip9 i arg6 v14 v29 X6 k ++ s.2.1,
    trip10 i arg9 k s.1 (arg9.view.writes (Elt F) G9 s.2.1) ++ s.2.2)

/-- The state before trip `k`. -/
def gst (init : Carry F) (G9 : BufTy.Contents (Elt F) arg9.view.ty) (G10 : BufTy.Contents (Elt F) arg10.view.ty) : ℕ → St F
  | 0 => (init, [], [])
  | k + 1 =>
    if h : k < (k0_t1_loop i).trips then gstep i arg6 arg7 arg9 arg10 v14 v29 X6 X7 G9 G10 ⟨k, h⟩ (gst init G9 G10 k)
    else gst init G9 G10 k

theorem gst_succ (init : Carry F) (G9 : BufTy.Contents (Elt F) arg9.view.ty) (G10 : BufTy.Contents (Elt F) arg10.view.ty)
    (k : Fin (k0_t1_loop i).trips) :
    gst i arg6 arg7 arg9 arg10 v14 v29 X6 X7 init G9 G10 (k.val + 1)
      = gstep i arg6 arg7 arg9 arg10 v14 v29 X6 X7 G9 G10 k (gst i arg6 arg7 arg9 arg10 v14 v29 X6 X7 init G9 G10 k.val) := by
  rw [gst.eq_2]; exact dif_pos k.isLt

end Trip

/-- What a trip reads and writes: the keys, the values, and the two scratch buffers at given contents. -/
abbrev tripRes (c : Dev nD) (arg6 : Memref sig .tc .vmem S1x2048x256 .bf16) (arg7 : Memref sig .tc .vmem S1x2x8x144x256 .bf16)
    (arg9 : Memref sig .tc .vmem S2x2x256x512 .f32) (arg10 : Memref sig .tc .vmem S2x2x256x512 .bf16)
    (X6 : BufTy.Contents (Elt F) arg6.view.ty) (X7 : BufTy.Contents (Elt F) arg7.view.ty)
    (f9 : BufTy.Contents (Elt F) arg9.view.ty) (f10 : BufTy.Contents (Elt F) arg10.view.ty) : sProp 𝕄 :=
  iprop((arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f9) ∗ (arg10.view.loc (c : Thread nD τ) ↦[arg10.view.set]{fullShare} f10))

/-- One trip, run. -/
theorem trip_run (𝒱 : Variants) (c : Dev nD) (bd : Option 𝒱.V) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1x256x256 .bf16) (harg5 : arg5.IsWhole) (arg6 : Memref sig .tc .vmem S1x2048x256 .bf16) (harg6 : arg6.IsWhole) (arg7 : Memref sig .tc .vmem S1x2x8x144x256 .bf16) (harg7 : arg7.IsWhole) (arg8 : Memref sig .tc .vmem S1x256x256 .bf16) (harg8 : arg8.IsWhole) (arg9 : Memref sig .tc .vmem S2x2x256x512 .f32) (harg9 : arg9.IsWhole) (arg10 : Memref sig .tc .vmem S2x2x256x512 .bf16) (harg10 : arg10.IsWhole)
    (v14 v29 : FVec F S512x128 .bf16) (v54 : FVec F S1x512 .f32) (v55 : FVec F S144x512 .f32) (v56 c256_i32_36 v57 v62 v64 c0_i32_40 : BitVec 32)
    (X6 : BufTy.Contents (Elt F) arg6.view.ty) (X7 : BufTy.Contents (Elt F) arg7.view.ty) (f9 : BufTy.Contents (Elt F) arg9.view.ty) (f10 : BufTy.Contents (Elt F) arg10.view.ty)
    (k : Fin (k0_t1_loop i).trips) (acc : Carry F) :
    tripRes (F := F) c arg6 arg7 arg9 arg10 X6 X7 f9 f10
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 v14 v29 v54 v55 v56 c256_i32_36 v57 v62 v64 c0_i32_40 k acc)
          (fun yld => iprop(⌜yld = tripC i arg7 arg9 arg10 X7 k acc f9 f10⌝ ∗ tripRes (F := F) c arg6 arg7 arg9 arg10 X6 X7
            (arg9.view.writes (Elt F) f9 (trip9 i arg6 v14 v29 X6 k)) (arg10.view.writes (Elt F) f10 (trip10 i arg9 k acc f9)))) := by
  unfold k0_t1_body
  iintro ⟨HR_arg6, HR_arg7, HW_arg9, HW_arg10⟩
  sl_exec
  sl_step
  isplitr
  · ipureintro; rfl
  isplitl [HR_arg6]; · iexact HR_arg6
  isplitl [HR_arg7]; · iexact HR_arg7
  isplitl [HW_arg9]; · iexact HW_arg9
  iexact HW_arg10

/-- The invariant before trip `k`. -/
abbrev inv1 (c : Dev nD) (i : grid0.Coords) (arg6 : Memref sig .tc .vmem S1x2048x256 .bf16) (arg7 : Memref sig .tc .vmem S1x2x8x144x256 .bf16)
    (arg9 : Memref sig .tc .vmem S2x2x256x512 .f32) (arg10 : Memref sig .tc .vmem S2x2x256x512 .bf16)
    (v14 v29 : FVec F S512x128 .bf16) (X6 : BufTy.Contents (Elt F) arg6.view.ty) (X7 : BufTy.Contents (Elt F) arg7.view.ty)
    (G9 : BufTy.Contents (Elt F) arg9.view.ty) (G10 : BufTy.Contents (Elt F) arg10.view.ty) (init : Carry F) (k : ℕ) (acc : Carry F) : sProp 𝕄 :=
  iprop((arg6.view.loc (c : Thread nD τ) ↦[arg6.view.set]{fullShare} X6) ∗ (arg7.view.loc (c : Thread nD τ) ↦[arg7.view.set]{fullShare} X7)
    ∗ (∃ f, (arg9.view.loc (c : Thread nD τ) ↦[arg9.view.set]{fullShare} f) ∗ ⌜f = arg9.view.writes (Elt F) G9 (gst i arg6 arg7 arg9 arg10 v14 v29 X6 X7 init G9 G10 k).2.1⌝)
    ∗ (∃ f, (arg10.view.loc (c : Thread nD τ) ↦[arg10.view.set]{fullShare} f) ∗ ⌜f = arg10.view.writes (Elt F) G10 (gst i arg6 arg7 arg9 arg10 v14 v29 X6 X7 init G9 G10 k).2.2⌝)
    ∗ ⌜acc = (gst i arg6 arg7 arg9 arg10 v14 v29 X6 X7 init G9 G10 k).1⌝)

set_option warn.classDefReducibility false in
/-- The loop by its invariant. -/
@[sl_loop] def loopInv1 (𝒱 : Variants) (c : Dev nD) (bd : Option 𝒱.V) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1x256x256 .bf16) (harg5 : arg5.IsWhole) (arg6 : Memref sig .tc .vmem S1x2048x256 .bf16) (harg6 : arg6.IsWhole) (arg7 : Memref sig .tc .vmem S1x2x8x144x256 .bf16) (harg7 : arg7.IsWhole) (arg8 : Memref sig .tc .vmem S1x256x256 .bf16) (harg8 : arg8.IsWhole) (arg9 : Memref sig .tc .vmem S2x2x256x512 .f32) (harg9 : arg9.IsWhole) (arg10 : Memref sig .tc .vmem S2x2x256x512 .bf16) (harg10 : arg10.IsWhole)
    (v14 v29 : FVec F S512x128 .bf16) (X6 : BufTy.Contents (Elt F) arg6.view.ty) (X7 : BufTy.Contents (Elt F) arg7.view.ty)
    (G9 : BufTy.Contents (Elt F) arg9.view.ty) (G10 : BufTy.Contents (Elt F) arg10.view.ty) (init : Carry F) :
    LoopInvTy_k0_t1 (F := F) Unit ℕ (UR sig nD τ) ℕ 𝒱 c bd E i arg3 harg3 arg4 harg4 arg5 harg5 arg6 harg6 arg7 harg7 arg8 harg8 arg9 harg9 arg10 harg10 v14 v29 k0_pay33 k0_pay34 0#32 0#32 0#32 0#32 0#32 0#32 init where
  inv := inv1 (F := F) c i arg6 arg7 arg9 arg10 v14 v29 X6 X7 G9 G10 init
  step k acc := by
    iintro ⟨HR_arg6, HR_arg7, ⟨%f_arg9, HW_arg9, %h_arg9⟩, ⟨%f_arg10, HW_arg10, %h_arg10⟩, %h_acc⟩
    subst h_acc
    iapply (wp_wand_r Idealize.ShloMosaic.frame (wpE (defs₀ (F := F)) 𝒱 (c : Thread nD τ) bd) E)
    isplitl [HR_arg6 HR_arg7 HW_arg9 HW_arg10]
    · iapply (trip_run (F := F) 𝒱 c bd E i arg3 harg3 arg4 harg4 arg5 harg5 arg6 harg6 arg7 harg7 arg8 harg8 arg9 harg9 arg10 harg10 v14 v29 k0_pay33 k0_pay34 0#32 0#32 0#32 0#32 0#32 0#32 X6 X7 f_arg9 f_arg10 k _)
      isplitl [HR_arg6]; · iexact HR_arg6
      isplitl [HR_arg7]; · iexact HR_arg7
      isplitl [HW_arg9]; · iexact HW_arg9
      iexact HW_arg10
    · iintro %yld ⟨%h_res, HR_arg6, HR_arg7, HW_arg9, HW_arg10⟩
      isplitl [HR_arg6]; · iexact HR_arg6
      isplitl [HR_arg7]; · iexact HR_arg7
      simp only [gst_succ, gstep]
      isplitl [HW_arg9]
      · iexists _; isplitl [HW_arg9]; · iexact HW_arg9
        ipureintro; rw [h_arg9, ← View.writes_append]
      isplitl [HW_arg10]
      · iexists _; isplitl [HW_arg10]; · iexact HW_arg10
        ipureintro; rw [h_arg9, h_arg10, ← View.writes_append]
      ipureintro; rw [h_res, h_arg9, h_arg10]

end Cert.KernelIdeal.Hand

end
-- ==== Proof.Off.lean ====
/- The offsets of the attention body's accesses and the integers its masks are computed from, as arithmetic in the
   query block's number and the trip's number. -/
module

public import proofs.«01_k».proof.Proof.Loop

@[expose] public section

set_option maxRecDepth 16384

noncomputable section

namespace Cert.KernelIdeal.Hand

open Cert.KernelIdeal Cert.KernelIdeal.Gen
open Idealize.ShloMosaic

/-- The number of the query block. -/
abbrev nq (i : grid0.Coords) : ℕ := (i 2).val

theorem nq_lt (i : grid0.Coords) : nq i < 8 := (i 2).isLt

theorem trips_eq (i : grid0.Coords) : (k0_t1_loop i).trips = nq i := by
  unfold k0_t1_loop nq
  generalize i 2 = n
  revert n
  decide +kernel

theorem k_lt (i : grid0.Coords) (k : Fin (k0_t1_loop i).trips) : k.val < nq i := k.isLt.trans_eq (trips_eq i)

private theorem and_one : ∀ j : Fin 8, (Scalar.indexCast (Scalar.andi (Scf.iv 0#32 1#32 j.val) 1#32)).toNat = j.val % 2 := by
  decide +kernel
private theorem sub_and_one : ∀ j : Fin 8,
    (Scalar.indexCast (Scalar.subi 1#32 (Scalar.andi (Scf.iv 0#32 1#32 j.val) 1#32))).toNat = (j.val + 1) % 2 := by
  decide +kernel
private theorem pred : ∀ j : Fin 8,
    (Scalar.indexCast (Scalar.maxsi (Scalar.subi (Scf.iv 0#32 1#32 j.val) 1#32) 0#32)).toNat = j.val - 1 := by
  decide +kernel

theorem off1_eq (i : grid0.Coords) (k : Fin (k0_t1_loop i).trips) : k0_off1 i k = ![0, k.val % 2, 0, 0] := by
  have h := and_one ⟨k.val, (k_lt i k).trans (nq_lt i)⟩
  exact congrArg (fun x : ℕ => (![0, x, 0, 0] : Fin 4 → ℕ)) h
theorem off2_eq (i : grid0.Coords) (k : Fin (k0_t1_loop i).trips) : k0_off2 i k = ![0, (k.val + 1) % 2, 0, 0] := by
  have h := sub_and_one ⟨k.val, (k_lt i k).trans (nq_lt i)⟩
  exact congrArg (fun x : ℕ => (![0, x, 0, 0] : Fin 4 → ℕ)) h
theorem off3_eq (i : grid0.Coords) (k : Fin (k0_t1_loop i).trips) : k0_off3 i k = ![1, k.val % 2, 0, 0] := by
  have h := and_one ⟨k.val, (k_lt i k).trans (nq_lt i)⟩
  exact congrArg (fun x : ℕ => (![1, x, 0, 0] : Fin 4 → ℕ)) h
theorem off4_eq (i : grid0.Coords) (k : Fin (k0_t1_loop i).trips) : k0_off4 i k = ![1, (k.val + 1) % 2, 0, 0] := by
  have h := sub_and_one ⟨k.val, (k_lt i k).trans (nq_lt i)⟩
  exact congrArg (fun x : ℕ => (![1, x, 0, 0] : Fin 4 → ℕ)) h
theorem off5_eq (i : grid0.Coords) (k : Fin (k0_t1_loop i).trips) : k0_off5 i k = ![0, 0, k.val - 1, 0, 0] := by
  have h := pred ⟨k.val, (k_lt i k).trans (nq_lt i)⟩
  exact congrArg (fun x : ℕ => (![0, 0, x, 0, 0] : Fin 5 → ℕ)) h
theorem off6_eq (i : grid0.Coords) (k : Fin (k0_t1_loop i).trips) : k0_off6 i k = ![0, 1, k.val - 1, 0, 0] := by
  have h := pred ⟨k.val, (k_lt i k).trans (nq_lt i)⟩
  exact congrArg (fun x : ℕ => (![0, 1, x, 0, 0] : Fin 5 → ℕ)) h

theorem off17_eq (i : grid0.Coords) : k0_off17 i = ![0, (nq i + 1) % 2, 0, 0] := by
  unfold k0_off17 nq; generalize i 2 = n; revert n; decide +kernel
theorem off18_eq (i : grid0.Coords) : k0_off18 i = ![0, 0, nq i - 1, 0, 0] := by
  unfold k0_off18 nq; generalize i 2 = n; revert n; decide +kernel
theorem off19_eq (i : grid0.Coords) : k0_off19 i = ![0, nq i % 2, 0, 0] := by
  unfold k0_off19 nq; generalize i 2 = n; revert n; decide +kernel
theorem off20_eq (i : grid0.Coords) : k0_off20 i = ![0, 0, nq i, 0, 0] := by
  unfold k0_off20 nq; generalize i 2 = n; revert n; decide +kernel
theorem off21_eq (i : grid0.Coords) : k0_off21 i = ![1, (nq i + 1) % 2, 0, 0] := by
  unfold k0_off21 nq; generalize i 2 = n; revert n; decide +kernel
theorem off22_eq (i : grid0.Coords) : k0_off22 i = ![0, 1, nq i - 1, 0, 0] := by
  unfold k0_off22 nq; generalize i 2 = n; revert n; decide +kernel
theorem off23_eq (i : grid0.Coords) : k0_off23 i = ![1, nq i % 2, 0, 0] := by
  unfold k0_off23 nq; generalize i 2 = n; revert n; decide +kernel
theorem off24_eq (i : grid0.Coords) : k0_off24 i = ![0, 1, nq i, 0, 0] := by
  unfold k0_off24 nq; generalize i 2 = n; revert n; decide +kernel

end Cert.KernelIdeal.Hand

end
-- ==== Proof.Head.lean ====
/- One head of the attention body as pure functions of the blocks it reads: the recursion of the running maximum, the
   running sum and the weights over the key blocks, the output of the last block, and the proof that the loop's two
   buffers hold what the recursion says. -/
module

public import proofs.«01_k».proof.Proof.Off
public import Idealize.ShloMosaic.Lib.VecWindow

@[expose] public section

set_option maxRecDepth 16384

noncomputable section

namespace Cert.KernelIdeal.Hand

open Cert.KernelIdeal Cert.KernelIdeal.Gen
open Idealize.ShloMosaic

variable {F : FTy → Type} [FloatOps F] [Named F]

/-- Block `j` of the keys, the columns of head `h` of the pair. -/
def kblk (K : Vec F S1x2048x256 .bf16) (h : Fin 2) (j : ℕ) : Vec F S1x256x128 .bf16 :=
  VecWindow.window (s := S1x2048x256) K ![0, 256 * (j % 8), 128 * h.val] S1x256x128.size (by
    have h1 : j % 8 < 8 := Nat.mod_lt _ (by decide)
    have h2 := h.isLt
    intro a; fin_cases a
    · exact Nat.le_refl _
    · show 256 * (j % 8) + 256 ≤ 2048; omega
    · show 128 * h.val + 128 ≤ 256; omega)

/-- Block `j` of the values of head `h` of the pair. -/
def vblk (V : Vec F S1x2x8x144x256 .bf16) (h : Fin 2) (j : ℕ) : Vec F S1x1x1x144x256 .bf16 :=
  VecWindow.window (s := S1x2x8x144x256) V ![0, h.val, j % 8, 0, 0] S1x1x1x144x256.size (by
    have h1 : j % 8 < 8 := Nat.mod_lt _ (by decide)
    have h2 := h.isLt
    intro a; fin_cases a
    · exact Nat.le_refl _
    · show h.val + 1 ≤ 2; omega
    · show j % 8 + 1 ≤ 8; omega
    · exact Nat.le_refl _
    · show 0 + 256 ≤ 256; omega)

/-- The queries of head `h` of the pair. -/
def qblk (Q : Vec F S1x256x256 .bf16) (h : Fin 2) : Vec F S1x256x128 .bf16 :=
  VecWindow.window (s := S1x256x256) Q ![0, 0, 128 * h.val] S1x256x128.size (by
    have h2 := h.isLt
    intro a; fin_cases a
    · exact Nat.le_refl _
    · exact Nat.le_refl _
    · show 128 * h.val + 128 ≤ 256; omega)

section Rec

variable (v : FVec F S512x128 .bf16) (kb : ℕ → Vec F S1x256x128 .bf16) (vb : ℕ → Vec F S1x1x1x144x256 .bf16)

/-- The scores of key block `k`. -/
def sc (k : ℕ) : FVec F S1x1x256x512 .f32 := k0_pay12 v (kb k)

/-- The running maximum, the running sum and the weights before key block `k`. -/
def hst : ℕ → FVec F S1x512 .f32 × FVec F S144x512 .f32 × FVec F S1x1x256x512 .bf16
  | 0 => (k0_pay33, k0_pay34, k0_pay30)
  | k + 1 =>
    (k0_pay7 (hst k).1 (k0_pay2 (sc v kb k)),
      k0_pay37 (hst k).2.1 (k0_pay4 (hst k).2.2 (vb (k - 1))) (k0_pay8 (hst k).1 (k0_pay2 (sc v kb k))),
      k0_pay13 (hst k).1 (k0_pay2 (sc v kb k)))

/-- The output of a head from what the loop leaves, with the integers the masks are computed from. -/
def tailOut (a2 w73 w134 w144 : BitVec 32) (lam : FVec F S1x1 .f32) (g : Vec F S128x1 .f32)
    (m : FVec F S1x512 .f32) (a : FVec F S144x512 .f32) (p : FVec F S1x1x256x512 .bf16) (vp : Vec F S1x1x1x144x256 .bf16)
    (s : FVec F S1x1x256x512 .f32) (vc : Vec F S1x1x1x144x256 .bf16) : FVec F S1x256x128 .bf16 :=
  k0_pay52 lam
    (k0_pay50 m a (k0_pay45 (k0_pay44 p) vp) (k0_pay46 s) k0_pay47 w134 (k0_pay48 a2 w73 s) w144 vc)
    (k0_pay51 m a (k0_pay45 (k0_pay44 p) vp) (k0_pay46 s) k0_pay47 w134 (k0_pay48 a2 w73 s) w144 vc) g

/-- The output of a head for query block `n`. -/
def headOut (n : ℕ) (lam : FVec F S1x1 .f32) (g : Vec F S128x1 .f32) : FVec F S1x256x128 .bf16 :=
  tailOut (BitVec.ofNat 32 n) (BitVec.ofNat 32 n) 0#32 1#32 lam g (hst v kb vb n).1 (hst v kb vb n).2.1 (hst v kb vb n).2.2
    (vb (n - 1)) (sc v kb n) (vb n)

end Rec

/-! ## Slots of the two buffers -/

section Slots

variable {Val : EltTy → Type} {κ : Kind} {sp : Space} {e : EltTy}

/-- The slot just written reads its payload. -/
theorem slot_hit (w : View sig κ sp S2x2x256x512 e) (f : w.ty.Contents Val) {off off' : Fin 4 → ℕ}
    (h : ∀ a, off a + S1x1x256x512.size a ≤ S2x2x256x512.size a) (h' : ∀ a, off' a + S1x1x256x512.size a ≤ S2x2x256x512.size a)
    (heq : off = off') (p : (slotR off' h').shape.Idx → Val e) (L : List (View.Piece Val S2x2x256x512 e)) :
    w.readAt Val (slotR off h).toLoadRect (w.writes Val f ((⟨slotR off' h', p⟩ : View.Piece Val S2x2x256x512 e) :: L)) = p := by
  subst heq
  rw [View.readAt_unit w _ h rfl h]
  funext y
  exact View.read_writes_cons_unit_of_mem w f h' p L ((slotR off h).emb y) y rfl (fun a => by
    show off a + 1 * (y a).val = _; omega)

/-- Another slot reads what was there before. -/
theorem slot_miss (w : View sig κ sp S2x2x256x512 e) (f : w.ty.Contents Val) {off off' : Fin 4 → ℕ}
    (h : ∀ a, off a + S1x1x256x512.size a ≤ S2x2x256x512.size a) (h' : ∀ a, off' a + S1x1x256x512.size a ≤ S2x2x256x512.size a)
    (hne : off 0 ≠ off' 0 ∨ off 1 ≠ off' 1) (p : (slotR off' h').shape.Idx → Val e) (L : List (View.Piece Val S2x2x256x512 e)) :
    w.readAt Val (slotR off h).toLoadRect (w.writes Val f ((⟨slotR off' h', p⟩ : View.Piece Val S2x2x256x512 e) :: L))
      = w.readAt Val (slotR off h).toLoadRect (w.writes Val f L) := by
  rw [View.readAt_unit w _ h rfl h, View.readAt_unit w _ h rfl h]
  funext y
  have ey : ∀ a, ((slotR off h).emb y a).val = off a + (y a).val := fun a => by
    show off a + 1 * (y a).val = _; omega
  rcases hne with hne | hne
  · refine View.read_writes_cons_unit_of_not_mem w f h' p L ((slotR off h).emb y) rfl (0 : Fin 4) ?_
    have h0 : (y (0 : Fin 4)).val < 1 := (y (0 : Fin 4)).isLt
    have e0 := ey (0 : Fin 4)
    have hs : S1x1x256x512.size (0 : Fin 4) = 1 := rfl
    omega
  · refine View.read_writes_cons_unit_of_not_mem w f h' p L ((slotR off h).emb y) rfl (1 : Fin 4) ?_
    have h0 : (y (1 : Fin 4)).val < 1 := (y (1 : Fin 4)).isLt
    have e0 := ey (1 : Fin 4)
    have hs : S1x1x256x512.size (1 : Fin 4) = 1 := rfl
    omega

end Slots

/-! ## The loop's state -/

section Loop

variable (i : grid0.Coords) (arg6 : Memref sig .tc .vmem S1x2048x256 .bf16) (arg7 : Memref sig .tc .vmem S1x2x8x144x256 .bf16)
  (arg9 : Memref sig .tc .vmem S2x2x256x512 .f32) (arg10 : Memref sig .tc .vmem S2x2x256x512 .bf16)
  (v14 v29 : FVec F S512x128 .bf16)
  (X6 : BufTy.Contents (Elt F) arg6.view.ty) (X7 : BufTy.Contents (Elt F) arg7.view.ty)
  (G9 : BufTy.Contents (Elt F) arg9.view.ty) (G10 : BufTy.Contents (Elt F) arg10.view.ty)

/-- Head `h`'s state before trip `k`, from the two arrays the body reads. -/
abbrev hs (v : FVec F S512x128 .bf16) (h : Fin 2) (k : ℕ) :=
  hst v (kblk (arg6.view.read (Elt F) X6) h) (vblk (arg7.view.read (Elt F) X7) h) k
abbrev hsc (v : FVec F S512x128 .bf16) (h : Fin 2) (k : ℕ) :=
  sc v (kblk (arg6.view.read (Elt F) X6) h) k

theorem vIn0_eq (k : Fin (k0_t1_loop i).trips) : vIn0 i arg7 X7 k = vblk (arg7.view.read (Elt F) X7) 0 (k.val - 1) :=
  View.readAt_unit arg7.view X7 _ ((off5_eq i k).trans (by
    have := k_lt i k; have := nq_lt i
    rw [show (k.val - 1) % 8 = k.val - 1 by omega]; rfl)) _
theorem vIn1_eq (k : Fin (k0_t1_loop i).trips) : vIn1 i arg7 X7 k = vblk (arg7.view.read (Elt F) X7) 1 (k.val - 1) :=
  View.readAt_unit arg7.view X7 _ ((off6_eq i k).trans (by
    have := k_lt i k; have := nq_lt i
    rw [show (k.val - 1) % 8 = k.val - 1 by omega]; rfl)) _
theorem kIn0_eq (k : Fin (k0_t1_loop i).trips) : kIn0 i arg6 X6 k = kblk (arg6.view.read (Elt F) X6) 0 (k.val + 1) :=
  View.readAt_unit arg6.view X6 _ ((k0_off7_eq i k).trans (by
    have := k_lt i k; have := nq_lt i
    rw [show (k.val + 1) % 8 = k.val + 1 by omega, show 256 * (k.val + 1) = 256 * k.val + 256 by omega]; rfl)) _
theorem kIn1_eq (k : Fin (k0_t1_loop i).trips) : kIn1 i arg6 X6 k = kblk (arg6.view.read (Elt F) X6) 1 (k.val + 1) :=
  View.readAt_unit arg6.view X6 _ ((k0_off8_eq i k).trans (by
    have := k_lt i k; have := nq_lt i
    rw [show (k.val + 1) % 8 = k.val + 1 by omega, show 256 * (k.val + 1) = 256 * k.val + 256 by omega]; rfl)) _

/-- What the loop's state says before trip `k`. -/
structure Inv (k : ℕ) (s : St F) : Prop where
  m0 : s.1.1 = (hs arg6 arg7 X6 X7 v14 0 k).1
  a0 : s.1.2.1 = (hs arg6 arg7 X6 X7 v14 0 k).2.1
  m1 : s.1.2.2.1 = (hs arg6 arg7 X6 X7 v29 1 k).1
  a1 : s.1.2.2.2 = (hs arg6 arg7 X6 X7 v29 1 k).2.1
  s0 : ∀ off (h : ∀ a, off a + S1x1x256x512.size a ≤ S2x2x256x512.size a), off = ![0, k % 2, 0, 0] →
    arg9.view.readAt (Elt F) (slotR off h).toLoadRect (arg9.view.writes (Elt F) G9 s.2.1) = hsc arg6 X6 v14 0 k
  s1 : ∀ off (h : ∀ a, off a + S1x1x256x512.size a ≤ S2x2x256x512.size a), off = ![1, k % 2, 0, 0] →
    arg9.view.readAt (Elt F) (slotR off h).toLoadRect (arg9.view.writes (Elt F) G9 s.2.1) = hsc arg6 X6 v29 1 k
  p0 : ∀ off (h : ∀ a, off a + S1x1x256x512.size a ≤ S2x2x256x512.size a), off = ![0, (k + 1) % 2, 0, 0] →
    arg10.view.readAt (Elt F) (slotR off h).toLoadRect (arg10.view.writes (Elt F) G10 s.2.2) = (hs arg6 arg7 X6 X7 v14 0 k).2.2
  p1 : ∀ off (h : ∀ a, off a + S1x1x256x512.size a ≤ S2x2x256x512.size a), off = ![1, (k + 1) % 2, 0, 0] →
    arg10.view.readAt (Elt F) (slotR off h).toLoadRect (arg10.view.writes (Elt F) G10 s.2.2) = (hs arg6 arg7 X6 X7 v29 1 k).2.2

theorem inv_step (k : Fin (k0_t1_loop i).trips) (s : St F)
    (H : Inv arg6 arg7 arg9 arg10 v14 v29 X6 X7 G9 G10 k.val s) :
    Inv arg6 arg7 arg9 arg10 v14 v29 X6 X7 G9 G10 (k.val + 1) (gstep i arg6 arg7 arg9 arg10 v14 v29 X6 X7 G9 G10 k s) := by
  have es0 := H.s0 _ (Gen.k0_off1_inb i k) (off1_eq i k)
  have es1 := H.s1 _ (Gen.k0_off3_inb i k) (off3_eq i k)
  have ep0 := H.p0 _ (Gen.k0_off2_inb i k) (off2_eq i k)
  have ep1 := H.p1 _ (Gen.k0_off4_inb i k) (off4_eq i k)
  have par : k.val % 2 ≠ (k.val + 1) % 2 := by omega
  have par2 : (k.val + 1 + 1) % 2 = k.val % 2 := by omega
  constructor
  · show k0_pay7 s.1.1 (k0_pay2 (sIn0 i arg9 k _)) = _
    unfold sIn0; rw [es0, H.m0]; rfl
  · show k0_pay37 s.1.2.1 (k0_pay4 (pIn0 i arg10 k _) (vIn0 i arg7 X7 k)) (k0_pay8 s.1.1 (k0_pay2 (sIn0 i arg9 k _))) = _
    unfold sIn0 pIn0; rw [es0, ep0, H.m0, H.a0, vIn0_eq]; rfl
  · show k0_pay9 s.1.2.2.1 (k0_pay3 (sIn1 i arg9 k _)) = _
    unfold sIn1; rw [es1, H.m1]; rfl
  · show k0_pay38 s.1.2.2.2 (k0_pay5 (pIn1 i arg10 k _) (vIn1 i arg7 X7 k)) (k0_pay10 s.1.2.2.1 (k0_pay3 (sIn1 i arg9 k _))) = _
    unfold sIn1 pIn1; rw [es1, ep1, H.m1, H.a1, vIn1_eq]; rfl
  · intro off h e
    show arg9.view.readAt (Elt F) (slotR off h).toLoadRect (arg9.view.writes (Elt F) G9 (_ :: _ :: _)) = _
    rw [slot_miss arg9.view G9 h (Gen.k0_off4_inb i k) (by rw [off4_eq, e]; exact Or.inl (show (0 : ℕ) ≠ 1 by decide)),
      slot_hit arg9.view G9 h (Gen.k0_off2_inb i k) (by rw [off2_eq, e]), kIn0_eq]
    rfl
  · intro off h e
    show arg9.view.readAt (Elt F) (slotR off h).toLoadRect (arg9.view.writes (Elt F) G9 (_ :: _ :: _)) = _
    rw [slot_hit arg9.view G9 h (Gen.k0_off4_inb i k) (by rw [off4_eq, e]), kIn1_eq]
    rfl
  · intro off h e
    show arg10.view.readAt (Elt F) (slotR off h).toLoadRect (arg10.view.writes (Elt F) G10 (_ :: _ :: _)) = _
    rw [slot_miss arg10.view G10 h (Gen.k0_off3_inb i k) (by rw [off3_eq, e]; exact Or.inl (show (0 : ℕ) ≠ 1 by decide)),
      slot_hit arg10.view G10 h (Gen.k0_off1_inb i k) (by rw [off1_eq, e, par2])]
    unfold sIn0; rw [es0, H.m0]; rfl
  · intro off h e
    show arg10.view.readAt (Elt F) (slotR off h).toLoadRect (arg10.view.writes (Elt F) G10 (_ :: _ :: _)) = _
    rw [slot_hit arg10.view G10 h (Gen.k0_off3_inb i k) (by rw [off3_eq, e, par2])]
    unfold sIn1; rw [es1, H.m1]; rfl

theorem inv_all (init : Carry F) (H : Inv arg6 arg7 arg9 arg10 v14 v29 X6 X7 G9 G10 0 (init, [], [])) :
    ∀ k, k ≤ (k0_t1_loop i).trips →
      Inv arg6 arg7 arg9 arg10 v14 v29 X6 X7 G9 G10 k (gst i arg6 arg7 arg9 arg10 v14 v29 X6 X7 init G9 G10 k)
  | 0, _ => H
  | k + 1, hk => by
    rw [gst_succ i arg6 arg7 arg9 arg10 v14 v29 X6 X7 init G9 G10 ⟨k, hk⟩]
    exact inv_step i arg6 arg7 arg9 arg10 v14 v29 X6 X7 G9 G10 ⟨k, hk⟩ _ (inv_all init H k (Nat.le_of_succ_le hk))

end Loop

end Cert.KernelIdeal.Hand

end
-- ==== Proof.Body.lean ====
/- The attention body, run: what it leaves in the output block, as the two heads' outputs. -/
module

public import proofs.«01_k».proof.Proof.Head

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The key block the loop stops at, as the body computes it: a floored quotient. -/
def wBlk (a2 : BitVec 32) : BitVec 32 :=
  Scalar.select
    (Scalar.andi
      (Scalar.cmpi .ne
        (Scalar.subi (Scalar.extui (Scalar.cmpi .sgt (Scalar.muli a2 256#32) 0#32) : BitVec 32)
          (Scalar.extui (Scalar.cmpi .slt (Scalar.muli a2 256#32) 0#32)))
        (Scalar.subi (Scalar.extui (Scalar.cmpi .sgt 256#32 0#32)) (Scalar.extui (Scalar.cmpi .slt 256#32 0#32))))
      (Scalar.cmpi .ne (Scalar.remsi (Scalar.muli a2 256#32) 256#32) 0#32))
    (Scalar.subi (Scalar.divsi (Scalar.muli a2 256#32) 256#32) 1#32)
    (Scalar.divsi (Scalar.muli a2 256#32) 256#32)

/-- The number of chunks by which the queries lead the last key block, as the body computes it. -/
def wLead (a2 w73 : BitVec 32) : BitVec 32 :=
  Scalar.select
    (Scalar.andi
      (Scalar.cmpi .ne
        (Scalar.subi (Scalar.extui (Scalar.cmpi .sgt (Scalar.subi (Scalar.muli a2 256#32) (Scalar.muli w73 256#32)) 0#32) : BitVec 32)
          (Scalar.extui (Scalar.cmpi .slt (Scalar.subi (Scalar.muli a2 256#32) (Scalar.muli w73 256#32)) 0#32)))
        (Scalar.subi (Scalar.extui (Scalar.cmpi .sgt 64#32 0#32)) (Scalar.extui (Scalar.cmpi .slt 64#32 0#32))))
      (Scalar.cmpi .ne (Scalar.remsi (Scalar.subi (Scalar.muli a2 256#32) (Scalar.muli w73 256#32)) 64#32) 0#32))
    (Scalar.subi (Scalar.divsi (Scalar.subi (Scalar.muli a2 256#32) (Scalar.muli w73 256#32)) 64#32) 1#32)
    (Scalar.divsi (Scalar.subi (Scalar.muli a2 256#32) (Scalar.muli w73 256#32)) 64#32)

theorem wBlk_eq : ∀ n : Fin 8, wBlk (BitVec.ofNat 32 n.val) = BitVec.ofNat 32 n.val := by decide +kernel
theorem wLead_eq : ∀ n : Fin 8, wLead (BitVec.ofNat 32 n.val) (BitVec.ofNat 32 n.val) = 0#32 := by decide +kernel

theorem tailOut_words (n : ℕ) (hn : n < 8) (lam : FVec F S1x1 .f32) (g : Vec F S128x1 .f32)
    (m : FVec F S1x512 .f32) (a : FVec F S144x512 .f32) (p : FVec F S1x1x256x512 .bf16) (vp : Vec F S1x1x1x144x256 .bf16)
    (s : FVec F S1x1x256x512 .f32) (vc : Vec F S1x1x1x144x256 .bf16) :
    tailOut (BitVec.ofNat 32 n) (wBlk (BitVec.ofNat 32 n)) (wLead (BitVec.ofNat 32 n) (wBlk (BitVec.ofNat 32 n)))
        (Scalar.subi 1#32 (wLead (BitVec.ofNat 32 n) (wBlk (BitVec.ofNat 32 n)))) lam g m a p vp s vc
      = tailOut (BitVec.ofNat 32 n) (BitVec.ofNat 32 n) 0#32 1#32 lam g m a p vp s vc := by
  rw [wBlk_eq ⟨n, hn⟩, wLead_eq ⟨n, hn⟩]; rfl

/-- Head `h`'s output for query block `n`, from the arrays' blocks the body is given. -/
def outH (n : ℕ) (L : Vec F S4x64 .f32) (g : Vec F S128x1 .f32) (Q : Vec F S1x256x256 .bf16) (K : Vec F S1x2048x256 .bf16)
    (V : Vec F S1x2x8x144x256 .bf16) (h : Fin 2) : FVec F S1x256x128 .bf16 :=
  headOut (k0_pay26 (qblk Q h)) (kblk K h) (vblk V h) n (k0_pay43 L) g

/-- The two stores into the output block. -/
def outPieces (n : ℕ) (L : Vec F S4x64 .f32) (g : Vec F S128x1 .f32) (Q : Vec F S1x256x256 .bf16) (K : Vec F S1x2048x256 .bf16)
    (V : Vec F S1x2x8x144x256 .bf16) : List (View.Piece (Elt F) S1x256x256 .bf16) :=
  [⟨Rect.unit (s := S1x256x256) ![0, 0, 128] S1x256x128.size Gen.inb_S1x256x256_S1x256x128_0_0_128, outH n L g Q K V 1⟩,
    ⟨Rect.unit (s := S1x256x256) ![0, 0, 0] S1x256x128.size Gen.inb_S1x256x256_S1x256x128_0_0_0, outH n L g Q K V 0⟩]

section Tail

variable (i : grid0.Coords) (arg3 : Memref sig .tc .vmem S4x64 .f32) (arg4 : Memref sig .tc .vmem S128x1 .f32)
  (arg5 : Memref sig .tc .vmem S1x256x256 .bf16) (arg6 : Memref sig .tc .vmem S1x2048x256 .bf16) (arg7 : Memref sig .tc .vmem S1x2x8x144x256 .bf16)
  (arg9 : Memref sig .tc .vmem S2x2x256x512 .f32) (arg10 : Memref sig .tc .vmem S2x2x256x512 .bf16)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty)
  (f9 : BufTy.Contents (Elt F) arg9.view.ty) (f10 : BufTy.Contents (Elt F) arg10.view.ty)

abbrev q0 : FVec F S512x128 .bf16 := k0_pay26 (arg5.view.readAt (Elt F) (Rect.unit (s := S1x256x256) ![0, 0, 0] S1x256x128.size Gen.inb_S1x256x256_S1x256x128_0_0_0).toLoadRect X5)
abbrev q1 : FVec F S512x128 .bf16 := k0_pay27 (arg5.view.readAt (Elt F) (Rect.unit (s := S1x256x256) ![0, 0, 128] S1x256x128.size Gen.inb_S1x256x256_S1x256x128_0_0_128).toLoadRect X5)

/-- The pieces written before the loop. -/
abbrev ini9 : List (View.Piece (Elt F) S2x2x256x512 .f32) :=
  [⟨slotR ![1, 0, 0, 0] Gen.inb_S2x2x256x512_S1x1x256x512_1_0_0_0, k0_pay31 (q1 arg5 X5) (arg6.view.readAt (Elt F) (Rect.unit (s := S1x2048x256) ![0, 0, 128] S1x256x128.size Gen.inb_S1x2048x256_S1x256x128_0_0_128).toLoadRect X6)⟩,
    ⟨slotR ![0, 0, 0, 0] Gen.inb_S2x2x256x512_S1x1x256x512_0_0_0_0, k0_pay29 (k0_pay28 (arg5.view.readAt (Elt F) (Rect.unit (s := S1x256x256) ![0, 0, 0] S1x256x128.size Gen.inb_S1x256x256_S1x256x128_0_0_0).toLoadRect X5) (arg6.view.readAt (Elt F) (Rect.unit (s := S1x2048x256) ![0, 0, 0] S1x256x128.size Gen.inb_S1x2048x256_S1x256x128_0_0_0).toLoadRect X6))⟩]
abbrev ini10 : List (View.Piece (Elt F) S2x2x256x512 .bf16) :=
  [⟨slotR ![1, 1, 0, 0] Gen.inb_S2x2x256x512_S1x1x256x512_1_1_0_0, k0_pay32⟩,
    ⟨slotR ![0, 1, 0, 0] Gen.inb_S2x2x256x512_S1x1x256x512_0_1_0_0, k0_pay30⟩]

/-- What the loop leaves. -/
abbrev fin : St F :=
  gst i arg6 arg7 arg9 arg10 (q0 arg5 X5) (q1 arg5 X5) X6 X7 (k0_pay33, k0_pay34, k0_pay33, k0_pay34)
    (arg9.view.writes (Elt F) f9 (ini9 arg5 arg6 X5 X6)) (arg10.view.writes (Elt F) f10 ini10) (k0_t1_loop i).trips

/-- The two heads' outputs as the body computes them. -/
abbrev tail0 : FVec F S1x256x128 .bf16 :=
  tailOut (BitVec.ofNat 32 (nq i)) (wBlk (BitVec.ofNat 32 (nq i))) (wLead (BitVec.ofNat 32 (nq i)) (wBlk (BitVec.ofNat 32 (nq i))))
    (Scalar.subi 1#32 (wLead (BitVec.ofNat 32 (nq i)) (wBlk (BitVec.ofNat 32 (nq i)))))
    (k0_pay43 (arg3.view.readAt (Elt F) (Rect.unit (s := S4x64) ![0, 0] S4x64.size Gen.inb_S4x64_S4x64_0_0).toLoadRect X3))
    (arg4.view.readAt (Elt F) (Rect.unit (s := S128x1) ![0, 0] S128x1.size Gen.inb_S128x1_S128x1_0_0).toLoadRect X4)
    (fin i arg5 arg6 arg7 arg9 arg10 X5 X6 X7 f9 f10).1.1 (fin i arg5 arg6 arg7 arg9 arg10 X5 X6 X7 f9 f10).1.2.1
    (arg10.view.readAt (Elt F) (slotR (k0_off17 i) (Gen.k0_off17_inb i)).toLoadRect (arg10.view.writes (Elt F) f10 ((fin i arg5 arg6 arg7 arg9 arg10 X5 X6 X7 f9 f10).2.2 ++ ini10)))
    (arg7.view.readAt (Elt F) (Rect.unit (s := S1x2x8x144x256) (k0_off18 i) S1x1x1x144x256.size (Gen.k0_off18_inb i)).toLoadRect X7)
    (arg9.view.readAt (Elt F) (slotR (k0_off19 i) (Gen.k0_off19_inb i)).toLoadRect (arg9.view.writes (Elt F) f9 ((fin i arg5 arg6 arg7 arg9 arg10 X5 X6 X7 f9 f10).2.1 ++ ini9 arg5 arg6 X5 X6)))
    (arg7.view.readAt (Elt F) (Rect.unit (s := S1x2x8x144x256) (k0_off20 i) S1x1x1x144x256.size (Gen.k0_off20_inb i)).toLoadRect X7)
abbrev tail1 : FVec F S1x256x128 .bf16 :=
  tailOut (BitVec.ofNat 32 (nq i)) (wBlk (BitVec.ofNat 32 (nq i))) (wLead (BitVec.ofNat 32 (nq i)) (wBlk (BitVec.ofNat 32 (nq i))))
    (Scalar.subi 1#32 (wLead (BitVec.ofNat 32 (nq i)) (wBlk (BitVec.ofNat 32 (nq i)))))
    (k0_pay43 (arg3.view.readAt (Elt F) (Rect.unit (s := S4x64) ![0, 0] S4x64.size Gen.inb_S4x64_S4x64_0_0).toLoadRect X3))
    (arg4.view.readAt (Elt F) (Rect.unit (s := S128x1) ![0, 0] S128x1.size Gen.inb_S128x1_S128x1_0_0).toLoadRect X4)
    (fin i arg5 arg6 arg7 arg9 arg10 X5 X6 X7 f9 f10).1.2.2.1 (fin i arg5 arg6 arg7 arg9 arg10 X5 X6 X7 f9 f10).1.2.2.2
    (arg10.view.readAt (Elt F) (slotR (k0_off21 i) (Gen.k0_off21_inb i)).toLoadRect (arg10.view.writes (Elt F) f10 ((fin i arg5 arg6 arg7 arg9 arg10 X5 X6 X7 f9 f10).2.2 ++ ini10)))
    (arg7.view.readAt (Elt F) (Rect.unit (s := S1x2x8x144x256) (k0_off22 i) S1x1x1x144x256.size (Gen.k0_off22_inb i)).toLoadRect X7)
    (arg9.view.readAt (Elt F) (slotR (k0_off23 i) (Gen.k0_off23_inb i)).toLoadRect (arg9.view.writes (Elt F) f9 ((fin i arg5 arg6 arg7 arg9 arg10 X5 X6 X7 f9 f10).2.1 ++ ini9 arg5 arg6 X5 X6)))
    (arg7.view.readAt (Elt F) (Rect.unit (s := S1x2x8x144x256) (k0_off24 i) S1x1x1x144x256.size (Gen.k0_off24_inb i)).toLoadRect X7)

theorem q0_eq : q0 arg5 X5 = k0_pay26 (qblk (arg5.view.read (Elt F) X5) 0) :=
  congrArg k0_pay26 (View.readAt_unit arg5.view X5 _ rfl _)
theorem q1_eq : q1 arg5 X5 = k0_pay26 (qblk (arg5.view.read (Elt F) X5) 1) :=
  congrArg k0_pay26 (View.readAt_unit arg5.view X5 _ rfl _)

theorem fin_inv : Inv arg6 arg7 arg9 arg10 (q0 arg5 X5) (q1 arg5 X5) X6 X7
    (arg9.view.writes (Elt F) f9 (ini9 arg5 arg6 X5 X6)) (arg10.view.writes (Elt F) f10 ini10) (nq i)
    (fin i arg5 arg6 arg7 arg9 arg10 X5 X6 X7 f9 f10) := by
  have H := inv_all i arg6 arg7 arg9 arg10 (q0 arg5 X5) (q1 arg5 X5) X6 X7
    (arg9.view.writes (Elt F) f9 (ini9 arg5 arg6 X5 X6)) (arg10.view.writes (Elt F) f10 ini10)
    (k0_pay33, k0_pay34, k0_pay33, k0_pay34) ?_ (k0_t1_loop i).trips le_rfl
  · rw [← trips_eq i]; exact H
  have ek0 : arg6.view.readAt (Elt F) (Rect.unit (s := S1x2048x256) ![0, 0, 0] S1x256x128.size Gen.inb_S1x2048x256_S1x256x128_0_0_0).toLoadRect X6 = kblk (arg6.view.read (Elt F) X6) 0 0 :=
    View.readAt_unit arg6.view X6 _ rfl _
  have ek1 : arg6.view.readAt (Elt F) (Rect.unit (s := S1x2048x256) ![0, 0, 128] S1x256x128.size Gen.inb_S1x2048x256_S1x256x128_0_0_128).toLoadRect X6 = kblk (arg6.view.read (Elt F) X6) 1 0 :=
    View.readAt_unit arg6.view X6 _ rfl _
  constructor
  · rfl
  · rfl
  · rfl
  · rfl
  · intro off h e
    refine (congrArg (arg9.view.readAt (Elt F) (slotR off h).toLoadRect) (View.writes_append arg9.view f9 [] (ini9 arg5 arg6 X5 X6)).symm).trans ?_
    rw [List.nil_append]
    rw [slot_miss arg9.view f9 h _ (by rw [e]; exact Or.inl (show (0 : ℕ) ≠ 1 by decide)), slot_hit arg9.view f9 h _ e, ek0]; rfl
  · intro off h e
    refine (congrArg (arg9.view.readAt (Elt F) (slotR off h).toLoadRect) (View.writes_append arg9.view f9 [] (ini9 arg5 arg6 X5 X6)).symm).trans ?_
    rw [List.nil_append]
    rw [slot_hit arg9.view f9 h _ e, ek1]; rfl
  · intro off h e
    refine (congrArg (arg10.view.readAt (Elt F) (slotR off h).toLoadRect) (View.writes_append arg10.view f10 [] (ini10)).symm).trans ?_
    rw [List.nil_append]
    rw [slot_miss arg10.view f10 h _ (by rw [e]; exact Or.inl (show (0 : ℕ) ≠ 1 by decide)), slot_hit arg10.view f10 h _ e]; rfl
  · intro off h e
    refine (congrArg (arg10.view.readAt (Elt F) (slotR off h).toLoadRect) (View.writes_append arg10.view f10 [] (ini10)).symm).trans ?_
    rw [List.nil_append]
    rw [slot_hit arg10.view f10 h _ e]; rfl

theorem tail0_eq : tail0 i arg3 arg4 arg5 arg6 arg7 arg9 arg10 X3 X4 X5 X6 X7 f9 f10
    = outH (nq i) (arg3.view.read (Elt F) X3) (arg4.view.read (Elt F) X4) (arg5.view.read (Elt F) X5) (arg6.view.read (Elt F) X6) (arg7.view.read (Elt F) X7) 0 := by
  have H := fin_inv i arg5 arg6 arg7 arg9 arg10 X5 X6 X7 f9 f10
  have hn := nq_lt i
  unfold tail0
  rw [tailOut_words _ hn, View.writes_append, View.writes_append, H.p0 _ _ (off17_eq i), H.s0 _ _ (off19_eq i), H.m0, H.a0, q0_eq]
  rw [View.readAt_full arg3.view X3, View.readAt_full arg4.view X4]
  rw [show arg7.view.readAt (Elt F) (Rect.unit (s := S1x2x8x144x256) (k0_off18 i) S1x1x1x144x256.size (Gen.k0_off18_inb i)).toLoadRect X7
      = vblk (arg7.view.read (Elt F) X7) 0 (nq i - 1) from View.readAt_unit arg7.view X7 _ ((off18_eq i).trans (by
        rw [show (nq i - 1) % 8 = nq i - 1 by omega]; rfl)) _]
  rw [show arg7.view.readAt (Elt F) (Rect.unit (s := S1x2x8x144x256) (k0_off20 i) S1x1x1x144x256.size (Gen.k0_off20_inb i)).toLoadRect X7
      = vblk (arg7.view.read (Elt F) X7) 0 (nq i) from View.readAt_unit arg7.view X7 _ ((off20_eq i).trans (by
        rw [show nq i % 8 = nq i by omega]; rfl)) _]
  rfl

theorem tail1_eq : tail1 i arg3 arg4 arg5 arg6 arg7 arg9 arg10 X3 X4 X5 X6 X7 f9 f10
    = outH (nq i) (arg3.view.read (Elt F) X3) (arg4.view.read (Elt F) X4) (arg5.view.read (Elt F) X5) (arg6.view.read (Elt F) X6) (arg7.view.read (Elt F) X7) 1 := by
  have H := fin_inv i arg5 arg6 arg7 arg9 arg10 X5 X6 X7 f9 f10
  have hn := nq_lt i
  unfold tail1
  rw [tailOut_words _ hn, View.writes_append, View.writes_append, H.p1 _ _ (off21_eq i), H.s1 _ _ (off23_eq i), H.m1, H.a1, q1_eq]
  rw [View.readAt_full arg3.view X3, View.readAt_full arg4.view X4]
  rw [show arg7.view.readAt (Elt F) (Rect.unit (s := S1x2x8x144x256) (k0_off22 i) S1x1x1x144x256.size (Gen.k0_off22_inb i)).toLoadRect X7
      = vblk (arg7.view.read (Elt F) X7) 1 (nq i - 1) from View.readAt_unit arg7.view X7 _ ((off22_eq i).trans (by
        rw [show (nq i - 1) % 8 = nq i - 1 by omega]; rfl)) _]
  rw [show arg7.view.readAt (Elt F) (Rect.unit (s := S1x2x8x144x256) (k0_off24 i) S1x1x1x144x256.size (Gen.k0_off24_inb i)).toLoadRect X7
      = vblk (arg7.view.read (Elt F) X7) 1 (nq i) from View.readAt_unit arg7.view X7 _ ((off24_eq i).trans (by
        rw [show nq i % 8 = nq i by omega]; rfl)) _]
  rfl

end Tail

theorem body_run (𝒱 : Variants) (c : Dev nD) (bd : Option 𝒱.V) (E : Set ℕ) (i : grid0.Coords) (arg3 : Memref sig .tc .vmem S4x64 .f32) (harg3 : arg3.IsWhole) (arg4 : Memref sig .tc .vmem S128x1 .f32) (harg4 : arg4.IsWhole) (arg5 : Memref sig .tc .vmem S1x256x256 .bf16) (harg5 : arg5.IsWhole) (arg6 : Memref sig .tc .vmem S1x2048x256 .bf16) (harg6 : arg6.IsWhole) (arg7 : Memref sig .tc .vmem S1x2x8x144x256 .bf16) (harg7 : arg7.IsWhole) (arg8 : Memref sig .tc .vmem S1x256x256 .bf16) (harg8 : arg8.IsWhole) (arg9 : Memref sig .tc .vmem S2x2x256x512 .f32) (harg9 : arg9.IsWhole) (arg10 : Memref sig .tc .vmem S2x2x256x512 .bf16) (harg10 : arg10.IsWhole)
   (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (f8 : BufTy.Contents (Elt F) arg8.view.ty) (f9 : BufTy.Contents (Elt F) arg9.view.ty) (f10 : BufTy.Contents (Elt F) arg10.view.ty) :
   iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))
      ⊢ (wp frame (wpE (defs₀ (F := F)) 𝒱 (c : Thread nD τ) bd) E (cc0_diff_attn (F := F) i arg3 harg3 arg4 harg4 arg5 harg5 arg6 harg6 arg7 harg7 arg8 harg8 arg9 harg9 arg10 harg10) fun _ =>
        iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
          ∗ (∃ f, (arg8.view.loc (c : Thread nD τ) ↦[arg8.view.set]{fullShare} f)
              ∗ ⌜f = arg8.view.writes (Elt F) f8 (outPieces (nq i) (arg3.view.read (Elt F) X3) (arg4.view.read (Elt F) X4) (arg5.view.read (Elt F) X5) (arg6.view.read (Elt F) X6) (arg7.view.read (Elt F) X7))⌝)
          ∗ (∃ f, arg9.view.loc (c : Thread nD τ) ↦[arg9.view.set]{fullShare} f) ∗ (∃ f, arg10.view.loc (c : Thread nD τ) ↦[arg10.view.set]{fullShare} f)) : sProp 𝕄) := by
  iintro ⟨H3, H4, H5, H6, H7, H8, H9, H10⟩
  sl_exec
  sl_step
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    unfold outPieces
    rw [← tail0_eq i arg3 arg4 arg5 arg6 arg7 arg9 arg10 X3 X4 X5 X6 X7 f9 f10, ← tail1_eq i arg3 arg4 arg5 arg6 arg7 arg9 arg10 X3 X4 X5 X6 X7 f9 f10]
    rfl
  isplitl [H9]
  · iexists _; iexact H9
  iexists _; iexact H10

end Cert.KernelIdeal.Hand

end
-- ==== Proof.Run.lean ====
/- The launch of the attention: the pipeline's proof data with the output block named, the body's obligation at every
   grid point, and the run of the whole program. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A position in one head's output from its row and its column. -/
def ix128 (r : Fin 256) (d : Fin 128) : S1x256x128.Idx
  | ⟨0, _⟩ => (0 : Fin 1)
  | ⟨1, _⟩ => r
  | ⟨2, _⟩ => d

/-- The output block: the columns of head 0, then those of head 1. -/
def outBlk (n : ℕ) (L : Vec F S4x64 .f32) (g : Vec F S128x1 .f32) (Q : Vec F S1x256x256 .bf16) (K : Vec F S1x2048x256 .bf16)
    (V : Vec F S1x2x8x144x256 .bf16) : Vec F S1x256x256 .bf16 := fun y =>
  if h : (y (2 : Fin 3)).val < 128 then outH n L g Q K V 0 (ix128 (y (1 : Fin 3)) ⟨(y (2 : Fin 3)).val, h⟩)
  else outH n L g Q K V 1 (ix128 (y (1 : Fin 3)) ⟨(y (2 : Fin 3)).val - 128, by
    have h2 : (y (2 : Fin 3)).val < 256 := (y (2 : Fin 3)).isLt
    omega⟩)

theorem read_out (arg8 : Memref sig .tc .vmem S1x256x256 .bf16) (f8 : BufTy.Contents (Elt F) arg8.view.ty) (n : ℕ) (L : Vec F S4x64 .f32) (g : Vec F S128x1 .f32) (Q : Vec F S1x256x256 .bf16) (K : Vec F S1x2048x256 .bf16)
    (V : Vec F S1x2x8x144x256 .bf16) :
    arg8.view.read (Elt F) (arg8.view.writes (Elt F) f8 (outPieces n L g Q K V)) = outBlk n L g Q K V := by
  funext y
  have h0 : (y (0 : Fin 3)).val < 1 := (y (0 : Fin 3)).isLt
  have h2 : (y (2 : Fin 3)).val < 256 := (y (2 : Fin 3)).isLt
  unfold outPieces outBlk
  by_cases h : (y (2 : Fin 3)).val < 128
  · rw [dif_pos h]
    rw [View.read_writes_cons_unit_of_not_mem arg8.view f8 _ _ _ y rfl (2 : Fin 3) (Or.inl h)]
    refine View.read_writes_cons_unit_of_mem arg8.view f8 _ _ _ y (ix128 (y (1 : Fin 3)) ⟨(y (2 : Fin 3)).val, h⟩) rfl ?_
    intro a
    fin_cases a
    · show (y (0 : Fin 3)).val = 0 + 0; omega
    · show (y (1 : Fin 3)).val = 0 + (y (1 : Fin 3)).val; omega
    · show (y (2 : Fin 3)).val = 0 + (y (2 : Fin 3)).val; omega
  · rw [dif_neg h]
    refine View.read_writes_cons_unit_of_mem arg8.view f8 _ _ _ y (ix128 (y (1 : Fin 3)) ⟨(y (2 : Fin 3)).val - 128, by omega⟩) rfl ?_
    intro a
    fin_cases a
    · show (y (0 : Fin 3)).val = 0 + 0; omega
    · show (y (1 : Fin 3)).val = 0 + (y (1 : Fin 3)).val; omega
    · show (y (2 : Fin 3)).val = 128 + ((y (2 : Fin 3)).val - 128); omega

variable (m : (ℓ : Loc nD τ sig) → Buf (Elt F) ℓ) (ρ : Dev nD → PrngReg)

/-- The output block of grid point `t`. -/
def outAt (c : Dev nD) (t : Fin cfg0.N) : Vec F S1x256x256 .bf16 :=
  outBlk (nq (grid0.coords t)) (Gen.iblk m c 0 t) (Gen.iblk m c 1 t) (Gen.iblk m c 2 t) (Gen.iblk m c 3 t) (Gen.iblk m c 4 t)

/-- The proof data on core `c`: the arrays as the region finds them, the inputs' buffers left as fetched, the output's
    at the block. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => outAt m c t
  Φ _ := Pipeline.ΦA spec0 c
  q w := Pipeline.shareOf spec0 w
  owed _ := 0

set_option maxHeartbeats 2000000 in
/-- The body's obligation at every grid point. -/
theorem body_obligation (c : Dev nD) : BodyObligation (dats m 0 c) (defs₀ (F := F)) Variants.none () Set.univ := fun t => by
  rw [Gen.bigSep_W0, Gen.bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA; rw [Gen.scopedRest0_eq]
  unfold owns
  iintro ⟨⟨⟨⟨%f9, H9⟩, ⟨%f10, H10⟩⟩, ⟨%g, Hg⟩⟩, Howes,
    ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, -, H5⟩⟩
  rw [Gen.before0_0_of m (dats m 0 c) rfl (fun _ => rfl)] at hf0
  rw [Gen.before0_1_of m (dats m 0 c) rfl (fun _ => rfl)] at hf1
  rw [Gen.before0_2_of m (dats m 0 c) rfl (fun _ => rfl)] at hf2
  rw [Gen.before0_3_of m (dats m 0 c) rfl (fun _ => rfl)] at hf3
  rw [Gen.before0_4_of m (dats m 0 c) rfl (fun _ => rfl)] at hf4
  iapply (wp_wand_r Idealize.ShloMosaic.frame (wpE (defs₀ (F := F)) Variants.none (c : Thread nD τ) none) Set.univ)
  isplitl [H0 H1 H2 H3 H4 H5 H9 H10]
  · iapply (body_run (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _)
      f0 f1 f2 f3 f4 f5 f9 f10)
    isplitl [H0]; · iexact H0
    isplitl [H1]; · iexact H1
    isplitl [H2]; · iexact H2
    isplitl [H3]; · iexact H3
    isplitl [H4]; · iexact H4
    isplitl [H5]; · iexact H5
    isplitl [H9]; · simp only [Memref.view_whole, View.set_whole]; iexact H9
    simp only [Memref.view_whole, View.set_whole]; iexact H10
  iintro %_u ⟨H0, H1, H2, H3, H4, ⟨%f, H5, %hf⟩, ⟨%g9, H9⟩, ⟨%g10, H10⟩⟩
  isplitl [H9 H10 Hg]
  · isplitr [Hg]
    · isplitl [H9]
      · iexists g9; simp only [Memref.view_whole, View.set_whole]; iexact H9
      · iexists g10; simp only [Memref.view_whole, View.set_whole]; iexact H10
    · iexists g; iexact Hg
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists f; isplitr; swap; (· iexact H5)
  ipureintro
  rw [hf]
  refine (read_out _ _ _ _ _ _ _ _).trans ?_
  show outBlk _ _ _ _ _ _ = outBlk _ _ _ _ _ _
  rw [← hf0, ← hf1, ← hf2, ← hf3, ← hf4]

set_option backward.isDefEq.respectTransparency.types false in
/-- The program's run: every window's array at what the library computes, every other buffer as the region finds it, and
    every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame_shared cfgs (dats m) 0 Gen.launch₀0 defs₀ Variants.none m ρ main
    (fun c => (body_obligation m c).loose) (fun c w _ => rfl) (fun c t => rfl) (Gen.V m) (Gen.hmain m Variants.none)
    (fun c w => rfl) (fun c t => rfl) _ (fun _ h => h)

/-- The frame of the program: the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_main m ρ)

end Cert.KernelIdeal.Hand

end
-- ==== Proof.Frames.lean ====
/- The frames of the kernel, of its idealization and of the reference, and the named constants' values. -/
module

public import proofs.«01_k».proof.Defs
public import proofs.«01_k».proof.Proof.Run
public import proofs.«01_k».proof.Proof.Words.Run
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel over the word formats. -/
theorem frame_words : Cert.quiescent_Kernel (hKernel := Cert.Kernel.Gen.facts) :=
  fun m ρ _ => Cert.Kernel.Hand.frame_main (F := Bits) m ρ

/-- The kernel over the extended reals. -/
theorem frame_ideal : Cert.quiescent_KernelIdeal (hKernelIdeal := Cert.KernelIdeal.Gen.facts) :=
  fun m ρ _ => Cert.KernelIdeal.Hand.frame_main (F := Ideal) m ρ

/-- The reference over the extended reals; it has no counters. -/
theorem frame_ref : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems rfl r.2⟩)
    (Cert.ReferenceIdeal.Value.run (F := Ideal) m ρ)

/-- The two named constants, the scale of the scores and the mask, stand for the values that the idealization reads. -/
theorem preserves : Cert.preserves_Kernel_KernelIdeal :=
  ⟨IdealRules.named_const.statement Cert.KernelIdeal.κ "scale" .f32 0x3E38AA3B#32 ((8⁻¹ * (Real.log 2)⁻¹ : ℝ) : EReal) rfl,
    IdealRules.named_const.statement Cert.KernelIdeal.κ "mask" .f32 0xF149F2CA#32 ⊥ rfl⟩

end Cert.Proof
-- ==== Proof.Entry.lean ====
/- Hand-written: THE ARRAYS THE REGION IS ENTERED WITH, as functions of the arguments. -/
module

public import proofs.«01_k».proof.Proof.Gen.KernelIdeal.Frame
public import Idealize.ShloMosaic.Lib.Pointwise
public import Idealize.ShloMosaic.Lib.Claim
public import Idealize.ShloMosaic.PureOps.Ideal

@[expose] public section

set_option maxRecDepth 16384

noncomputable section

namespace Cert.KernelIdeal.Val

open Cert.KernelIdeal Cert.KernelIdeal.Gen
open Idealize.ShloMosaic Idealize.ShloMosaic.TcCoe Idealize.SL.Sem

/-- The queries and the keys side by side. -/
def qkV (q k : FVec Ideal S8x2048x8x2x64 .f32) : FVec Ideal S8x2048x2048 .bf16 :=
  truncf .bf16 (concatenate S8x2048x2048 2 [⟨S8x2048x1024, shapeCast _ q shapeCasts_S8x2048x8x2x64_S8x2048x1024⟩,
    ⟨S8x2048x1024, shapeCast _ k shapeCasts_S8x2048x8x2x64_S8x2048x1024⟩] concatenates_S8x2048x1024_S8x2048x1024_S8x2048x2048_d2) bitsLt_bf16_f32

/-- The values, transposed by blocks of keys, with rows of ones below. -/
def vtV (v : FVec Ideal S8x2048x8x128 .f32) : FVec Ideal S8x8x8x144x256 .bf16 :=
  truncf .bf16 (concatenate S8x8x8x144x256 3 [⟨S8x8x8x128x256, transpose S8x8x8x128x256 [0, 3, 1, 4, 2]
      (shapeCast S8x8x256x8x128 v shapeCasts_S8x2048x8x128_S8x8x256x8x128) transposes_S8x8x256x8x128_S8x8x8x128x256_0_3_1_4_2⟩,
    ⟨S8x8x8x16x256, broadcastInDim S8x8x8x16x256 ![] bcast_S_S8x8x8x16x256 (constant S_ .f32 0x3F800000#32)⟩]
    concatenates_S8x8x8x128x256_S8x8x8x16x256_S8x8x8x144x256_d3) bitsLt_bf16_f32

/-- Four rows, one below the other. -/
def laC (a b c d : FVec Ideal S1x64 .f32) : FVec Ideal S4x64 .f32 :=
  concatenate S4x64 0 [⟨S1x64, a⟩, ⟨S1x64, b⟩, ⟨S1x64, c⟩, ⟨S1x64, d⟩] concatenates_S1x64_S1x64_S1x64_S1x64_S4x64_d0

/-- The four vectors of the second map's weight as rows. -/
def laV (l3 l4 l5 l6 : FVec Ideal S64 .f32) : FVec Ideal S4x64 .f32 :=
  laC (broadcastInDim S1x64 ![1] bcast_S64_S1x64_1 l3) (broadcastInDim S1x64 ![1] bcast_S64_S1x64_1 l4)
    (broadcastInDim S1x64 ![1] bcast_S64_S1x64_1 l5) (broadcastInDim S1x64 ![1] bcast_S64_S1x64_1 l6)

theorem qkV_q (q k : FVec Ideal S8x2048x8x2x64 .f32) (b : Fin 8) (x : Fin 2048) (h : Fin 8) (i : Fin 2) (e : Fin 64) :
    qkV q k (ix3 b x ⟨128 * h.val + (64 * i.val + e.val), by omega⟩) = q (ix5 b x h i e) := by
  pointwise [qkV]
  exact dif_pos (by omega)

theorem qkV_k (q k : FVec Ideal S8x2048x8x2x64 .f32) (b : Fin 8) (x : Fin 2048) (h : Fin 8) (i : Fin 2) (e : Fin 64) :
    qkV q k (ix3 b x ⟨1024 + (128 * h.val + (64 * i.val + e.val)), by omega⟩) = k (ix5 b x h i e) := by
  pointwise [qkV]

theorem vtV_v (v : FVec Ideal S8x2048x8x128 .f32) (b : Fin 8) (h : Fin 8) (j : Fin 8) (d : Fin 128) (y : Fin 256) :
    vtV v (ix5 b h j ⟨d.val, by omega⟩ y) = v (ix4 b ⟨256 * j.val + y.val, by omega⟩ h d) := by
  pointwise [vtV]
  exact congrArg (fun z => v (ix4 b z h d)) (Fin.ext (by show j.val * 256 + y.val = 256 * j.val + y.val; omega))

theorem vtV_one (v : FVec Ideal S8x2048x8x128 .f32) (b : Fin 8) (h : Fin 8) (j : Fin 8) (r : Fin 16) (y : Fin 256) :
    vtV v (ix5 b h j ⟨128 + r.val, by omega⟩ y) = 1 := by
  pointwise [vtV]

theorem laV_0 (l3 l4 l5 l6 : FVec Ideal S64 .f32) (e : Fin 64) : laV l3 l4 l5 l6 (ix2 0 e) = l3 (ix1 e) := by
  pointwise [laV, laC]
theorem laV_1 (l3 l4 l5 l6 : FVec Ideal S64 .f32) (e : Fin 64) : laV l3 l4 l5 l6 (ix2 1 e) = l4 (ix1 e) := by
  pointwise [laV, laC]
theorem laV_2 (l3 l4 l5 l6 : FVec Ideal S64 .f32) (e : Fin 64) : laV l3 l4 l5 l6 (ix2 2 e) = l5 (ix1 e) := by
  pointwise [laV, laC]
theorem laV_3 (l3 l4 l5 l6 : FVec Ideal S64 .f32) (e : Fin 64) : laV l3 l4 l5 l6 (ix2 3 e) = l6 (ix1 e) := by
  pointwise [laV, laC]

section
variable (m : (ℓ : Loc nD τ sig) → Buf (Elt Ideal) ℓ) (c : Dev nD)

theorem V_qk : Gen.V m c main_v3 = qkV (m ((c : Thread nD τ).loc main_arg0)) (m ((c : Thread nD τ).loc main_arg1)) := by
  entry_read
  rfl

theorem V_vt : Gen.V m c main_v8 = vtV (m ((c : Thread nD τ).loc main_arg2)) := by
  entry_read
  rfl

set_option maxHeartbeats 1600000 in
theorem V_la : Gen.V m c main_v13 = laV (m ((c : Thread nD τ).loc main_arg3)) (m ((c : Thread nD τ).loc main_arg4))
    (m ((c : Thread nD τ).loc main_arg5)) (m ((c : Thread nD τ).loc main_arg6)) := by
  show StableHlo.after hostOps0 (fun b => m (c, b)) (Proc.devRef .tc main_v13) = _
  unfold hostOps0
  simp only [List.flatten_cons, List.flatten_nil, List.append_nil, List.cons_append, List.nil_append, StableHlo.after_cons, StableHlo.after_nil]
  rw [StableHlo.reshape_result_ne]; rotate_left; decide
  rw [StableHlo.nary4_result]
  show laC _ _ _ _ = _
  refine congr (congr (congr (congrArg laC ?_) ?_) ?_) ?_ <;>
  · after_results
    rfl

theorem V_g (d : Fin 128) : (Gen.V m c main_v14 : FVec Ideal S128x1 .f32) (ix2 d 0) = (m ((c : Thread nD τ).loc main_arg7) : FVec Ideal S128 .f32) (ix1 d) := by
  entry_read
  pointwise
end

end Cert.KernelIdeal.Val

end
-- ==== Proof.Online.lean ====
/- Hand-written: THE RUNNING SOFTMAX OF ONE COLUMN, over the reals. A column's state after `k` blocks of keys is a running
   maximum, a row of accumulators that lack the last block's part, and the last block's weights (`ColInv`); a step takes in
   one block (`ColInv.step`); the last block enters with some of its keys at minus infinity (`ColInv.last`). -/
module

public import Idealize.ShloMosaic.PureOps.Ideal
public import Mathlib.Analysis.SpecialFunctions.Pow.Real

@[expose] public section

noncomputable section

namespace Cert.Proof.Online

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum from minus infinity over entries none of which is plus infinity, one of them real, is real. -/
theorem fold_max_real' {ι : Type} (t : Finset ι) (g : ι → EReal) (ht : ∀ y, g y ≠ ⊤) (hb : ∃ y ∈ t, g y ≠ ⊥) :
    ∃ M : ℝ, t.fold max ⊥ g = (M : EReal) := by
  have h1 : t.fold max ⊥ g ≠ ⊤ := by
    have := (Finset.fold_max_lt (s := t) (f := g) (b := ⊥) (c := (⊤ : EReal))).2
      ⟨bot_lt_top, fun y _ => lt_top_iff_ne_top.2 (ht y)⟩
    exact this.ne
  have h2 : t.fold max ⊥ g ≠ ⊥ := by
    obtain ⟨y, hy, hg⟩ := hb
    have := (Finset.le_fold_max (s := t) (f := g) (b := ⊥) (g y)).2 (Or.inr ⟨y, hy, le_rfl⟩)
    intro h
    rw [h] at this
    exact hg (le_bot_iff.1 this)
  exact ⟨_, (EReal.coe_toReal h1 h2).symm⟩

theorem fold_max_real {ι : Type} [Fintype ι] (g : ι → EReal) (ht : ∀ y, g y ≠ ⊤) (hb : ∃ y, g y ≠ ⊥) :
    ∃ M : ℝ, Finset.univ.fold max ⊥ g = (M : EReal) :=
  fold_max_real' _ g ht (by obtain ⟨y, hy⟩ := hb; exact ⟨y, Finset.mem_univ y, hy⟩)

/-- The weight of a key of score `s`. -/
def wt (s : ℝ) : ℝ := (2 : ℝ) ^ s

theorem wt_pos (s : ℝ) : 0 < wt s := Real.rpow_pos_of_pos (by norm_num) s

theorem wt_sub (s M : ℝ) : wt (s - M) = wt s * (wt M)⁻¹ := by
  unfold wt; rw [Real.rpow_sub (by norm_num)]; rfl

theorem exp2_sub (s M : ℝ) : Ideal.exp2 ((s : EReal) - (M : EReal)) = ((wt s * (wt M)⁻¹ : ℝ) : EReal) := by
  rw [← EReal.coe_sub, Ideal.exp2_coe, ← wt_sub]; rfl

theorem exp2_bot_sub (M : ℝ) : Ideal.exp2 ((⊥ : EReal) - (M : EReal)) = 0 := by
  rw [EReal.bot_sub, Ideal.exp2_bot]

variable {R Y : Type} [Fintype Y]

/-- The sum of the first `k` blocks' weighted values of row `r`. -/
def num (s : ℕ → Y → ℝ) (V : ℕ → R → Y → ℝ) (k : ℕ) (r : R) : ℝ :=
  ∑ j ∈ Finset.range k, ∑ y, V j r y * wt (s j y)

/-- A column's state after `k` blocks. -/
def ColInv (s : ℕ → Y → ℝ) (V : ℕ → R → Y → ℝ) (k : ℕ) (m : EReal) (a : R → EReal) (p : Y → EReal) : Prop :=
  (k = 0 ∧ m = ⊥ ∧ (∀ r, a r = 0) ∧ ∀ y, p y = 0) ∨
    ∃ (M : ℝ) (A : R → ℝ) (P : Y → ℝ), m = M ∧ (∀ r, a r = A r) ∧ (∀ y, p y = P y) ∧
      ∀ r, A r + ∑ y, V (k - 1) r y * P y = (wt M)⁻¹ * num s V k r

variable {s : ℕ → Y → ℝ} {V : ℕ → R → Y → ℝ} {k : ℕ} {m : EReal} {a : R → EReal} {p : Y → EReal}

theorem ColInv.zero (s : ℕ → Y → ℝ) (V : ℕ → R → Y → ℝ) : ColInv s V 0 ⊥ (fun _ => 0) (fun _ => 0) :=
  Or.inl ⟨rfl, rfl, fun _ => rfl, fun _ => rfl⟩

theorem ColInv.ne_top (h : ColInv s V k m a p) : m ≠ ⊤ := by
  rcases h with ⟨-, rfl, -⟩ | ⟨M, -, -, rfl, -⟩
  · exact bot_ne_top
  · exact EReal.coe_ne_top M

/-- The accumulators with the last block's part, rescaled to a new maximum. -/
theorem ColInv.rescale (h : ColInv s V k m a p) (M' : ℝ) (r : R) :
    Ideal.exp2 (m - (M' : EReal)) * (a r + ∑ y, (V (k - 1) r y : EReal) * p y) = (((wt M')⁻¹ * num s V k r : ℝ) : EReal) := by
  rcases h with ⟨rfl, rfl, ha, hp⟩ | ⟨M, A, P, rfl, ha, hp, hA⟩
  · rw [exp2_bot_sub, zero_mul]; simp [num]
  · rw [exp2_sub, ha]
    simp only [hp, ← EReal.coe_mul]
    rw [← coe_sum, ← EReal.coe_add, ← EReal.coe_mul, hA]
    congr 1
    have := (wt_pos M).ne'
    field_simp

/-- One block taken in. -/
theorem ColInv.step [Nonempty Y] (h : ColInv s V k m a p) (σ : Y → EReal) (hσ : ∀ y, σ y = s k y) (m' : EReal)
    (hm : m' = max m (Finset.univ.fold max ⊥ σ)) (a' : R → EReal) (p' : Y → EReal)
    (ha : ∀ r, a' r = Ideal.exp2 (m - m') * (a r + ∑ y, (V (k - 1) r y : EReal) * p y))
    (hp : ∀ y, p' y = Ideal.exp2 (σ y - m')) : ColInv s V (k + 1) m' a' p' := by
  obtain ⟨M0, h0⟩ := fold_max_real σ (fun y => by rw [hσ]; exact EReal.coe_ne_top _)
    ⟨Classical.arbitrary Y, by rw [hσ]; exact EReal.coe_ne_bot _⟩
  have h1 : m' ≠ ⊤ := by
    rw [hm, h0]; exact (max_lt (lt_top_iff_ne_top.2 h.ne_top) (EReal.coe_lt_top M0)).ne
  have h2 : m' ≠ ⊥ := by
    rw [hm, h0]; exact ((EReal.bot_lt_coe M0).trans_le (le_max_right _ _)).ne'
  obtain ⟨M', rfl⟩ : ∃ M' : ℝ, m' = M' := ⟨_, (EReal.coe_toReal h1 h2).symm⟩
  refine Or.inr ⟨M', fun r => (wt M')⁻¹ * num s V k r, fun y => wt (s k y) * (wt M')⁻¹, rfl, fun r => ?_, fun y => ?_, fun r => ?_⟩
  · rw [ha, h.rescale]
  · rw [hp, hσ, exp2_sub]
  · rw [Nat.add_sub_cancel]
    unfold num
    rw [Finset.sum_range_succ, mul_add]
    congr 1
    rw [Finset.mul_sum]
    exact Finset.sum_congr rfl fun y _ => by ring

/-- The last block taken in, its keys outside `al` at minus infinity. -/
theorem ColInv.last (h : ColInv s V k m a p) (al : Y → Prop) [DecidablePred al] (hal : ∃ y, al y) (σ : Y → EReal)
    (hσ : ∀ y, σ y = if al y then (s k y : EReal) else ⊥) (m' : EReal)
    (hm : m' = max m (Finset.univ.fold max ⊥ σ)) :
    ∃ M' : ℝ, ∀ r, Ideal.exp2 (m - m') * (a r + ∑ y, (V (k - 1) r y : EReal) * p y) +
        ∑ y, (V k r y : EReal) * Ideal.exp2 (σ y - m') =
      (((wt M')⁻¹ * (num s V k r + ∑ y, if al y then V k r y * wt (s k y) else 0) : ℝ) : EReal) := by
  obtain ⟨M0, h0⟩ := fold_max_real σ
    (fun y => by rw [hσ]; split_ifs; exacts [EReal.coe_ne_top _, bot_ne_top])
    (by obtain ⟨y, hy⟩ := hal; exact ⟨y, by rw [hσ, if_pos hy]; exact EReal.coe_ne_bot _⟩)
  have h1 : m' ≠ ⊤ := by
    rw [hm, h0]; exact (max_lt (lt_top_iff_ne_top.2 h.ne_top) (EReal.coe_lt_top M0)).ne
  have h2 : m' ≠ ⊥ := by
    rw [hm, h0]; exact ((EReal.bot_lt_coe M0).trans_le (le_max_right _ _)).ne'
  obtain ⟨M', rfl⟩ : ∃ M' : ℝ, m' = M' := ⟨_, (EReal.coe_toReal h1 h2).symm⟩
  refine ⟨M', fun r => ?_⟩
  rw [h.rescale, mul_add, EReal.coe_add, Finset.mul_sum, coe_sum]
  congr 1
  refine Finset.sum_congr rfl fun y _ => ?_
  rw [hσ]
  split_ifs
  · rw [exp2_sub, ← EReal.coe_mul]; congr 1; ring
  · rw [exp2_bot_sub, mul_zero, mul_zero, EReal.coe_zero]

/-- The word of minus infinity. -/
theorem bot_word : Ideal.ofBits FTy.f32 4286578688#32 = (⊥ : EReal) := by
  simp [Ideal.ofBits, Ideal.ieee]

/-- The root mean square norm with its gain and its last constant. -/
def rmsE (f : Fin 128 → EReal) (g : EReal) (d : Fin 128) : EReal :=
  f d * Ideal.rsqrt (Ideal.div (∑ e, f e * f e) (Ideal.ofBits FTy.f32 1124073472#32) + Ideal.ofBits FTy.f32 925353388#32) * g *
    Ideal.ofBits FTy.f32 1061997773#32

/-! ## The attention of one query over the reals -/

/-- The values averaged with the weights `exp σ` of the keys in chunks up to the query's. -/
def part (σ v : Fin 2048 → ℝ) (x : ℕ) : ℝ :=
  (∑ y : Fin 2048, if y.val / 64 ≤ x / 64 then v y * Real.exp (σ y) else 0) /
    ∑ y : Fin 2048, if y.val / 64 ≤ x / 64 then Real.exp (σ y) else 0

/-- The two maps' averages taken apart. -/
def attR (σ : Fin 2 → Fin 2048 → ℝ) (v : Fin 2048 → ℝ) (lam : ℝ) (x : ℕ) : ℝ :=
  part (σ 0) v x - lam * part (σ 1) v x

theorem den_pos (σ : Fin 2048 → ℝ) (x : ℕ) : 0 < ∑ y : Fin 2048, if y.val / 64 ≤ x / 64 then Real.exp (σ y) else 0 := by
  refine Finset.sum_pos' (fun y _ => ?_) ⟨⟨0, by decide⟩, Finset.mem_univ _, ?_⟩
  · split_ifs
    · exact (Real.exp_pos _).le
    · exact le_rfl
  · rw [if_pos (by simp)]
    exact Real.exp_pos _

theorem div_real {a b : ℝ} (hb : b ≠ 0) : Ideal.div (a : EReal) (b : EReal) = ((a / b : ℝ) : EReal) := by
  rw [Ideal.div_coe hb, ← EReal.coe_mul]; congr 1; ring

/-- The softmax of a row of scores, from the row's maximum. -/
def smE (S : Fin 2048 → EReal) (K : EReal) (y : Fin 2048) : EReal :=
  Ideal.div (Ideal.exp (S y - max ⊥ K)) (∑ y', Ideal.exp (S y' - max ⊥ K))

theorem smE_real (σ : Fin 2048 → ℝ) (x : ℕ) (S : Fin 2048 → EReal) (hS : ∀ y, S y = if y.val / 64 ≤ x / 64 then (σ y : EReal) else ⊥)
    (K : ℝ) (y : Fin 2048) :
    smE S K y = (((if y.val / 64 ≤ x / 64 then Real.exp (σ y) else 0) /
      ∑ y' : Fin 2048, if y'.val / 64 ≤ x / 64 then Real.exp (σ y') else 0 : ℝ) : EReal) := by
  have e : ∀ y, Ideal.exp (S y - max ⊥ (K : EReal)) =
      (((if y.val / 64 ≤ x / 64 then Real.exp (σ y) else 0) * (Real.exp K)⁻¹ : ℝ) : EReal) := fun y => by
    rw [hS, max_eq_right bot_le]
    split_ifs
    · rw [← EReal.coe_sub, Ideal.exp_coe, Real.exp_sub]; rfl
    · rw [EReal.bot_sub, Ideal.exp_bot, zero_mul, EReal.coe_zero]
  unfold smE
  simp only [e]
  rw [← coe_sum, ← Finset.sum_mul, div_real (mul_pos (den_pos σ x) (inv_pos.2 (Real.exp_pos K))).ne']
  congr 1
  have h1 := (den_pos σ x).ne'
  have h2 := (Real.exp_pos K).ne'
  field_simp

/-- The reference's sum over the keys of a query is the two averages taken apart. -/
theorem sum_sm (σ : Fin 2 → Fin 2048 → ℝ) (v : Fin 2048 → ℝ) (lam : ℝ) (x : ℕ) (S : Fin 2 → Fin 2048 → EReal)
    (hS : ∀ i y, S i y = if y.val / 64 ≤ x / 64 then (σ i y : EReal) else ⊥) (K : Fin 2 → EReal) (hK : ∀ i, ∃ k : ℝ, K i = k) :
    ∑ y : Fin 2048, (v y : EReal) * (smE (S 0) (K 0) y - (lam : EReal) * smE (S 1) (K 1) y) = (attR σ v lam x : EReal) := by
  obtain ⟨k0, h0⟩ := hK 0
  obtain ⟨k1, h1⟩ := hK 1
  rw [h0, h1]
  simp only [smE_real (σ 0) x (S 0) (hS 0) k0, smE_real (σ 1) x (S 1) (hS 1) k1, ← EReal.coe_mul, ← EReal.coe_sub]
  rw [← coe_sum]
  congr 1
  unfold attR part
  rw [Finset.sum_div, Finset.sum_div, Finset.mul_sum, ← Finset.sum_sub_distrib]
  refine Finset.sum_congr rfl fun y _ => ?_
  split_ifs
  · ring
  · simp

end Cert.Proof.Online
-- ==== Proof.Pay.lean ====
module

public import proofs.«01_k».proof.Proof.Head
public import Idealize.ShloMosaic.Lib.Pointwise
public import proofs.«01_k».proof.Proof.Online

@[expose] public section

set_option maxRecDepth 16384

noncomputable section

namespace Cert.KernelIdeal.Val

open Cert.KernelIdeal Cert.KernelIdeal.Gen Cert.KernelIdeal.Hand
open Idealize.ShloMosaic
open Cert.Proof.Online (bot_word rmsE)

theorem slt_word (d : Fin 128) : IntOp.cmpi CmpIPredicate.slt (BitVec.ofNat 32 d.val) 64#32 = if d.val < 64 then 1#1 else 0#1 := by
  revert d; decide +kernel

theorem sge_word (d : Fin 128) : IntOp.cmpi CmpIPredicate.sge (BitVec.ofNat 32 d.val) 64#32 = if d.val < 64 then 0#1 else 1#1 := by
  revert d; decide +kernel

theorem mask_word (c : Fin 512) (j : Fin 4) : IntOp.cmpi CmpIPredicate.sge (IntOp.andi (BitVec.ofNat 32 c.val) 255#32) (BitVec.ofNat 32 (64 * j.val)) =
    if j.val ≤ c.val % 256 / 64 then 1#1 else 0#1 := by
  revert c j; decide +kernel

theorem pay2_apply (v : Vec Ideal S1x1x256x512 .f32) (y : Fin 256) (c : Fin 512) :
    k0_pay2 v (ix2 y c) = v (ix4 0 0 y c) := by
  pointwise [k0_pay2]

theorem pay4_apply (p : Vec Ideal S1x1x256x512 .bf16) (v : Vec Ideal S1x1x1x144x256 .bf16) (r : Fin 144) (c : Fin 512) :
    k0_pay4 p v (ix2 r c) = ∑ y : Fin 256, v (ix5 0 0 0 r y) * p (ix4 0 0 y c) := by
  pointwise [k0_pay4]

theorem pay7_apply (m : FVec Ideal S1x512 .f32) (v : FVec Ideal S256x512 .f32) (c : Fin 512) :
    k0_pay7 m v (ix2 0 c) = max (m (ix2 0 c)) (Finset.fold max (⊥ : EReal) (fun y : Fin 256 => v (ix2 y c)) Finset.univ) := by
  pointwise [k0_pay7]
  rw [show Ideal.ofBits FTy.f32 4286578688#32 = (⊥ : EReal) from bot_word]

theorem pay8_apply (m : FVec Ideal S1x512 .f32) (v : FVec Ideal S256x512 .f32) (c : Fin 512) :
    k0_pay8 m v (ix2 0 c) = Ideal.exp2 (m (ix2 0 c) - k0_pay7 m v (ix2 0 c)) := by
  pointwise [k0_pay8]
  rfl

theorem pay12_apply (q : FVec Ideal S512x128 .bf16) (k : Vec Ideal S1x256x128 .bf16) (y : Fin 256) (c : Fin 512) :
    k0_pay12 q k (ix4 0 0 y c) = ∑ d : Fin 128, k (ix3 0 y d) * q (ix2 c d) := by
  pointwise [k0_pay12]

theorem pay13_apply (m : FVec Ideal S1x512 .f32) (v : FVec Ideal S256x512 .f32) (y : Fin 256) (c : Fin 512) :
    k0_pay13 m v (ix4 0 0 y c) = Ideal.exp2 (v (ix2 y c) - k0_pay7 m v (ix2 0 c)) := by
  pointwise [k0_pay13]
  rfl

theorem pay26_apply (q : Vec Ideal S1x256x128 .bf16) (c : Fin 512) (d : Fin 128) :
    k0_pay26 q (ix2 c d) = if (c.val < 256 ↔ d.val < 64) then q (ix3 0 ⟨c.val % 256, Nat.mod_lt _ (by decide)⟩ d) * ((8⁻¹ * (Real.log 2)⁻¹ : ℝ) : EReal) else 0 := by
  pointwise [k0_pay26]
  have hs : Named.named (F := Ideal) (φ := .f32) κ "scale" 1043900987#32 = ((8⁻¹ * (Real.log 2)⁻¹ : ℝ) : EReal) := rfl
  rw [hs, slt_word, sge_word]
  by_cases hc : c.val < 256
  · have e : (⟨c.val % 256, Nat.mod_lt _ (by decide)⟩ : Fin 256) = ⟨c.val, hc⟩ := Fin.ext (Nat.mod_eq_of_lt hc)
    by_cases hd : d.val < 64 <;> simp [hc, hd, e, Scalar.select]
  · have e : (⟨c.val % 256, Nat.mod_lt _ (by decide)⟩ : Fin 256) = ⟨c.val - 256, by omega⟩ := Fin.ext (by simp only []; omega)
    by_cases hd : d.val < 64 <;> simp [hc, hd, e, Scalar.select]

theorem pay30_apply (y : Fin 256) (c : Fin 512) : (k0_pay30 : FVec Ideal _ _) (ix4 0 0 y c) = 0 := by
  pointwise [k0_pay30]
theorem pay33_apply (c : Fin 512) : (k0_pay33 : FVec Ideal _ _) (ix2 0 c) = ⊥ := by
  pointwise [k0_pay33]
  rfl
theorem pay34_apply (r : Fin 144) (c : Fin 512) : (k0_pay34 : FVec Ideal _ _) (ix2 r c) = 0 := by
  pointwise [k0_pay34]
theorem pay37_apply (a v : FVec Ideal S144x512 .f32) (x : FVec Ideal S1x512 .f32) (r : Fin 144) (c : Fin 512) :
   k0_pay37 a v x (ix2 r c) = x (ix2 0 c) * (a (ix2 r c) + v (ix2 r c)) := by
  pointwise [k0_pay37]
theorem pay43_apply (L : Vec Ideal S4x64 .f32) :
   k0_pay43 L (ix2 0 0) = Ideal.exp (∑ x : Fin 64, L (ix2 0 x) * L (ix2 1 x)) -
        Ideal.exp (∑ x : Fin 64, L (ix2 2 x) * L (ix2 3 x)) +
      Ideal.ofBits FTy.f32 0x3E4CCCCD#32 := by
  pointwise [k0_pay43]

theorem pay45_apply (p : Vec Ideal S1x1x256x512 .bf16) (v : Vec Ideal S1x1x1x144x256 .bf16) (r : Fin 144) (c : Fin 512) :
    k0_pay45 (k0_pay44 p) v (ix2 r c) = ∑ y : Fin 256, v (ix5 0 0 0 r y) * p (ix4 0 0 y c) := by
  pointwise [k0_pay45, k0_pay44]

theorem pay46_apply (s : Vec Ideal S1x1x256x512 .f32) (y : Fin 256) (c : Fin 512) :
    k0_pay46 s (ix2 y c) = s (ix4 0 0 y c) := by
  pointwise [k0_pay46]

theorem pay47_apply (c : Fin 512) : k0_pay47 (ix2 0 c) = IntOp.andi (BitVec.ofNat 32 c.val) 255#32 := by
  pointwise [k0_pay47]

theorem pay48_apply (s : Vec Ideal S1x1x256x512 .f32) (n : BitVec 32) (y : Fin 64) (c : Fin 512) :
    k0_pay48 n n s (ix2 y c) = s (ix4 0 0 ⟨y.val, by omega⟩ c) := by
  pointwise [k0_pay48, pay47_apply]
  rw [show Scalar.subi (Scalar.muli n 256#32) (Scalar.muli n 256#32) = 0#32 from BitVec.sub_self _]
  refine (congrArg (fun b => Scalar.select b _ _) (mask_word c 0)).trans ?_
  simp [Scalar.select, pay46_apply]

/-- The last block's scores, the keys of later chunks than the query's at minus infinity. -/
def sMask (s : Vec Ideal S1x1x256x512 .f32) (c : Fin 512) (y : Fin 256) : EReal :=
  if y.val / 64 ≤ c.val % 256 / 64 then s (ix4 0 0 y c) else ⊥

/-- The four row chunks of the last block read as one column. -/
theorem ladder (s : Vec Ideal S1x1x256x512 .f32) (n : BitVec 32) (c : Fin 512) (x : Fin 256) :
    (if h : x.val < 64 then k0_pay48 n n s (ix2 ⟨x.val, h⟩ c)
      else
        if h : x.val - 64 < 64 then
          Scalar.select (IntOp.cmpi CmpIPredicate.sge (k0_pay47 (ix2 0 c)) (Scalar.muli 1#32 64#32))
            (k0_pay46 s (ix2 ⟨64 + (x.val - 64), by omega⟩ c)) (Named.named (F := Ideal) (φ := .f32) κ "mask" 4048155338#32)
        else
          if h : x.val - 64 - 64 < 64 then
            Scalar.select (IntOp.cmpi CmpIPredicate.sge (k0_pay47 (ix2 0 c)) (Scalar.muli (Scalar.subi 2#32 0#32) 64#32))
              (k0_pay46 s (ix2 ⟨128 + (x.val - 64 - 64), by omega⟩ c)) (Named.named (F := Ideal) (φ := .f32) κ "mask" 4048155338#32)
          else
            Scalar.select (IntOp.cmpi CmpIPredicate.sge (k0_pay47 (ix2 0 c)) (Scalar.muli (Scalar.subi 3#32 0#32) 64#32))
              (k0_pay46 s (ix2 ⟨192 + (x.val - 64 - 64 - 64), by omega⟩ c)) (Named.named (F := Ideal) (φ := .f32) κ "mask" 4048155338#32))
      = sMask s c x := by
  have hm : Named.named (F := Ideal) (φ := .f32) κ "mask" 4048155338#32 = (⊥ : EReal) := rfl
  have h1 := mask_word c 1
  have h2 := mask_word c 2
  have h3 := mask_word c 3
  rw [hm, pay47_apply]
  simp only [pay46_apply, pay48_apply]
  rw [show Scalar.muli 1#32 64#32 = BitVec.ofNat 32 (64 * (1 : Fin 4).val) from rfl,
    show Scalar.muli (Scalar.subi 2#32 0#32) 64#32 = BitVec.ofNat 32 (64 * (2 : Fin 4).val) from rfl,
    show Scalar.muli (Scalar.subi 3#32 0#32) 64#32 = BitVec.ofNat 32 (64 * (3 : Fin 4).val) from rfl, h1, h2, h3]
  have v1 : (1 : Fin 4).val = 1 := rfl
  have v2 : (2 : Fin 4).val = 2 := rfl
  have v3 : (3 : Fin 4).val = 3 := rfl
  rw [v1, v2, v3]
  unfold sMask
  have hx := x.isLt
  split_ifs <;> first
    | (exfalso; omega)
    | (simp only [Scalar.select] <;> first | rfl | (refine congrArg s (congrArg (fun y => ix4 0 0 y c) (Fin.ext ?_)); simp only []; omega))

theorem pay49_apply (m : FVec Ideal S1x512 .f32) (a pv : FVec Ideal S144x512 .f32) (s : Vec Ideal S1x1x256x512 .f32) (n : BitVec 32)
    (v : Vec Ideal S1x1x1x144x256 .bf16) (r : Fin 144) (c : Fin 512) :
    k0_pay49 m a pv (k0_pay46 s) k0_pay47 0#32 (k0_pay48 n n s) 1#32 v (ix2 r c) =
      Ideal.exp2 (m (ix2 0 c) - max (m (ix2 0 c)) (Finset.fold max ⊥ (sMask s c) Finset.univ)) * (a (ix2 r c) + pv (ix2 r c)) +
        ∑ y : Fin 256, v (ix5 0 0 0 r y) *
          Ideal.exp2 (sMask s c y - max (m (ix2 0 c)) (Finset.fold max ⊥ (sMask s c) Finset.univ)) := by
  pointwise [k0_pay49]
  simp only [ladder, bot_word]
  rfl

theorem pay50_apply (m : FVec Ideal S1x512 .f32) (a pv : FVec Ideal S144x512 .f32) (s : FVec Ideal S256x512 .f32) (u : IVec S1x512 32) (w : BitVec 32)
    (z : FVec Ideal S64x512 .f32) (w' : BitVec 32) (v : Vec Ideal S1x1x1x144x256 .bf16) (r : Fin 128) (c : Fin 512) :
    k0_pay50 m a pv s u w z w' v (ix2 r c) = k0_pay49 m a pv s u w z w' v (ix2 ⟨r.val, by omega⟩ c) := by
  pointwise [k0_pay50]

theorem pay51_apply (m : FVec Ideal S1x512 .f32) (a pv : FVec Ideal S144x512 .f32) (s : FVec Ideal S256x512 .f32) (u : IVec S1x512 32) (w : BitVec 32)
    (z : FVec Ideal S64x512 .f32) (w' : BitVec 32) (v : Vec Ideal S1x1x1x144x256 .bf16) (c : Fin 512) :
    k0_pay51 m a pv s u w z w' v (ix2 0 c) = k0_pay49 m a pv s u w z w' v (ix2 128 c) := by
  pointwise [k0_pay51]

/-- One entry of the two maps' quotients taken apart. -/
def diffE (lam : EReal) (o : Fin 128 → Fin 512 → EReal) (den : Fin 512 → EReal) (x : Fin 256) (d : Fin 128) : EReal :=
  Ideal.div (o d ⟨x.val, by omega⟩) (den ⟨x.val, by omega⟩) -
    lam * Ideal.div (o d ⟨256 + x.val, by omega⟩) (den ⟨256 + x.val, by omega⟩)

theorem pay52_apply (lam : FVec Ideal S1x1 .f32) (o : FVec Ideal S128x512 .f32) (den : FVec Ideal S1x512 .f32) (g : Vec Ideal S128x1 .f32) (x : Fin 256) (d : Fin 128) :
    k0_pay52 lam o den g (ix3 0 x d) =
      rmsE (diffE (lam (ix2 0 0)) (fun d c => o (ix2 d c)) (fun c => den (ix2 0 c)) x) (g (ix2 d 0)) d := by
  pointwise [k0_pay52]
  rfl

end Cert.KernelIdeal.Val
-- ==== Proof.HeadVal.lean ====
/- Hand-written: ONE HEAD'S OUTPUT OVER THE REALS. The loop's state at every column is the running softmax of that column
   (`col_inv`), the last block ends it (`last_col`), and the two maps' quotients are the two averages of the values
   (`head_value`). -/
module

public import proofs.«01_k».proof.Proof.Pay

@[expose] public section

set_option maxRecDepth 16384

noncomputable section

namespace Cert.KernelIdeal.Val

open Cert.KernelIdeal Cert.KernelIdeal.Gen Cert.KernelIdeal.Hand
open Idealize.ShloMosaic
open Cert.Proof.Online

/-- A sum over the keys by blocks of 256. -/
theorem sum_keys (f : Fin 2048 → ℝ) : ∑ y, f y = ∑ j : Fin 8, ∑ y : Fin 256, f ⟨256 * j.val + y.val, by omega⟩ := by
  rw [← Fintype.sum_prod_type' (f := fun (j : Fin 8) (y : Fin 256) => f ⟨256 * j.val + y.val, by omega⟩)]
  refine (Fintype.sum_equiv (finProdFinEquiv (m := 8) (n := 256)) _ _ fun p => ?_).symm
  refine congrArg f (Fin.ext ?_)
  show 256 * p.1.val + p.2.val = p.2.val + 256 * p.1.val
  omega

/-- The allowed keys of a query by blocks: all of the earlier blocks, none of the later. -/
theorem sum_blocks (w : ℕ → Fin 256 → ℝ) (n : ℕ) (hn : n < 8) (x : ℕ) (hx : x < 256) :
    ∑ j ∈ Finset.range n, ∑ y, w j y + ∑ y : Fin 256, (if y.val / 64 ≤ x / 64 then w n y else 0) =
      ∑ j : Fin 8, ∑ y : Fin 256, if (256 * j.val + y.val) / 64 ≤ (256 * n + x) / 64 then w j.val y else 0 := by
  rw [Fin.sum_univ_eq_sum_range (fun j => ∑ y : Fin 256, if (256 * j + y.val) / 64 ≤ (256 * n + x) / 64 then w j y else 0) 8]
  rw [← Finset.sum_subset (Finset.range_subset_range.2 (show n + 1 ≤ 8 by omega)), Finset.sum_range_succ]
  · congr 1
    · refine Finset.sum_congr rfl fun j hj => Finset.sum_congr rfl fun y _ => ?_
      have := Finset.mem_range.1 hj
      have := y.isLt
      rw [if_pos (by omega)]
    · refine Finset.sum_congr rfl fun y _ => ?_
      have := y.isLt
      exact if_congr (by omega) rfl rfl
  · intro j _ hj
    have : n < j := by simpa using hj
    refine Finset.sum_eq_zero fun y _ => ?_
    have := y.isLt
    rw [if_neg (by omega)]

/-- A sum over the columns of a head, the first map's half and the second's. -/
theorem sum_halves (f : Fin 128 → ℝ) :
    ∑ d, f d = ∑ e : Fin 64, f ⟨e.val, by omega⟩ + ∑ e : Fin 64, f ⟨64 + e.val, by omega⟩ :=
  Fin.sum_univ_add (a := 64) (b := 64) f

theorem wt_exp (s : ℝ) : wt (s * (Real.log 2)⁻¹) = Real.exp s := by
  have h : Real.log 2 ≠ 0 := (Real.log_pos (by norm_num)).ne'
  unfold wt
  rw [Real.rpow_def_of_pos (by norm_num)]
  congr 1
  field_simp

section

variable (Kr : ℕ → Fin 256 → Fin 128 → ℝ) (Qr : Fin 256 → Fin 128 → ℝ) (Vr : ℕ → Fin 144 → Fin 256 → ℝ)

/-- The score of key `y` of block `k` at a column, to the base 2. -/
def colS (c : Fin 512) (k : ℕ) (y : Fin 256) : ℝ :=
  ∑ d : Fin 128, Kr k y d * (if (c.val < 256 ↔ d.val < 64) then Qr ⟨c.val % 256, Nat.mod_lt _ (by decide)⟩ d * (8⁻¹ * (Real.log 2)⁻¹) else 0)

theorem colS_0 (x : Fin 256) (k : ℕ) (y : Fin 256) :
    colS Kr Qr ⟨x.val, by omega⟩ k y = (∑ e : Fin 64, Qr x ⟨e.val, by omega⟩ * Kr k y ⟨e.val, by omega⟩) * (1 / 8) * (Real.log 2)⁻¹ := by
  have hx := x.isLt
  have e0 : (⟨x.val % 256, Nat.mod_lt _ (by decide)⟩ : Fin 256) = x := Fin.ext (Nat.mod_eq_of_lt hx)
  unfold colS
  rw [sum_halves]
  have z : ∑ e : Fin 64, Kr k y ⟨64 + e.val, by omega⟩ * (if (x.val < 256 ↔ 64 + e.val < 64) then Qr ⟨x.val % 256, Nat.mod_lt _ (by decide)⟩ ⟨64 + e.val, by omega⟩ * (8⁻¹ * (Real.log 2)⁻¹) else 0) = 0 :=
    Finset.sum_eq_zero fun e _ => by rw [if_neg (by omega), mul_zero]
  refine (congrArg₂ (· + ·) rfl z).trans ?_
  rw [add_zero, Finset.sum_mul, Finset.sum_mul]
  refine Finset.sum_congr rfl fun e _ => ?_
  have he := e.isLt
  show Kr k y ⟨e.val, _⟩ * (if (x.val < 256 ↔ e.val < 64) then Qr ⟨x.val % 256, _⟩ ⟨e.val, _⟩ * (8⁻¹ * (Real.log 2)⁻¹) else 0) = _
  rw [if_pos (by omega), e0]
  ring

theorem colS_1 (x : Fin 256) (k : ℕ) (y : Fin 256) :
    colS Kr Qr ⟨256 + x.val, by omega⟩ k y = (∑ e : Fin 64, Qr x ⟨64 + e.val, by omega⟩ * Kr k y ⟨64 + e.val, by omega⟩) * (1 / 8) * (Real.log 2)⁻¹ := by
  have hx := x.isLt
  have e0 : (⟨(256 + x.val) % 256, Nat.mod_lt _ (by decide)⟩ : Fin 256) = x := Fin.ext (by show (256 + x.val) % 256 = x.val; omega)
  unfold colS
  rw [sum_halves]
  have z : ∑ e : Fin 64, Kr k y ⟨e.val, by omega⟩ * (if (256 + x.val < 256 ↔ e.val < 64) then Qr ⟨(256 + x.val) % 256, Nat.mod_lt _ (by decide)⟩ ⟨e.val, by omega⟩ * (8⁻¹ * (Real.log 2)⁻¹) else 0) = 0 :=
    Finset.sum_eq_zero fun e _ => by rw [if_neg (by have := e.isLt; omega), mul_zero]
  refine (congrArg₂ (· + ·) z rfl).trans ?_
  rw [zero_add, Finset.sum_mul, Finset.sum_mul]
  refine Finset.sum_congr rfl fun e _ => ?_
  show Kr k y ⟨64 + e.val, _⟩ * (if (256 + x.val < 256 ↔ 64 + e.val < 64) then Qr ⟨(256 + x.val) % 256, _⟩ ⟨64 + e.val, _⟩ * (8⁻¹ * (Real.log 2)⁻¹) else 0) = _
  rw [if_pos (by omega), e0]
  ring

variable (q : Vec Ideal S1x256x128 .bf16) (kb : ℕ → Vec Ideal S1x256x128 .bf16) (vb : ℕ → Vec Ideal S1x1x1x144x256 .bf16)
  (hq : ∀ x d, q (ix3 0 x d) = (Qr x d : EReal)) (hk : ∀ j y d, kb j (ix3 0 y d) = (Kr j y d : EReal))
  (hv : ∀ j r y, vb j (ix5 0 0 0 r y) = (Vr j r y : EReal))

include hq hk in
theorem sc_apply (k : ℕ) (y : Fin 256) (c : Fin 512) :
    sc (k0_pay26 q) kb k (ix4 0 0 y c) = (colS Kr Qr c k y : EReal) := by
  unfold sc colS
  rw [pay12_apply, coe_sum]
  refine Finset.sum_congr rfl fun d _ => ?_
  rw [pay26_apply, hk, hq]
  split_ifs
  · simp only [EReal.coe_mul]
  · rw [mul_zero, mul_zero, EReal.coe_zero]

include hq hk hv in
theorem col_inv (c : Fin 512) (k : ℕ) :
    ColInv (colS Kr Qr c) Vr k ((hst (k0_pay26 q) kb vb k).1 (ix2 0 c)) (fun r => (hst (k0_pay26 q) kb vb k).2.1 (ix2 r c))
      (fun y => (hst (k0_pay26 q) kb vb k).2.2 (ix4 0 0 y c)) := by
  induction k with
  | zero => exact Or.inl ⟨rfl, pay33_apply c, fun r => pay34_apply r c, fun y => pay30_apply y c⟩
  | succ k ih =>
    have e7 := pay7_apply (hst (k0_pay26 q) kb vb k).1 (k0_pay2 (sc (k0_pay26 q) kb k)) c
    refine ih.step (fun y => k0_pay2 (sc (k0_pay26 q) kb k) (ix2 y c)) (fun y => ?_) _ e7 _ _ (fun r => ?_) (fun y => ?_)
    · exact (pay2_apply _ y c).trans (sc_apply Kr Qr q kb hq hk k y c)
    · show k0_pay37 _ _ _ (ix2 r c) = _
      rw [pay37_apply, pay8_apply, pay4_apply]
      simp only [hv]
    · exact pay13_apply _ _ y c

/-- The total weight of row `r` at a column. -/
def tot (c : Fin 512) (n : ℕ) (r : Fin 144) : ℝ :=
  num (colS Kr Qr c) Vr n r + ∑ y : Fin 256, if y.val / 64 ≤ c.val % 256 / 64 then Vr n r y * wt (colS Kr Qr c n y) else 0

include hq hk hv in
theorem last_col (n : ℕ) (c : Fin 512) : ∃ M' : ℝ, ∀ r : Fin 144,
    k0_pay49 (hst (k0_pay26 q) kb vb n).1 (hst (k0_pay26 q) kb vb n).2.1 (k0_pay45 (k0_pay44 (hst (k0_pay26 q) kb vb n).2.2) (vb (n - 1)))
      (k0_pay46 (sc (k0_pay26 q) kb n)) k0_pay47 0#32 (k0_pay48 (BitVec.ofNat 32 n) (BitVec.ofNat 32 n) (sc (k0_pay26 q) kb n)) 1#32 (vb n) (ix2 r c) =
      (((wt M')⁻¹ * tot Kr Qr Vr c n r : ℝ) : EReal) := by
  obtain ⟨M', h⟩ := (col_inv Kr Qr Vr q kb vb hq hk hv c n).last (fun y => y.val / 64 ≤ c.val % 256 / 64) ⟨0, by simp⟩
    (sMask (sc (k0_pay26 q) kb n) c) (fun y => by unfold sMask; rw [sc_apply Kr Qr q kb hq hk]) _ rfl
  refine ⟨M', fun r => ?_⟩
  rw [pay49_apply, pay45_apply]
  simp only [hv]
  exact h r

variable (h1 : ∀ j y, Vr j 128 y = 1)

include h1 in
theorem tot_pos (c : Fin 512) (n : ℕ) : 0 < tot Kr Qr Vr c n 128 := by
  unfold tot num
  simp only [h1, one_mul]
  refine add_pos_of_nonneg_of_pos (Finset.sum_nonneg fun j _ => Finset.sum_nonneg fun y _ => (wt_pos _).le) ?_
  refine Finset.sum_pos' (fun y _ => ?_) ⟨0, Finset.mem_univ _, ?_⟩
  · split_ifs
    · exact (wt_pos _).le
    · exact le_rfl
  · rw [if_pos (by simp)]
    exact wt_pos _

include hq hk hv h1 in
theorem headOut_apply (n : ℕ) (lam : FVec Ideal S1x1 .f32) (lr : ℝ) (hl : lam (ix2 0 0) = (lr : EReal)) (g : Vec Ideal S128x1 .f32)
    (x : Fin 256) (d : Fin 128) :
    headOut (k0_pay26 q) kb vb n lam g (ix3 0 x d) =
      rmsE (fun d => ((tot Kr Qr Vr ⟨x.val, by omega⟩ n ⟨d.val, by omega⟩ / tot Kr Qr Vr ⟨x.val, by omega⟩ n 128 -
        lr * (tot Kr Qr Vr ⟨256 + x.val, by omega⟩ n ⟨d.val, by omega⟩ / tot Kr Qr Vr ⟨256 + x.val, by omega⟩ n 128) : ℝ) : EReal)) (g (ix2 d 0)) d := by
  unfold headOut tailOut
  rw [pay52_apply]
  refine congrArg (fun f => rmsE f (g (ix2 d 0)) d) (funext fun d => ?_)
  unfold diffE
  simp only [pay50_apply, pay51_apply]
  obtain ⟨M0, e0⟩ := last_col Kr Qr Vr q kb vb hq hk hv n ⟨x.val, by omega⟩
  obtain ⟨M1, e1⟩ := last_col Kr Qr Vr q kb vb hq hk hv n ⟨256 + x.val, by omega⟩
  have p0 := tot_pos Kr Qr Vr h1 ⟨x.val, by omega⟩ n
  have p1 := tot_pos Kr Qr Vr h1 ⟨256 + x.val, by omega⟩ n
  have w0 := (inv_pos.2 (wt_pos M0))
  have w1 := (inv_pos.2 (wt_pos M1))
  rw [e0, e0, e1, e1, hl, div_real (mul_pos w0 p0).ne', div_real (mul_pos w1 p1).ne', ← EReal.coe_mul, ← EReal.coe_sub,
    mul_div_mul_left _ _ w0.ne', mul_div_mul_left _ _ w1.ne']

include h1 in
theorem tot_part (n : ℕ) (hn : n < 8) (c : Fin 512) (x : Fin 256) (hc : c.val % 256 = x.val) (σ v : Fin 2048 → ℝ) (r : Fin 144)
    (hσ : ∀ (j : Fin 8) (y : Fin 256), colS Kr Qr c j.val y = σ ⟨256 * j.val + y.val, by omega⟩ * (Real.log 2)⁻¹)
    (hV : ∀ (j : Fin 8) (y : Fin 256), Vr j.val r y = v ⟨256 * j.val + y.val, by omega⟩) :
    tot Kr Qr Vr c n r / tot Kr Qr Vr c n 128 = part σ v (256 * n + x.val) := by
  unfold tot num part
  rw [hc]
  congr 1
  · rw [sum_blocks (fun j y => Vr j r y * wt (colS Kr Qr c j y)) n hn x.val x.isLt, sum_keys]
    refine Finset.sum_congr rfl fun j _ => Finset.sum_congr rfl fun y _ => ?_
    rw [hσ, hV, wt_exp]
  · simp only [h1, one_mul]
    rw [sum_blocks (fun j y => wt (colS Kr Qr c j y)) n hn x.val x.isLt, sum_keys]
    refine Finset.sum_congr rfl fun j _ => Finset.sum_congr rfl fun y _ => ?_
    rw [hσ, wt_exp]

include hq hk hv h1 in
/-- A head's output at a query is the norm of the two averages taken apart. -/
theorem head_value (n : ℕ) (hn : n < 8) (lam : FVec Ideal S1x1 .f32) (lr : ℝ) (hl : lam (ix2 0 0) = (lr : EReal)) (g : Vec Ideal S128x1 .f32)
    (x : Fin 256) (d : Fin 128) (σ : Fin 2 → Fin 2048 → ℝ) (v : Fin 128 → Fin 2048 → ℝ)
    (hσ : ∀ (i : Fin 2) (j : Fin 8) (y : Fin 256), σ i ⟨256 * j.val + y.val, by omega⟩ =
      (∑ e : Fin 64, Qr x ⟨64 * i.val + e.val, by omega⟩ * Kr j.val y ⟨64 * i.val + e.val, by omega⟩) * (1 / 8))
    (hV : ∀ (d : Fin 128) (j : Fin 8) (y : Fin 256), Vr j.val ⟨d.val, by omega⟩ y = v d ⟨256 * j.val + y.val, by omega⟩) :
    headOut (k0_pay26 q) kb vb n lam g (ix3 0 x d) =
      rmsE (fun d => (attR σ (v d) lr (256 * n + x.val) : EReal)) (g (ix2 d 0)) d := by
  rw [headOut_apply Kr Qr Vr q kb vb hq hk hv h1 n lam lr hl g x d]
  refine congrArg (fun f => rmsE f (g (ix2 d 0)) d) (funext fun d => ?_)
  unfold attR
  rw [tot_part Kr Qr Vr h1 n hn ⟨x.val, by omega⟩ x (Nat.mod_eq_of_lt x.isLt) (σ 0) (v d) _ (fun j y => ?_) (hV d),
    tot_part Kr Qr Vr h1 n hn ⟨256 + x.val, by omega⟩ x (by show (256 + x.val) % 256 = x.val; omega) (σ 1) (v d) _ (fun j y => ?_) (hV d)]
  · rw [colS_1, hσ]
    simp
  · rw [colS_0, hσ]
    simp

end

end Cert.KernelIdeal.Val

end
-- ==== Proof.Chunk.lean ====
/- Hand-written: the chunk of a position, as the reference computes it on words, is the position's quotient by 64. -/
module

public import Idealize.ShloMosaic.Lib.Routing.Words

@[expose] public section

namespace Cert.Proof.Chunk

open Idealize.ShloMosaic

/-- The floor of a small natural's quotient by 64, as a host program computes it on words. -/
theorem cid_word (y : Fin 2048) :
    Scalar.select
      (IntOp.andi
        (IntOp.cmpi (w := 32) CmpIPredicate.ne (if BitVec.ofNat 32 y.val = 0 then 0 else if (BitVec.ofNat 32 y.val).msb = true then -1 else 1)
          (if 64#32 = 0 then 0 else if (64#32).msb = true then -1 else 1))
        (IntOp.cmpi CmpIPredicate.ne (IntOp.remsi ArithUnit.host (BitVec.ofNat 32 y.val) 64#32) 0#32))
      (IntOp.subi (IntOp.divsi ArithUnit.host (BitVec.ofNat 32 y.val) 64#32) 1#32)
      (IntOp.divsi ArithUnit.host (BitVec.ofNat 32 y.val) 64#32) = BitVec.ofNat 32 (y.val / 64) := by
  have hy := y.isLt
  have hr := Routing.remsi_word ArithUnit.host (a := y.val) (b := 64) (by omega) (by decide) (by decide)
  have hd := Routing.divsi_word ArithUnit.host (a := y.val) (b := 64) (by omega) (by decide) (by decide)
  have e64 : (if (64#32 : BitVec 32) = 0 then (0 : BitVec 32) else if (64#32 : BitVec 32).msb = true then -1 else 1) = 1#32 := by decide
  rw [hr, hd, e64]
  rcases Nat.eq_zero_or_pos y.val with h | h
  · rw [h]; decide
  · have h0 : ¬ BitVec.ofNat 32 y.val = 0 := by
      intro h'
      have := congrArg BitVec.toNat h'
      rw [BitVec.toNat_ofNat] at this
      have h1 : (0 : BitVec 32).toNat = 0 := rfl
      omega
    have hm : ¬ (BitVec.ofNat 32 y.val).msb = true := by
      rw [BitVec.msb_eq_decide, decide_eq_true_eq, BitVec.toNat_ofNat]; omega
    rw [if_neg h0, if_neg hm, show IntOp.cmpi (w := 32) CmpIPredicate.ne 1 1#32 = 0#1 by decide]
    have : ∀ z : BitVec 1, IntOp.andi 0#1 z = 0#1 := by decide
    rw [this]; rfl

theorem sle_word (y x : Fin 2048) : IntOp.cmpi CmpIPredicate.sle (BitVec.ofNat 32 (y.val / 64)) (BitVec.ofNat 32 (x.val / 64)) =
    if y.val / 64 ≤ x.val / 64 then 1#1 else 0#1 :=
  (by decide +kernel : ∀ a b : Fin 32, IntOp.cmpi CmpIPredicate.sle (BitVec.ofNat 32 a.val) (BitVec.ofNat 32 b.val) =
    if a.val ≤ b.val then 1#1 else 0#1) ⟨y.val / 64, by omega⟩ ⟨x.val / 64, by omega⟩

theorem select_ite {α : Type} (p : Prop) [Decidable p] (a b : α) : Scalar.select (if p then 1#1 else 0#1) a b = if p then a else b := by
  by_cases h : p <;> simp [h, Scalar.select]

end Cert.Proof.Chunk
-- ==== Proof.Ref.lean ====
module

public import proofs.«01_k».proof.Proof.Gen.ReferenceIdeal.Run
public import Idealize.ShloMosaic.Lib.Pointwise
public import Idealize.ShloMosaic.Lib.Tactic.CleanTypes
public import proofs.«01_k».proof.Proof.Online
public import proofs.«01_k».proof.Proof.Chunk

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.SL.Sem

open Cert.Proof.Online Cert.Proof.Chunk

/-- The chunks of all positions. -/
def cidVec : IVec S2048 32 := fun i => BitVec.ofNat 32 ((i 0).val / 64)

theorem cidVec_apply (y : Fin 2048) : cidVec (ix1 y) = BitVec.ofNat 32 (y.val / 64) := rfl

theorem cidVec_eq : (select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32)))) : IVec S2048 32) = cidVec := by
  funext j
  idx_vars j
  pointwise
  exact cid_word j0

/-- The scaled score of key `y` for query `x` in map `i` of head `h`, at minus infinity where the key's chunk is later. -/
def scE (q k : FVec Ideal S8x2048x8x2x64 .f32) (b : Fin 8) (x : Fin 2048) (h : Fin 8) (i : Fin 2) (y : Fin 2048) : EReal :=
  if y.val / 64 ≤ x.val / 64 then
    (∑ e : Fin 64, q (ix5 b x h i e) * k (ix5 b y h i e)) * Ideal.ofBits FTy.f32 0x3E000000#32
  else ⊥

/-- The weight of the second map. -/
def lamE (l3 l4 l5 l6 : FVec Ideal S64 .f32) : EReal :=
  Ideal.exp (∑ e : Fin 64, l3 (ix1 e) * l4 (ix1 e)) - Ideal.exp (∑ e : Fin 64, l5 (ix1 e) * l6 (ix1 e)) +
    Ideal.ofBits FTy.f32 0x3E4CCCCD#32

/-! ## The reference, operation by operation in a few stages -/

/-- The scaled and masked scores. -/
def mV (q k : FVec Ideal S8x2048x8x2x64 .f32) : FVec Ideal S8x8x2x2048x2048 .f32 :=
  select (broadcastInDim S8x8x2x2048x2048 ![3, 4] bcast_S2048x2048_S8x8x2x2048x2048_3_4 (cmpi .sle (broadcastInDim S2048x2048 ![0, 1] bcast_S1x2048_S2048x2048_0_1 (broadcastInDim S1x2048 ![1] bcast_S2048_S1x2048_1 cidVec)) (broadcastInDim S2048x2048 ![0, 1] bcast_S2048x1_S2048x2048_0_1 (broadcastInDim S2048x1 ![0] bcast_S2048_S2048x1_0 cidVec)))) (mulf (Host.dotGeneral dot_S8x2048x8x2x64_S8x2048x8x2x64_S8x8x2x2048x2048_4_4_1_1_023_023 none q k) (broadcastInDim S8x8x2x2048x2048 ![] bcast_S_S8x8x2x2048x2048 (constant S_ .f32 0x3E000000#32))) (broadcastInDim S8x8x2x2048x2048 ![] bcast_S_S8x8x2x2048x2048 (constant S_ .f32 0xFF800000#32))

theorem mV_apply (q k : FVec Ideal S8x2048x8x2x64 .f32) (b : Fin 8) (h : Fin 8) (i : Fin 2) (x y : Fin 2048) :
    mV q k (ix5 b h i x y) = scE q k b x h i y := by
  pointwise [mV]
  rw [cidVec_apply, cidVec_apply, sle_word, bot_word, select_ite]
  rfl

/-- The maximum of a row of scores. -/
def xV (M : FVec Ideal S8x8x2x2048x2048 .f32) : FVec Ideal S8x8x2x2048 .f32 :=
  Host.reduce FloatOps.maximumf M (constant S_ .f32 0xFF800000#32) reducesTo_S8x8x2x2048x2048_S8x8x2x2048_d4 h_S_

theorem drop_eq (b : Fin 8) (h : Fin 8) (i : Fin 2) (x y : Fin 2048) :
    reducesTo_S8x8x2x2048x2048_S8x8x2x2048_d4.drop (ix5 b h i x y) = ix4 b h i x := by
  funext a
  fin_cases a <;> rfl

/-- The maximum of a row none of whose scores is plus infinity, one of them real, is real. -/
theorem xV_real (M : FVec Ideal S8x8x2x2048x2048 .f32) (b : Fin 8) (h : Fin 8) (i : Fin 2) (x : Fin 2048)
    (ht : ∀ j, M j ≠ (⊤ : EReal)) (hb : ∃ y, M (ix5 b h i x y) ≠ (⊥ : EReal)) : ∃ K : ℝ, xV M (ix4 b h i x) = (K : EReal) := by
  obtain ⟨y, hy⟩ := hb
  have e := Host.reduce_eq_fold FloatOps.maximumf M (constant (F := Ideal) S_ .f32 0xFF800000#32) reducesTo_S8x8x2x2048x2048_S8x8x2x2048_d4 h_S_ (ix4 b h i x)
  obtain ⟨K, hK⟩ := fold_max_real' (Finset.univ.filter fun j => reducesTo_S8x8x2x2048x2048_S8x8x2x2048_d4.drop j = ix4 b h i x) M ht
    ⟨ix5 b h i x y, Finset.mem_filter.2 ⟨Finset.mem_univ _, drop_eq b h i x y⟩, hy⟩
  refine ⟨K, e.trans (Eq.trans ?_ hK)⟩
  exact congrArg (fun z : EReal => Finset.fold max z M _) bot_word

/-- The exponentials of the scores less their row's maximum. -/
def eV (M : FVec Ideal S8x8x2x2048x2048 .f32) (X : FVec Ideal S8x8x2x2048 .f32) : FVec Ideal S8x8x2x2048x2048 .f32 :=
  Host.exp (subf M (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (maximumf (broadcastInDim S8x8x2x2048 ![] bcast_S_S8x8x2x2048 (constant S_ .f32 0xFF800000#32)) X))))

theorem eV_apply (M : FVec Ideal S8x8x2x2048x2048 .f32) (X : FVec Ideal S8x8x2x2048 .f32) (b : Fin 8) (h : Fin 8) (i : Fin 2) (x y : Fin 2048) :
    eV M X (ix5 b h i x y) = Ideal.exp (M (ix5 b h i x y) - max ⊥ (X (ix4 b h i x))) := by
  pointwise [eV]
  rw [bot_word]

/-- The exponentials over their row's sum. -/
def pV (E : FVec Ideal S8x8x2x2048x2048 .f32) : FVec Ideal S8x8x2x2048x2048 .f32 :=
  Host.divf E (broadcastInDim S8x8x2x2048x2048 ![0, 1, 2, 3, 4] bcast_S8x8x2x2048x1_S8x8x2x2048x2048_0_1_2_3_4 (broadcastInDim S8x8x2x2048x1 ![0, 1, 2, 3] bcast_S8x8x2x2048_S8x8x2x2048x1_0_1_2_3 (Host.reduceAdd E (constant S_ .f32 0x00000000#32) reducesTo_S8x8x2x2048x2048_S8x8x2x2048_d4 h_S_)))

theorem pV_apply (E : FVec Ideal S8x8x2x2048x2048 .f32) (b : Fin 8) (h : Fin 8) (i : Fin 2) (x y : Fin 2048) :
    pV E (ix5 b h i x y) = Ideal.div (E (ix5 b h i x y)) (∑ y' : Fin 2048, E (ix5 b h i x y')) := by
  pointwise [pV]

/-- The weight of the second map. -/
def lV (l3 l4 l5 l6 : FVec Ideal S64 .f32) : FVec Ideal S_ .f32 :=
  addf (subf (Host.exp (Host.reduceAdd (mulf l3 l4) (constant S_ .f32 0x00000000#32) reducesTo_S64_S_d0 h_S_)) (Host.exp (Host.reduceAdd (mulf l5 l6) (constant S_ .f32 0x00000000#32) reducesTo_S64_S_d0 h_S_))) (constant S_ .f32 0x3E4CCCCD#32)

theorem lV_apply (l3 l4 l5 l6 : FVec Ideal S64 .f32) : lV l3 l4 l5 l6 ix0 = lamE l3 l4 l5 l6 := by
  pointwise [lV]
  rfl

/-- The difference of the two maps. -/
def aV (P : FVec Ideal S8x8x2x2048x2048 .f32) (l : FVec Ideal S_ .f32) : FVec Ideal S8x8x2048x2048 .f32 :=
  subf (shapeCast _ (extractStridedSlice S8x8x1x2048x2048 ![0, 0, 0, 0, 0] P slices_S8x8x2x2048x2048_S8x8x1x2048x2048_0_0_0_0_0) shapeCasts_S8x8x1x2048x2048_S8x8x2048x2048) (mulf (broadcastInDim S8x8x2048x2048 ![] bcast_S_S8x8x2048x2048 l) (shapeCast _ (extractStridedSlice S8x8x1x2048x2048 ![0, 0, 1, 0, 0] P slices_S8x8x2x2048x2048_S8x8x1x2048x2048_0_0_1_0_0) shapeCasts_S8x8x1x2048x2048_S8x8x2048x2048))

theorem aV_apply (P : FVec Ideal S8x8x2x2048x2048 .f32) (l : FVec Ideal S_ .f32) (b : Fin 8) (h : Fin 8) (x y : Fin 2048) :
    aV P l (ix4 b h x y) = P (ix5 b h 0 x y) - l ix0 * P (ix5 b h 1 x y) := by
  pointwise [aV]

/-- The attention before its norm. -/
def oV (v : FVec Ideal S8x2048x8x128 .f32) (A : FVec Ideal S8x8x2048x2048 .f32) : FVec Ideal S8x2048x8x128 .f32 :=
  transpose S8x2048x8x128 [0, 3, 1, 2] (Host.dotGeneral dot_S8x2048x8x128_S8x8x2048x2048_S8x8x128x2048_1_3_3_2_02_01 none v A) transposes_S8x8x128x2048_S8x2048x8x128_0_3_1_2

theorem oV_apply (v : FVec Ideal S8x2048x8x128 .f32) (A : FVec Ideal S8x8x2048x2048 .f32) (b : Fin 8) (x : Fin 2048) (h : Fin 8) (d : Fin 128) :
    oV v A (ix4 b x h d) = ∑ y : Fin 2048, v (ix4 b y h d) * A (ix4 b h x y) := by
  pointwise [oV]

/-- The normed attention. -/
def nV (O : FVec Ideal S8x2048x8x128 .f32) (g : FVec Ideal S128 .f32) : FVec Ideal S8x2048x8x128 .f32 :=
  mulf (mulf (mulf O (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf O O) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x3727C5AC#32)))))) (broadcastInDim S8x2048x8x128 ![0, 1, 2, 3] bcast_S1x1x1x128_S8x2048x8x128_0_1_2_3 (broadcastInDim S1x1x1x128 ![3] bcast_S128_S1x1x1x128_3 g))) (broadcastInDim S8x2048x8x128 ![] bcast_S_S8x2048x8x128 (constant S_ .f32 0x3F4CCCCD#32))

theorem nV_apply (O : FVec Ideal S8x2048x8x128 .f32) (g : FVec Ideal S128 .f32) (b : Fin 8) (x : Fin 2048) (h : Fin 8) (d : Fin 128) :
    nV O g (ix4 b x h d) = rmsE (fun d => O (ix4 b x h d)) (g (ix1 d)) d := by
  pointwise [nV]
  rfl

/-- The result array. -/
def rV (N : FVec Ideal S8x2048x8x128 .f32) : FVec Ideal S8x2048x1024 .bf16 :=
  truncf .bf16 (shapeCast _ N shapeCasts_S8x2048x8x128_S8x2048x1024) bitsLt_bf16_f32

theorem rV_apply (N : FVec Ideal S8x2048x8x128 .f32) (b : Fin 8) (x : Fin 2048) (h : Fin 8) (d : Fin 128) :
    rV N (ix3 b x ⟨128 * h.val + d.val, by omega⟩) = N (ix4 b x h d) := by
  pointwise [rV]

/-! ## Together -/

/-- The result array of the reference as its stages composed. -/
theorem res_eq (m : (ℓ : Loc nD τ sig) → Buf (Elt Ideal) ℓ) (c : Dev nD) :
    res_out0 m c = rV (nV (oV (m ((c.tc : Thread nD τ).loc main_arg2))
      (aV (pV (eV (mV (m ((c.tc : Thread nD τ).loc main_arg0)) (m ((c.tc : Thread nD τ).loc main_arg1)))
          (xV (mV (m ((c.tc : Thread nD τ).loc main_arg0)) (m ((c.tc : Thread nD τ).loc main_arg1))))))
        (lV (m ((c.tc : Thread nD τ).loc main_arg3)) (m ((c.tc : Thread nD τ).loc main_arg4)) (m ((c.tc : Thread nD τ).loc main_arg5))
          (m ((c.tc : Thread nD τ).loc main_arg6))))) (m ((c.tc : Thread nD τ).loc main_arg7))) := by
  unfold res_out0 res_main_v55
  clean_types
  rw [cidVec_eq]
  rfl

/-- A result of the reference: the norm of the values summed with the two maps' difference. -/
theorem stages_apply (q k : FVec Ideal S8x2048x8x2x64 .f32) (v : FVec Ideal S8x2048x8x128 .f32) (l3 l4 l5 l6 : FVec Ideal S64 .f32)
    (g : FVec Ideal S128 .f32) (b : Fin 8) (x : Fin 2048) (h : Fin 8) (d : Fin 128) :
    rV (nV (oV v (aV (pV (eV (mV q k) (xV (mV q k)))) (lV l3 l4 l5 l6))) g) (ix3 b x ⟨128 * h.val + d.val, by omega⟩) =
      rmsE (fun d => ∑ y : Fin 2048, v (ix4 b y h d) *
        (smE (scE q k b x h 0) (xV (mV q k) (ix4 b h 0 x)) y -
          lamE l3 l4 l5 l6 * smE (scE q k b x h 1) (xV (mV q k) (ix4 b h 1 x)) y)) (g (ix1 d)) d := by
  rw [rV_apply, nV_apply]
  simp only [oV_apply, aV_apply, pV_apply, eV_apply, mV_apply, lV_apply]
  rfl

/-- The reals of an array. -/
abbrev up {s : Shape} (a : s.Idx → ℝ) : FVec Ideal s .f32 := fun j => (a j : EReal)

theorem c8_word : Ideal.ofBits FTy.f32 0x3E000000#32 = ((1 / 8 : ℝ) : EReal) := by
  simp [Ideal.ofBits, Ideal.ieee, -EReal.coe_mul]; norm_num

/-- The score of key `y` over the reals. -/
def sg (q k : S8x2048x8x2x64.Idx → ℝ) (b : Fin 8) (x : Fin 2048) (h : Fin 8) (i : Fin 2) (y : Fin 2048) : ℝ :=
  (∑ e : Fin 64, q (ix5 b x h i e) * k (ix5 b y h i e)) * (1 / 8)

theorem scE_up (q k : S8x2048x8x2x64.Idx → ℝ) (b : Fin 8) (x : Fin 2048) (h : Fin 8) (i : Fin 2) (y : Fin 2048) :
    scE (up q) (up k) b x h i y = if y.val / 64 ≤ x.val / 64 then (sg q k b x h i y : EReal) else ⊥ := by
  unfold scE sg
  rw [c8_word, EReal.coe_mul, coe_sum]
  simp only [EReal.coe_mul]

theorem mV_ne_top (q k : S8x2048x8x2x64.Idx → ℝ) (j : S8x8x2x2048x2048.Idx) : mV (up q) (up k) j ≠ (⊤ : EReal) := by
  idx_vars j
  rw [mV_apply, scE_up]
  split_ifs
  · exact EReal.coe_ne_top _
  · exact bot_ne_top

theorem max_real (q k : S8x2048x8x2x64.Idx → ℝ) (b : Fin 8) (h : Fin 8) (i : Fin 2) (x : Fin 2048) :
    ∃ K : ℝ, xV (mV (up q) (up k)) (ix4 b h i x) = (K : EReal) :=
  xV_real _ b h i x (mV_ne_top q k) ⟨x, by rw [mV_apply, scE_up, if_pos le_rfl]; exact EReal.coe_ne_bot _⟩

theorem w02 : ∃ r : ℝ, Ideal.ofBits FTy.f32 0x3E4CCCCD#32 = (r : EReal) := by
  simp [Ideal.ofBits, Ideal.ieee, -EReal.coe_mul]

/-- The weight of the second map is real. -/
theorem lam_real (l3 l4 l5 l6 : S64.Idx → ℝ) : ∃ r : ℝ, lamE (up l3) (up l4) (up l5) (up l6) = (r : EReal) := by
  obtain ⟨w, hw⟩ := w02
  unfold lamE
  simp only [hw, ← EReal.coe_mul, ← coe_sum, Ideal.exp_coe, ← EReal.coe_sub, ← EReal.coe_add]
  exact ⟨_, rfl⟩

/-- The reference at real arguments. -/
theorem stages_real (q k : S8x2048x8x2x64.Idx → ℝ) (v : S8x2048x8x128.Idx → ℝ) (l3 l4 l5 l6 : S64.Idx → ℝ) (lam : ℝ)
    (hl : lamE (up l3) (up l4) (up l5) (up l6) = (lam : EReal))
    (g : FVec Ideal S128 .f32) (b : Fin 8) (x : Fin 2048) (h : Fin 8) (d : Fin 128) :
    rV (nV (oV (up v) (aV (pV (eV (mV (up q) (up k)) (xV (mV (up q) (up k))))) (lV (up l3) (up l4) (up l5) (up l6)))) g)
        (ix3 b x ⟨128 * h.val + d.val, by omega⟩) =
      rmsE (fun d => (attR (sg q k b x h) (fun y => v (ix4 b y h d)) lam x.val : EReal)) (g (ix1 d)) d := by
  rw [stages_apply, hl]
  refine congrArg (fun f => rmsE f (g (ix1 d)) d) (funext fun d => ?_)
  exact sum_sm (sg q k b x h) (fun y => v (ix4 b y h d)) lam x.val (scE (up q) (up k) b x h) (fun i y => scE_up q k b x h i y)
    (fun i => xV (mV (up q) (up k)) (ix4 b h i x)) (fun i => max_real q k b h i x)

end Cert.Proof.Ref

end
-- ==== Proof.Value.lean ====
/- Hand-written: THE KERNEL'S RESULT ARRAY OVER THE REALS. Each window's block read at a position of its array, each head's
   output block as the norm of the two averages taken apart (`outH_value`), and the blocks put together (`final`). -/
module

public import proofs.«01_k».proof.Proof.Entry
public import proofs.«01_k».proof.Proof.HeadVal
public import proofs.«01_k».proof.Proof.Ref
public import proofs.«01_k».proof.Proof.Run

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Proof.Online
open Cert.Proof.Ref (up sg)

/-! ## Where each window's block lies -/

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 3) = t.val / 32 ∧ win0_2.index t (1 : Fin 3) = t.val % 8 ∧ win0_2.index t (2 : Fin 3) = t.val / 8 % 4 :=
  (by decide +kernel : ∀ t : Fin grid0.N, _)
theorem at3 : ∀ t : Fin cfg0.N, win0_3.index t (0 : Fin 3) = t.val / 32 ∧ win0_3.index t (1 : Fin 3) = 0 ∧ win0_3.index t (2 : Fin 3) = 4 + t.val / 8 % 4 :=
  (by decide +kernel : ∀ t : Fin grid0.N, _)
theorem at4 : ∀ t : Fin cfg0.N, win0_4.index t (0 : Fin 5) = t.val / 32 ∧ win0_4.index t (1 : Fin 5) = t.val / 8 % 4 ∧ win0_4.index t (2 : Fin 5) = 0 ∧
    win0_4.index t (3 : Fin 5) = 0 ∧ win0_4.index t (4 : Fin 5) = 0 :=
  (by decide +kernel : ∀ t : Fin grid0.N, _)
theorem at5 : ∀ t : Fin cfg0.N, win0_5.index t (0 : Fin 3) = t.val / 32 ∧ win0_5.index t (1 : Fin 3) = t.val % 8 ∧ win0_5.index t (2 : Fin 3) = t.val / 8 % 4 :=
  (by decide +kernel : ∀ t : Fin grid0.N, _)
theorem nq_at : ∀ t : Fin cfg0.N, nq (grid0.coords t) = t.val % 8 := (by decide +kernel : ∀ t : Fin grid0.N, _)
theorem lt_N (t : Fin cfg0.N) : t.val < 256 := lt_of_lt_of_eq t.isLt (by decide +kernel : grid0.N = 256)

/-- The batch and the pair of heads of a grid point. -/
def bat (t : Fin cfg0.N) : Fin 8 := ⟨t.val / 32, by have := lt_N t; omega⟩
def hd (t : Fin cfg0.N) (hh : Fin 2) : Fin 8 := ⟨2 * (t.val / 8 % 4) + hh.val, by omega⟩
def row (t : Fin cfg0.N) (x : Fin 256) : Fin 2048 := ⟨256 * (t.val % 8) + x.val, by omega⟩

theorem emb5 (t : Fin cfg0.N) (x : Fin 256) (col : Fin 256) :
    ((cfg0.win 5).blk t).view.emb (ix3 0 x col) = (ix3 (bat t) (row t x) ⟨256 * (t.val / 8 % 4) + col.val, by omega⟩ : S8x2048x1024.Idx) := by
  obtain ⟨e0, e1, e2⟩ := at5 t
  funext a
  match a with
  | ⟨0, _⟩ => exact Fin.ext (by show win0_5.index t (0 : Fin 3) * 1 + 1 * 0 = t.val / 32; omega)
  | ⟨1, _⟩ => exact Fin.ext (by show win0_5.index t (1 : Fin 3) * 256 + 1 * x.val = 256 * (t.val % 8) + x.val; omega)
  | ⟨2, _⟩ => exact Fin.ext (by show win0_5.index t (2 : Fin 3) * 256 + 1 * col.val = 256 * (t.val / 8 % 4) + col.val; omega)

section Blocks

variable (m : (ℓ : Loc nD τ sig) → Buf (Elt Ideal) ℓ) (c : Dev nD) (t : Fin cfg0.N)

theorem iblk0 : (iblk m c 0 t : S4x64.Idx → EReal) = V m c main_v13 := by
  obtain ⟨e0, e1⟩ := at0 t
  funext j
  show V m c main_v13 (((cfg0.win 0).blk t).view.emb j) = V m c main_v13 j
  refine congrArg (V m c main_v13) (funext fun a => ?_)
  match a with
  | ⟨0, _⟩ => exact Fin.ext (by show win0_0.index t (0 : Fin 2) * 4 + 1 * (j 0).val = (j 0).val; omega)
  | ⟨1, _⟩ => exact Fin.ext (by show win0_0.index t (1 : Fin 2) * 64 + 1 * (j 1).val = (j 1).val; omega)

theorem iblk1 : (iblk m c 1 t : S128x1.Idx → EReal) = V m c main_v14 := by
  obtain ⟨e0, e1⟩ := at1 t
  funext j
  show V m c main_v14 (((cfg0.win 1).blk t).view.emb j) = V m c main_v14 j
  refine congrArg (V m c main_v14) (funext fun a => ?_)
  match a with
  | ⟨0, _⟩ => exact Fin.ext (by show win0_1.index t (0 : Fin 2) * 128 + 1 * (j 0).val = (j 0).val; omega)
  | ⟨1, _⟩ => exact Fin.ext (by show win0_1.index t (1 : Fin 2) * 1 + 1 * (j 1).val = (j 1).val; omega)

theorem iblk2 (x : Fin 256) (col : Fin 256) : (iblk m c 2 t : S1x256x256.Idx → EReal) (ix3 0 x col) =
    (V m c main_v3 : S8x2048x2048.Idx → EReal) (ix3 (bat t) (row t x) ⟨256 * (t.val / 8 % 4) + col.val, by omega⟩) := by
  obtain ⟨e0, e1, e2⟩ := at2 t
  show V m c main_v3 (((cfg0.win 2).blk t).view.emb (ix3 0 x col)) = _
  refine congrArg (V m c main_v3) (funext fun a => ?_)
  match a with
  | ⟨0, _⟩ => exact Fin.ext (by show win0_2.index t (0 : Fin 3) * 1 + 1 * 0 = t.val / 32; omega)
  | ⟨1, _⟩ => exact Fin.ext (by show win0_2.index t (1 : Fin 3) * 256 + 1 * x.val = 256 * (t.val % 8) + x.val; omega)
  | ⟨2, _⟩ => exact Fin.ext (by show win0_2.index t (2 : Fin 3) * 256 + 1 * col.val = 256 * (t.val / 8 % 4) + col.val; omega)

theorem iblk3 (y : Fin 2048) (col : Fin 256) : (iblk m c 3 t : S1x2048x256.Idx → EReal) (ix3 0 y col) =
    (V m c main_v3 : S8x2048x2048.Idx → EReal) (ix3 (bat t) y ⟨1024 + (256 * (t.val / 8 % 4) + col.val), by omega⟩) := by
  obtain ⟨e0, e1, e2⟩ := at3 t
  show V m c main_v3 (((cfg0.win 3).blk t).view.emb (ix3 0 y col)) = _
  refine congrArg (V m c main_v3) (funext fun a => ?_)
  match a with
  | ⟨0, _⟩ => exact Fin.ext (by show win0_3.index t (0 : Fin 3) * 1 + 1 * 0 = t.val / 32; omega)
  | ⟨1, _⟩ => exact Fin.ext (by show win0_3.index t (1 : Fin 3) * 2048 + 1 * y.val = y.val; omega)
  | ⟨2, _⟩ => exact Fin.ext (by show win0_3.index t (2 : Fin 3) * 256 + 1 * col.val = 1024 + (256 * (t.val / 8 % 4) + col.val); omega)

theorem iblk4 (hh : Fin 2) (j : Fin 8) (r : Fin 144) (y : Fin 256) : (iblk m c 4 t : S1x2x8x144x256.Idx → EReal) (ix5 0 hh j r y) =
    (V m c main_v8 : S8x8x8x144x256.Idx → EReal) (ix5 (bat t) (hd t hh) j r y) := by
  obtain ⟨e0, e1, e2, e3, e4⟩ := at4 t
  show V m c main_v8 (((cfg0.win 4).blk t).view.emb (ix5 0 hh j r y)) = _
  refine congrArg (V m c main_v8) (funext fun a => ?_)
  match a with
  | ⟨0, _⟩ => exact Fin.ext (by show win0_4.index t (0 : Fin 5) * 1 + 1 * 0 = t.val / 32; omega)
  | ⟨1, _⟩ => exact Fin.ext (by show win0_4.index t (1 : Fin 5) * 2 + 1 * hh.val = 2 * (t.val / 8 % 4) + hh.val; omega)
  | ⟨2, _⟩ => exact Fin.ext (by show win0_4.index t (2 : Fin 5) * 8 + 1 * j.val = j.val; omega)
  | ⟨3, _⟩ => exact Fin.ext (by show win0_4.index t (3 : Fin 5) * 144 + 1 * r.val = r.val; omega)
  | ⟨4, _⟩ => exact Fin.ext (by show win0_4.index t (4 : Fin 5) * 256 + 1 * y.val = y.val; omega)

end Blocks

/-! ## The blocks of one head -/

theorem qblk_apply (Q : Vec Ideal S1x256x256 .bf16) (hh : Fin 2) (x : Fin 256) (d : Fin 128) :
    qblk Q hh (ix3 0 x d) = Q (ix3 0 x ⟨128 * hh.val + d.val, by omega⟩) := by
  unfold qblk VecWindow.window
  refine congrArg Q (funext fun a => ?_)
  match a with
  | ⟨0, _⟩ => rfl
  | ⟨1, _⟩ => exact Fin.ext (by show 0 + 1 * x.val = x.val; omega)
  | ⟨2, _⟩ => exact Fin.ext (by show 128 * hh.val + 1 * d.val = 128 * hh.val + d.val; omega)

theorem kblk_apply (K : Vec Ideal S1x2048x256 .bf16) (hh : Fin 2) (j : ℕ) (y : Fin 256) (d : Fin 128) :
    kblk K hh j (ix3 0 y d) = K (ix3 0 ⟨256 * (j % 8) + y.val, by omega⟩ ⟨128 * hh.val + d.val, by omega⟩) := by
  unfold kblk VecWindow.window
  refine congrArg K (funext fun a => ?_)
  match a with
  | ⟨0, _⟩ => rfl
  | ⟨1, _⟩ => exact Fin.ext (by show 256 * (j % 8) + 1 * y.val = 256 * (j % 8) + y.val; omega)
  | ⟨2, _⟩ => exact Fin.ext (by show 128 * hh.val + 1 * d.val = 128 * hh.val + d.val; omega)

theorem vblk_apply (V : Vec Ideal S1x2x8x144x256 .bf16) (hh : Fin 2) (j : ℕ) (r : Fin 144) (y : Fin 256) :
    vblk V hh j (ix5 0 0 0 r y) = V (ix5 0 hh ⟨j % 8, Nat.mod_lt _ (by decide)⟩ r y) := by
  unfold vblk VecWindow.window
  refine congrArg V (funext fun a => ?_)
  match a with
  | ⟨0, _⟩ => rfl
  | ⟨1, _⟩ => exact Fin.ext (by show hh.val + 1 * 0 = hh.val; omega)
  | ⟨2, _⟩ => exact Fin.ext (by show j % 8 + 1 * 0 = j % 8; omega)
  | ⟨3, _⟩ => exact Fin.ext (by show 0 + 1 * r.val = r.val; omega)
  | ⟨4, _⟩ => exact Fin.ext (by show 0 + 1 * y.val = y.val; omega)

/-- Column `d` of a head in the two maps' halves. -/
def half (d : Fin 128) : Fin 2 := ⟨d.val / 64, by omega⟩
def inHalf (d : Fin 128) : Fin 64 := ⟨d.val % 64, Nat.mod_lt _ (by decide)⟩

theorem qkV_q' (q k : FVec Ideal S8x2048x8x2x64 .f32) (b : Fin 8) (x : Fin 2048) (h : Fin 8) (d : Fin 128) (col : Fin 2048)
    (hc : col.val = 128 * h.val + d.val) : qkV q k (ix3 b x col) = q (ix5 b x h (half d) (inHalf d)) := by
  rw [← qkV_q q k b x h (half d) (inHalf d)]
  refine congrArg (fun z => qkV q k (ix3 b x z)) (Fin.ext ?_)
  show col.val = 128 * h.val + (64 * (d.val / 64) + d.val % 64)
  omega

theorem qkV_k' (q k : FVec Ideal S8x2048x8x2x64 .f32) (b : Fin 8) (x : Fin 2048) (h : Fin 8) (d : Fin 128) (col : Fin 2048)
    (hc : col.val = 1024 + (128 * h.val + d.val)) : qkV q k (ix3 b x col) = k (ix5 b x h (half d) (inHalf d)) := by
  rw [← qkV_k q k b x h (half d) (inHalf d)]
  refine congrArg (fun z => qkV q k (ix3 b x z)) (Fin.ext ?_)
  show col.val = 1024 + (128 * h.val + (64 * (d.val / 64) + d.val % 64))
  omega

/-- The result over the reals at a batch, a query, a head and a column. -/
def resR (q k : S8x2048x8x2x64.Idx → ℝ) (v : S8x2048x8x128.Idx → ℝ) (lam : ℝ) (g : FVec Ideal S128 .f32) (b : Fin 8) (x : Fin 2048)
    (h : Fin 8) (d : Fin 128) : EReal :=
  rmsE (fun d => (attR (sg q k b x h) (fun y => v (ix4 b y h d)) lam x.val : EReal)) (g (ix1 d)) d

section Value

variable (m : (ℓ : Loc nD τ sig) → Buf (Elt Ideal) ℓ) (c : Dev nD)
  (q k : S8x2048x8x2x64.Idx → ℝ) (v : S8x2048x8x128.Idx → ℝ) (l3 l4 l5 l6 : S64.Idx → ℝ) (g : FVec Ideal S128 .f32)
  (m0 : m ((c : Thread nD τ).loc main_arg0) = up q) (m1 : m ((c : Thread nD τ).loc main_arg1) = up k)
  (m2 : m ((c : Thread nD τ).loc main_arg2) = up v) (m3 : m ((c : Thread nD τ).loc main_arg3) = up l3)
  (m4 : m ((c : Thread nD τ).loc main_arg4) = up l4) (m5 : m ((c : Thread nD τ).loc main_arg5) = up l5)
  (m6 : m ((c : Thread nD τ).loc main_arg6) = up l6) (m7 : m ((c : Thread nD τ).loc main_arg7) = g)
  (lam : ℝ) (hl : Cert.Proof.Ref.lamE (up l3) (up l4) (up l5) (up l6) = (lam : EReal))

include m3 m4 m5 m6 hl in
theorem lam_at (t : Fin cfg0.N) : k0_pay43 (iblk m c 0 t : S4x64.Idx → EReal) (ix2 0 0) = (lam : EReal) := by
  rw [pay43_apply, iblk0, V_la, m3, m4, m5, m6, ← hl]
  simp only [laV_0, laV_1, laV_2, laV_3]
  rfl

include m7 in
theorem g_at (t : Fin cfg0.N) (d : Fin 128) : (iblk m c 1 t : S128x1.Idx → EReal) (ix2 d 0) = g (ix1 d) := by
  rw [iblk1, V_g, m7]

include m0 m1 in
theorem q_at (t : Fin cfg0.N) (hh : Fin 2) (x : Fin 256) (d : Fin 128) :
    qblk (iblk m c 2 t : S1x256x256.Idx → EReal) hh (ix3 0 x d) = ((q (ix5 (bat t) (row t x) (hd t hh) (half d) (inHalf d)) : ℝ) : EReal) := by
  rw [qblk_apply, iblk2, V_qk, m0, m1]
  exact qkV_q' (up q) (up k) _ _ (hd t hh) d _ (by show 256 * (t.val / 8 % 4) + (128 * hh.val + d.val) = 128 * (2 * (t.val / 8 % 4) + hh.val) + d.val; omega)

include m0 m1 in
theorem k_at (t : Fin cfg0.N) (hh : Fin 2) (j : ℕ) (y : Fin 256) (d : Fin 128) :
    kblk (iblk m c 3 t : S1x2048x256.Idx → EReal) hh j (ix3 0 y d) =
      ((k (ix5 (bat t) ⟨256 * (j % 8) + y.val, by omega⟩ (hd t hh) (half d) (inHalf d)) : ℝ) : EReal) := by
  rw [kblk_apply, iblk3, V_qk, m0, m1]
  exact qkV_k' (up q) (up k) _ _ (hd t hh) d _ (by show 1024 + (256 * (t.val / 8 % 4) + (128 * hh.val + d.val)) = 1024 + (128 * (2 * (t.val / 8 % 4) + hh.val) + d.val); omega)

/-- The values of a head with the rows of ones. -/
def vRow (t : Fin cfg0.N) (hh : Fin 2) (j : ℕ) (r : Fin 144) (y : Fin 256) : ℝ :=
  if h : r.val < 128 then v (ix4 (bat t) ⟨256 * (j % 8) + y.val, by omega⟩ (hd t hh) ⟨r.val, h⟩) else 1

include m2 in
theorem v_at (t : Fin cfg0.N) (hh : Fin 2) (j : ℕ) (r : Fin 144) (y : Fin 256) :
    vblk (iblk m c 4 t : S1x2x8x144x256.Idx → EReal) hh j (ix5 0 0 0 r y) = ((vRow v t hh j r y : ℝ) : EReal) := by
  rw [vblk_apply, iblk4, V_vt, m2]
  unfold vRow
  by_cases h : r.val < 128
  · rw [dif_pos h]
    exact vtV_v (up v) (bat t) (hd t hh) ⟨j % 8, Nat.mod_lt _ (by decide)⟩ ⟨r.val, h⟩ y
  · rw [dif_neg h]
    have e : r = ⟨128 + (⟨r.val - 128, by omega⟩ : Fin 16).val, by show 128 + (r.val - 128) < 144; omega⟩ :=
      Fin.ext (by show r.val = 128 + (r.val - 128); omega)
    rw [e, EReal.coe_one]
    exact vtV_one (up v) (bat t) (hd t hh) ⟨j % 8, Nat.mod_lt _ (by decide)⟩ ⟨r.val - 128, by omega⟩ y

include m0 m1 m2 m3 m4 m5 m6 m7 hl in
theorem outH_value (t : Fin cfg0.N) (hh : Fin 2) (x : Fin 256) (d : Fin 128) :
    outH (nq (grid0.coords t)) (iblk m c 0 t : S4x64.Idx → EReal) (iblk m c 1 t : S128x1.Idx → EReal) (iblk m c 2 t : S1x256x256.Idx → EReal)
      (iblk m c 3 t : S1x2048x256.Idx → EReal) (iblk m c 4 t : S1x2x8x144x256.Idx → EReal) hh (ix3 0 x d) =
      resR q k v lam g (bat t) (row t x) (hd t hh) d := by
  unfold outH resR
  have hn : nq (grid0.coords t) < 8 := by rw [nq_at]; omega
  refine (head_value (fun j y d => k (ix5 (bat t) ⟨256 * (j % 8) + y.val, by omega⟩ (hd t hh) (half d) (inHalf d)))
    (fun x d => q (ix5 (bat t) (row t x) (hd t hh) (half d) (inHalf d))) (vRow v t hh) _ _ _
    (fun x d => q_at m c q k m0 m1 t hh x d) (fun j y d => k_at m c q k m0 m1 t hh j y d) (fun j r y => v_at m c v m2 t hh j r y)
    (fun j y => dif_neg (by decide)) _ hn _ lam (lam_at m c l3 l4 l5 l6 m3 m4 m5 m6 lam hl t) _ x d
    (sg q k (bat t) (row t x) (hd t hh)) (fun d y => v (ix4 (bat t) y (hd t hh) d)) (fun i j y => ?_) (fun d j y => ?_)).trans ?_
  · unfold sg
    refine congrArg (· * (1 / 8 : ℝ)) (Finset.sum_congr rfl fun e _ => ?_)
    have e1 : half ⟨64 * i.val + e.val, by omega⟩ = i := Fin.ext (by show (64 * i.val + e.val) / 64 = i.val; omega)
    have e2 : inHalf ⟨64 * i.val + e.val, by omega⟩ = e := Fin.ext (by show (64 * i.val + e.val) % 64 = e.val; omega)
    have e3 : (⟨256 * (j.val % 8) + y.val, by omega⟩ : Fin 2048) = ⟨256 * j.val + y.val, by omega⟩ :=
      Fin.ext (by show 256 * (j.val % 8) + y.val = 256 * j.val + y.val; omega)
    simp only [e1, e2, e3]
  · have e3 : (⟨256 * (j.val % 8) + y.val, by omega⟩ : Fin 2048) = ⟨256 * j.val + y.val, by omega⟩ :=
      Fin.ext (by show 256 * (j.val % 8) + y.val = 256 * j.val + y.val; omega)
    unfold vRow
    rw [dif_pos (show (⟨d.val, by omega⟩ : Fin 144).val < 128 from d.isLt), e3]
  · rw [g_at m c g m7, nq_at]
    rfl

/-- The result array over the reals. -/
def outR (q k : S8x2048x8x2x64.Idx → ℝ) (v : S8x2048x8x128.Idx → ℝ) (lam : ℝ) (g : FVec Ideal S128 .f32) : FVec Ideal S8x2048x1024 .bf16 := fun i =>
  resR q k v lam g (i 0) (i 1) ⟨(i 2).val / 128, by have : (i 2).val < 1024 := (i 2).isLt; omega⟩ ⟨(i 2).val % 128, Nat.mod_lt _ (by decide)⟩

theorem outR_apply (b : Fin 8) (x : Fin 2048) (h : Fin 8) (d : Fin 128) (col : Fin 1024) (hc : col.val = 128 * h.val + d.val) :
    outR q k v lam g (ix3 b x col) = resR q k v lam g b x h d := by
  have e1 : (⟨col.val / 128, by omega⟩ : Fin 8) = h := Fin.ext (by show col.val / 128 = h.val; omega)
  have e2 : (⟨col.val % 128, Nat.mod_lt _ (by decide)⟩ : Fin 128) = d := Fin.ext (by show col.val % 128 = d.val; omega)
  show resR q k v lam g b x ⟨col.val / 128, _⟩ ⟨col.val % 128, _⟩ = _
  rw [e1, e2]

include m0 m1 m2 m3 m4 m5 m6 m7 hl in
theorem outAt_value (t : Fin cfg0.N) (x : Fin 256) (col : Fin 256) :
    outAt m c t (ix3 0 x col) = outR q k v lam g (ix3 (bat t) (row t x) ⟨256 * (t.val / 8 % 4) + col.val, by omega⟩) := by
  have e128 : ∀ (x : Fin 256) (d : Fin 128), ix128 x d = ix3 0 x d := fun x d => by
    funext a; match a with | ⟨0, _⟩ => rfl | ⟨1, _⟩ => rfl | ⟨2, _⟩ => rfl
  unfold outAt outBlk
  by_cases h : col.val < 128
  · refine (dif_pos h).trans ?_
    rw [outR_apply q k v g lam (bat t) (row t x) (hd t 0) ⟨col.val, h⟩ _
      (by show 256 * (t.val / 8 % 4) + col.val = 128 * (2 * (t.val / 8 % 4) + 0) + col.val; omega)]
    refine (congrArg (outH (nq (grid0.coords t)) (iblk m c 0 t : S4x64.Idx → EReal) (iblk m c 1 t : S128x1.Idx → EReal) (iblk m c 2 t : S1x256x256.Idx → EReal)
      (iblk m c 3 t : S1x2048x256.Idx → EReal) (iblk m c 4 t : S1x2x8x144x256.Idx → EReal) 0) (e128 x _)).trans ?_
    exact outH_value m c q k v l3 l4 l5 l6 g m0 m1 m2 m3 m4 m5 m6 m7 lam hl t 0 x ⟨col.val, h⟩
  · refine (dif_neg h).trans ?_
    rw [outR_apply q k v g lam (bat t) (row t x) (hd t 1) ⟨col.val - 128, by omega⟩ _
      (by show 256 * (t.val / 8 % 4) + col.val = 128 * (2 * (t.val / 8 % 4) + 1) + (col.val - 128); omega)]
    refine (congrArg (outH (nq (grid0.coords t)) (iblk m c 0 t : S4x64.Idx → EReal) (iblk m c 1 t : S128x1.Idx → EReal) (iblk m c 2 t : S1x256x256.Idx → EReal)
      (iblk m c 3 t : S1x2048x256.Idx → EReal) (iblk m c 4 t : S1x2x8x144x256.Idx → EReal) 1) (e128 x _)).trans ?_
    exact outH_value m c q k v l3 l4 l5 l6 g m0 m1 m2 m3 m4 m5 m6 m7 lam hl t 1 x ⟨col.val - 128, by omega⟩

theorem cut5_eq (t : Fin cfg0.N) (X : Vec Ideal S1x256x256 .bf16) (j : S1x256x256.Idx) :
    (cfg0.win 5).cut (grid0.coords t) X j = X j := rfl

include m0 m1 m2 m3 m4 m5 m6 m7 hl in
theorem flushed_eq (t : Fin cfg0.N) :
    (dats m 0 c).flushed 5 t = ((cfg0.win 5).blk t).view.read (Elt Ideal) (outR q k v lam g) := by
  funext j
  show outAt m c t j = outR q k v lam g (((cfg0.win 5).blk t).view.emb j)
  obtain ⟨x, col, rfl⟩ : ∃ (x : Fin 256) (col : Fin 256), j = ix3 0 x col := ⟨j 1, j 2, by
    funext a
    match a with
    | ⟨0, _⟩ => exact Fin.ext (by have : (j 0).val < 1 := (j 0).isLt; show (j 0).val = 0; omega)
    | ⟨1, _⟩ => rfl
    | ⟨2, _⟩ => rfl⟩
  rw [emb5]
  exact outAt_value m c q k v l3 l4 l5 l6 g m0 m1 m2 m3 m4 m5 m6 m7 lam hl t x col

theorem covered (i : S8x2048x1024.Idx) : ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  let t : Fin cfg0.N := ⟨32 * (i 0).val + 8 * ((i 2).val / 256) + (i 1).val / 256, lt_of_lt_of_eq (by omega) (by decide +kernel : 256 = grid0.N)⟩
  have ht : t.val = 32 * (i 0).val + 8 * ((i 2).val / 256) + (i 1).val / 256 := rfl
  refine ⟨t, flush0_5 _, ?_⟩
  have h := ((cfg0.win 5).blk t).view.emb_mem_set (ix3 0 ⟨(i 1).val % 256, by omega⟩ ⟨(i 2).val % 256, by omega⟩ : S1x256x256.Idx)
  rw [emb5] at h
  refine Eq.mpr (congrArg (fun z : S8x2048x1024.Idx => z ∈ ((cfg0.win 5).blk t).view.set) (funext fun a => ?_)) h
  match a with
  | ⟨0, _⟩ => exact Fin.ext (by show (i 0).val = t.val / 32; omega)
  | ⟨1, _⟩ => exact Fin.ext (by show (i 1).val = 256 * (t.val % 8) + (i 1).val % 256; omega)
  | ⟨2, _⟩ => exact Fin.ext (by show (i 2).val = 256 * (t.val / 8 % 4) + (i 2).val % 256; omega)

include m0 m1 m2 m3 m4 m5 m6 m7 hl in
/-- The result array after the run. -/
theorem final : (dats m 0 c).arrAt 5 cfg0.N = outR q k v lam g :=
  (dats m 0 c).arrAt_eq_of_cover 5 (outR q k v lam g)
    (fun t _ => flushed_eq m c q k v l3 l4 l5 l6 g m0 m1 m2 m3 m4 m5 m6 m7 lam hl t) covered

end Value

end Cert.KernelIdeal.Val

end
-- ==== Proof.Algebraic.lean ====
/- Hand-written: THE VALUE CLAIM. Finite arguments are arrays of reals (`real_of_fin`); on those the kernel's result array and
   the reference's are one function of the arguments. -/
module

public import proofs.«01_k».proof.Defs
public import proofs.«01_k».proof.Proof.Frames
public import proofs.«01_k».proof.Proof.Value

@[expose] public section

set_option maxRecDepth 16384

noncomputable section

namespace Cert.Proof

open Idealize.ShloMosaic Idealize.ShloMosaic.TcCoe Idealize.SL.Sem
open Cert.Proof.Ref (up)

/-- The shape relations of the precondition. -/
theorem preFacts : Cert.Pre_finite.Facts := ⟨by decide, by decide, by decide⟩

theorem inf_word : Ideal.ofBits FTy.f32 2139095040#32 = (⊤ : EReal) := by
  simp [Ideal.ofBits, Ideal.ieee]

/-- A number whose magnitude is below plus infinity is real. -/
theorem real_of_lt (x : EReal) (h : FloatOps.cmpf (F := Ideal) (φ := .f32) .olt (FloatOps.absf (F := Ideal) (φ := .f32) x) (Ideal.ofBits FTy.f32 2139095040#32) = 1#1) :
    x = ((x.toReal : ℝ) : EReal) := by
  rw [inf_word] at h
  have h2 : max x (-x) < ⊤ := by
    by_contra hn
    have : FloatOps.cmpf (F := Ideal) (φ := .f32) .olt (FloatOps.absf (F := Ideal) (φ := .f32) x) (⊤ : EReal) = 0#1 := by
      show BitVec.ofBool (decide (max x (-x) < ⊤)) = 0#1
      rw [decide_eq_false hn]; rfl
    rw [this] at h
    exact absurd h (by decide)
  refine (EReal.coe_toReal (fun e => ?_) (fun e => ?_)).symm
  · rw [e] at h2; simp at h2
  · rw [e] at h2; simp at h2

/-- An array that passes the precondition's test is one of reals. -/
theorem real_of_fin {s : Shape} (hb : Cert.Pre_finite.S_.BroadcastsInDim s (![] : Fin 0 → Fin s.rank)) (x : FVec Ideal s .f32)
    (h : cmpf .olt (Host.absf x) (broadcastInDim s ![] hb (constant Cert.Pre_finite.S_ .f32 0x7F800000#32)) = fun _ => 1#1) :
    x = up (fun j => (x j).toReal) :=
  funext fun j => real_of_lt (x j) (congrFun h j)

theorem frame_ideal_finite : Cert.quiescent_KernelIdeal_pre_finite (hKernelIdeal := Cert.KernelIdeal.Gen.facts) (hPre_finite := preFacts) :=
  fun m ρ _ => Cert.KernelIdeal.Hand.frame_main (F := Ideal) m ρ

theorem frame_ref_finite : Cert.quiescent_ReferenceIdeal_pre_finite (hReferenceIdeal := Cert.ReferenceIdeal.Gen.facts) (hPre_finite := preFacts) :=
  fun m ρ _ => (θ_run Cert.ReferenceIdeal.defs _ _).mono (fun r h => ⟨fun c => (h c).2, sem_eq_zero_of_no_sems rfl r.2⟩)
    (Cert.ReferenceIdeal.Value.run (F := Ideal) m ρ)

section Run

open Cert.KernelIdeal Cert.KernelIdeal.Gen Cert.KernelIdeal.Hand

variable (m : (ℓ : Loc nD τ sig) → Buf (Elt Ideal) ℓ) (ρ : Dev nD → PrngReg)

/-- The kernel's run with its result array. -/
theorem run_value : θ_run defs (onTc (τ := τ) (main (F := Ideal))) ⟨m, fun _ => 0, ρ⟩ (fun r => ∀ c : Dev nD,
      r.2.mem ((c.tc : Thread nD τ).loc main_v15) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩)
    (run_main m ρ)

end Run

section Meet

open Cert.Proof.Ref Cert.Proof.Online Cert.KernelIdeal.Val

/-- The reference's stages on reals are the kernel's result array. -/
theorem stages_eq (q k : Cert.KernelIdeal.S8x2048x8x2x64.Idx → ℝ) (v : Cert.KernelIdeal.S8x2048x8x128.Idx → ℝ) (l3 l4 l5 l6 : Cert.KernelIdeal.S64.Idx → ℝ) (lam : ℝ)
    (hl : lamE (up l3) (up l4) (up l5) (up l6) = (lam : EReal)) (g : FVec Ideal Cert.KernelIdeal.S128 .f32) :
    (rV (nV (oV (up v) (aV (pV (eV (mV (up q) (up k)) (xV (mV (up q) (up k))))) (lV (up l3) (up l4) (up l5) (up l6)))) g) :
      Cert.KernelIdeal.S8x2048x1024.Idx → EReal) = outR q k v lam g := by
  funext i
  have h2 : (i 2).val < 1024 := (i 2).isLt
  have e : i = ix3 (i 0) (i 1) (⟨128 * (⟨(i 2).val / 128, by omega⟩ : Fin 8).val + (⟨(i 2).val % 128, Nat.mod_lt _ (by decide)⟩ : Fin 128).val, by
      show 128 * ((i 2).val / 128) + (i 2).val % 128 < 1024; omega⟩ : Fin 1024) := by
    funext a
    match a with
    | ⟨0, _⟩ => rfl
    | ⟨1, _⟩ => rfl
    | ⟨2, _⟩ => exact Fin.ext (by show (i 2).val = 128 * ((i 2).val / 128) + (i 2).val % 128; omega)
  refine (congrArg _ e).trans ?_
  exact stages_real q k v l3 l4 l5 l6 lam hl g (i 0) (i 1) ⟨(i 2).val / 128, by omega⟩ ⟨(i 2).val % 128, Nat.mod_lt _ (by decide)⟩

end Meet

theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  refine ⟨_, run_value m ρ, ?_⟩
  refine (θ_run Cert.ReferenceIdeal.defs _ _).mono (fun _ h c => ⟨(h c).1.trans ?_, (h c).2⟩) (Cert.ReferenceIdeal.Value.run (F := Ideal) m' ρ')
  obtain ⟨p0, p1, p2, p3, p4, p5, p6⟩ := hpre c
  obtain ⟨a0, a1, a2, a3, a4, a5, a6, a7⟩ := hagree c
  have r0 := real_of_fin _ _ p0
  have r1 := real_of_fin _ _ p1
  have r2 := real_of_fin _ _ p2
  have r3 := real_of_fin _ _ p3
  have r4 := real_of_fin _ _ p4
  have r5 := real_of_fin _ _ p5
  have r6 := real_of_fin _ _ p6
  obtain ⟨lam, hl⟩ := Cert.Proof.Ref.lam_real _ _ _ _
  refine (Cert.Proof.Ref.res_eq m' c).trans ?_
  rw [a0, a1, a2, a3, a4, a5, a6, a7]
  refine Eq.trans ?_ (Cert.KernelIdeal.Val.final m c _ _ _ _ _ _ _ _ r0 r1 r2 r3 r4 r5 r6 rfl lam hl).symm
  refine Eq.trans ?_ (stages_eq _ _ _ _ _ _ _ lam hl _)
  rw [← r0, ← r1, ← r2, ← r3, ← r4, ← r5, ← r6]

end Cert.Proof

end
-- ==== Proof.Mlp.Spec.lean ====
/- Hand-written: THE CHANNEL MIXER OF ONE ROW, as a function of extended reals: the hidden layer's squared positive part
   (`hidE`), the residual with the second product (`zE`), the norm of a row (`lnE`). -/
module

public import Idealize.ShloMosaic.PureOps.Ideal
public import Idealize.ShloMosaic.Lib.Pointwise

@[expose] public section

noncomputable section

namespace Cert.Proof.Mlp

open Idealize.ShloMosaic

/-- The positive part of a number, squared. -/
def sqE (a : EReal) : EReal := max a 0 * max a 0

/-- Unit `f` of the hidden layer. -/
def hidE (x : Fin 1024 → EReal) (w : Fin 1024 → Fin 4096 → EReal) (f : Fin 4096) : EReal := sqE (∑ k : Fin 1024, x k * w k f)

/-- Column `d` before the norm. -/
def zE (x : Fin 1024 → EReal) (w : Fin 1024 → Fin 4096 → EReal) (u : Fin 4096 → Fin 1024 → EReal) (d : Fin 1024) : EReal :=
  Ideal.ofBits FTy.f32 0x3FB504F3#32 * x d + ∑ f : Fin 4096, hidE x w f * u f d

/-- The mean of a row. -/
def muE (z : Fin 1024 → EReal) : EReal := Ideal.div (∑ k : Fin 1024, z k) (Ideal.ofBits FTy.f32 0x44800000#32)

/-- Column `d` of a row's norm, with gain `g` and bias `b` of that column. -/
def lnE (z : Fin 1024 → EReal) (g b : EReal) (d : Fin 1024) : EReal :=
  (z d - muE z) * Ideal.rsqrt (muE (fun k => (z k - muE z) * (z k - muE z)) + Ideal.ofBits FTy.f32 0x3727C5AC#32) * g + b

/-- A sum of 4096 numbers as four sums of 1024, added in order to a number. -/
theorem sum_parts (a : EReal) (F : Fin 4096 → EReal) :
    a + ∑ f : Fin 4096, F f = (((a + ∑ i : Fin 1024, F ⟨i.val, by omega⟩) + ∑ i : Fin 1024, F ⟨1024 + i.val, by omega⟩) +
      ∑ i : Fin 1024, F ⟨2048 + i.val, by omega⟩) + ∑ i : Fin 1024, F ⟨3072 + i.val, by omega⟩ := by
  have e1 : ∑ f : Fin 4096, F f = (∑ i : Fin 3072, F ⟨i.val, by omega⟩) + ∑ i : Fin 1024, F ⟨3072 + i.val, by omega⟩ :=
    Fin.sum_univ_add (a := 3072) (b := 1024) F
  have e2 : (∑ i : Fin 3072, F ⟨i.val, by omega⟩) = (∑ i : Fin 2048, F ⟨i.val, by omega⟩) + ∑ i : Fin 1024, F ⟨2048 + i.val, by omega⟩ :=
    Fin.sum_univ_add (a := 2048) (b := 1024) (fun i : Fin 3072 => F ⟨i.val, by omega⟩)
  have e3 : (∑ i : Fin 2048, F ⟨i.val, by omega⟩) = (∑ i : Fin 1024, F ⟨i.val, by omega⟩) + ∑ i : Fin 1024, F ⟨1024 + i.val, by omega⟩ :=
    Fin.sum_univ_add (a := 1024) (b := 1024) (fun i : Fin 2048 => F ⟨i.val, by omega⟩)
  rw [e1, e2, e3]
  simp only [add_assoc]

end Cert.Proof.Mlp

end
-- ==== Proof.Mlp.Block.lean ====
/- Hand-written: WHAT ONE BLOCK OF 512 ROWS COMPUTES: each column of each row is the norm of the residual with the four
   partial products, which is `lnE` of `zE` (`pay6_value`). -/
module

public import proofs.«01_k».proof.Proof.Gen.Kernel2Ideal.Frame
public import proofs.«01_k».proof.Proof.Mlp.Spec
public import Idealize.ShloMosaic.Lib.Pointwise

@[expose] public section

set_option maxRecDepth 16384

noncomputable section

namespace Cert.Kernel2Ideal.Val

open Cert.Kernel2Ideal Cert.Kernel2Ideal.Gen
open Idealize.ShloMosaic Idealize.ShloMosaic.TcCoe
open Cert.Proof.Mlp

/-- A slice of the hidden layer. -/
def actV (x : FVec Ideal S512x1024 .bf16) (w : FVec Ideal S1024x1024 .bf16) : FVec Ideal S512x1024 .bf16 :=
  truncf .bf16 (mulf (maximumf (matmul dot_S512x1024_S1024x1024_S512x1024_1_0_0_1_n_n none x w (constant S512x1024 .f32 0x00000000#32)) (broadcast S512x1024 (Scalar.ofBits .f32 0x00000000#32)))
    (maximumf (matmul dot_S512x1024_S1024x1024_S512x1024_1_0_0_1_n_n none x w (constant S512x1024 .f32 0x00000000#32)) (broadcast S512x1024 (Scalar.ofBits .f32 0x00000000#32)))) bitsLt_bf16_f32

theorem actV_apply (x : FVec Ideal S512x1024 .bf16) (w : FVec Ideal S1024x1024 .bf16) (r : Fin 512) (f : Fin 1024) :
    actV x w (ix2 r f) = sqE (∑ k : Fin 1024, x (ix2 r k) * w (ix2 k f)) := by
  pointwise [actV]
  rfl

/-- A slice's product with its rows of the second weight, added. -/
def accV (a : FVec Ideal S512x1024 .f32) (y : FVec Ideal S512x1024 .bf16) (w : FVec Ideal S1024x1024 .bf16) : FVec Ideal S512x1024 .f32 :=
  addf a (matmul dot_S512x1024_S1024x1024_S512x1024_1_0_0_1_n_n none y w (constant S512x1024 .f32 0x00000000#32))

theorem accV_apply (a : FVec Ideal S512x1024 .f32) (y : FVec Ideal S512x1024 .bf16) (w : FVec Ideal S1024x1024 .bf16) (r : Fin 512) (d : Fin 1024) :
    accV a y w (ix2 r d) = a (ix2 r d) + ∑ f : Fin 1024, y (ix2 r f) * w (ix2 f d) := by
  pointwise [accV]

/-- The residual. -/
def resV (h : FVec Ideal S512x1024 .f32) : FVec Ideal S512x1024 .f32 := mulf (broadcast S512x1024 (Scalar.ofBits .f32 0x3FB504F3#32)) h

theorem resV_apply (h : FVec Ideal S512x1024 .f32) (r : Fin 512) (d : Fin 1024) :
    resV h (ix2 r d) = Ideal.ofBits FTy.f32 0x3FB504F3#32 * h (ix2 r d) := by
  pointwise [resV]

/-- The mean of each row. -/
def meanV (z : FVec Ideal S512x1024 .f32) : FVec Ideal S512x1 .f32 :=
  divf (shapeCast S512x1 (multiReduction .add [1] S512 z 0x00000000#32 reduces_S512x1024_S512 (.inl rfl) rfl) shapeCasts_S512_S512x1) (broadcast S512x1 (Scalar.ofBits .f32 0x44800000#32))

theorem meanV_apply (z : FVec Ideal S512x1024 .f32) (r : Fin 512) : meanV z (ix2 r 0) = muE (fun k => z (ix2 r k)) := by
  pointwise [meanV]
  rfl

/-- The rows less their mean. -/
def devV (z : FVec Ideal S512x1024 .f32) (u : FVec Ideal S512x1 .f32) : FVec Ideal S512x1024 .f32 := subf z (broadcastTo S512x1024 u broadcasts_S512x1_S512x1024)

theorem devV_apply (z : FVec Ideal S512x1024 .f32) (u : FVec Ideal S512x1 .f32) (r : Fin 512) (d : Fin 1024) :
    devV z u (ix2 r d) = z (ix2 r d) - u (ix2 r 0) := by
  pointwise [devV]

/-- The rows scaled by the spread's inverse root, with gain and bias. -/
def endV (y : FVec Ideal S512x1024 .f32) (s : FVec Ideal S512x1 .f32) (g b : FVec Ideal S1x1024 .f32) : FVec Ideal S512x1024 .f32 :=
  addf (mulf (mulf y (broadcastTo S512x1024 (rsqrt (addf s (broadcast S512x1 (Scalar.ofBits .f32 0x3727C5AC#32)))) broadcasts_S512x1_S512x1024)) (broadcastTo S512x1024 g broadcasts_S1x1024_S512x1024)) (broadcastTo S512x1024 b broadcasts_S1x1024_S512x1024)

theorem endV_apply (y : FVec Ideal S512x1024 .f32) (s : FVec Ideal S512x1 .f32) (g b : FVec Ideal S1x1024 .f32) (r : Fin 512) (d : Fin 1024) :
    endV y s g b (ix2 r d) = y (ix2 r d) * Ideal.rsqrt (s (ix2 r 0) + Ideal.ofBits FTy.f32 0x3727C5AC#32) * g (ix2 0 d) + b (ix2 0 d) := by
  pointwise [endV]

/-- The norm of each row. -/
def lnV (z : FVec Ideal S512x1024 .f32) (g b : FVec Ideal S1x1024 .f32) : FVec Ideal S512x1024 .f32 :=
  endV (devV z (meanV z)) (meanV (mulf (devV z (meanV z)) (devV z (meanV z)))) g b

theorem lnV_apply (z : FVec Ideal S512x1024 .f32) (g b : FVec Ideal S1x1024 .f32) (r : Fin 512) (d : Fin 1024) :
    lnV z g b (ix2 r d) = lnE (fun k => z (ix2 r k)) (g (ix2 0 d)) (b (ix2 0 d)) d := by
  have e : ∀ k : Fin 1024, devV z (meanV z) (ix2 r k) = z (ix2 r k) - muE (fun k => z (ix2 r k)) := fun k => by rw [devV_apply, meanV_apply]
  unfold lnV
  rw [endV_apply, meanV_apply, e]
  have e2 : (fun k : Fin 1024 => mulf (devV z (meanV z)) (devV z (meanV z)) (ix2 r k)) =
      fun k => (z (ix2 r k) - muE (fun k => z (ix2 r k))) * (z (ix2 r k) - muE (fun k => z (ix2 r k))) := funext fun k => by
    show devV z (meanV z) (ix2 r k) * devV z (meanV z) (ix2 r k) = _
    rw [e]
  rw [e2]
  rfl

variable (x0 : Vec Ideal S512x1024 .bf16) (x1 : Vec Ideal S512x1024 .f32) (x2 : Vec Ideal S1024x4096 .bf16) (x3 : Vec Ideal S4096x1024 .bf16) (x4 x5 : Vec Ideal S1x1024 .f32)

/-- The rows before the norm, from the four slices of either weight. -/
def sumV (x : FVec Ideal S512x1024 .bf16) (h : FVec Ideal S512x1024 .f32) (a0 a1 a2 a3 b0 b1 b2 b3 : FVec Ideal S1024x1024 .bf16) : FVec Ideal S512x1024 .f32 :=
  accV (accV (accV (accV (resV h) (actV x a0) b0) (actV x a1) b1) (actV x a2) b2) (actV x a3) b3

def ldX : FVec Ideal S512x1024 .bf16 := View.ld (Val := Elt Ideal) (e' := .bf16) x0 r0_0
def ldH : FVec Ideal S512x1024 .f32 := View.ld (Val := Elt Ideal) (e' := .f32) x1 r0_0
def ldG (x : Vec Ideal S1x1024 .f32) : FVec Ideal S1x1024 .f32 := View.ld (Val := Elt Ideal) (e' := .f32) x r0_9
def ldA0 : FVec Ideal S1024x1024 .bf16 := View.ld (Val := Elt Ideal) (e' := .bf16) x2 r0_1
def ldA1 : FVec Ideal S1024x1024 .bf16 := View.ld (Val := Elt Ideal) (e' := .bf16) x2 r0_3
def ldA2 : FVec Ideal S1024x1024 .bf16 := View.ld (Val := Elt Ideal) (e' := .bf16) x2 r0_5
def ldA3 : FVec Ideal S1024x1024 .bf16 := View.ld (Val := Elt Ideal) (e' := .bf16) x2 r0_7
def ldB0 : FVec Ideal S1024x1024 .bf16 := View.ld (Val := Elt Ideal) (e' := .bf16) x3 r0_2
def ldB1 : FVec Ideal S1024x1024 .bf16 := View.ld (Val := Elt Ideal) (e' := .bf16) x3 r0_4
def ldB2 : FVec Ideal S1024x1024 .bf16 := View.ld (Val := Elt Ideal) (e' := .bf16) x3 r0_6
def ldB3 : FVec Ideal S1024x1024 .bf16 := View.ld (Val := Elt Ideal) (e' := .bf16) x3 r0_8

theorem ldX_apply (r : Fin 512) (d : Fin 1024) : ldX x0 (ix2 r d) = x0 (ix2 r d) := by pointwise [ldX]
theorem ldH_apply (r : Fin 512) (d : Fin 1024) : ldH x1 (ix2 r d) = x1 (ix2 r d) := by pointwise [ldH]
theorem ldG_apply (d : Fin 1024) : ldG x4 (ix2 0 d) = x4 (ix2 0 d) := by pointwise [ldG]
theorem ldA0_apply (k f : Fin 1024) : ldA0 x2 (ix2 k f) = x2 (ix2 k (⟨f.val, by omega⟩ : Fin 4096)) := by pointwise [ldA0]
theorem ldA1_apply (k f : Fin 1024) : ldA1 x2 (ix2 k f) = x2 (ix2 k (⟨1024 + f.val, by omega⟩ : Fin 4096)) := by pointwise [ldA1]
theorem ldA2_apply (k f : Fin 1024) : ldA2 x2 (ix2 k f) = x2 (ix2 k (⟨2048 + f.val, by omega⟩ : Fin 4096)) := by pointwise [ldA2]
theorem ldA3_apply (k f : Fin 1024) : ldA3 x2 (ix2 k f) = x2 (ix2 k (⟨3072 + f.val, by omega⟩ : Fin 4096)) := by pointwise [ldA3]
theorem ldB0_apply (f d : Fin 1024) : ldB0 x3 (ix2 f d) = x3 (ix2 (⟨f.val, by omega⟩ : Fin 4096) d) := by pointwise [ldB0]
theorem ldB1_apply (f d : Fin 1024) : ldB1 x3 (ix2 f d) = x3 (ix2 (⟨1024 + f.val, by omega⟩ : Fin 4096) d) := by pointwise [ldB1]
theorem ldB2_apply (f d : Fin 1024) : ldB2 x3 (ix2 f d) = x3 (ix2 (⟨2048 + f.val, by omega⟩ : Fin 4096) d) := by pointwise [ldB2]
theorem ldB3_apply (f d : Fin 1024) : ldB3 x3 (ix2 f d) = x3 (ix2 (⟨3072 + f.val, by omega⟩ : Fin 4096) d) := by pointwise [ldB3]

/-- The block's payload as the norm of the sum of its slices. -/
theorem pay6_eq : k0_pay6 x0 x1 x2 x3 x4 x5 = lnV (sumV (ldX x0) (ldH x1) (ldA0 x2) (ldA1 x2) (ldA2 x2) (ldA3 x2) (ldB0 x3) (ldB1 x3) (ldB2 x3) (ldB3 x3)) (ldG x4) (ldG x5) := by
  unfold k0_pay6 k0_pay5 k0_pay4 k0_pay3 k0_pay2
  simp only [shapeCast_self]
  rfl

/-- The rows before the norm, where the block's two copies of the rows agree. -/
theorem sum_value (hx : ∀ r d, x0 (ix2 r d) = x1 (ix2 r d)) (r : Fin 512) (d : Fin 1024) :
    sumV (ldX x0) (ldH x1) (ldA0 x2) (ldA1 x2) (ldA2 x2) (ldA3 x2) (ldB0 x3) (ldB1 x3) (ldB2 x3) (ldB3 x3) (ix2 r d) =
      zE (fun k => x1 (ix2 r k)) (fun k f => x2 (ix2 k f)) (fun f d => x3 (ix2 f d)) d := by
  unfold zE
  rw [sum_parts]
  unfold sumV
  simp only [accV_apply, actV_apply, resV_apply, ldX_apply, ldH_apply, ldA0_apply, ldA1_apply, ldA2_apply, ldA3_apply, ldB0_apply, ldB1_apply, ldB2_apply, ldB3_apply, hx]
  rfl

/-- Each column of each row of the block. -/
theorem pay6_value (hx : ∀ r d, x0 (ix2 r d) = x1 (ix2 r d)) (r : Fin 512) (d : Fin 1024) :
    k0_pay6 x0 x1 x2 x3 x4 x5 (ix2 r d) =
      lnE (zE (fun k => x1 (ix2 r k)) (fun k f => x2 (ix2 k f)) (fun f d => x3 (ix2 f d))) (x4 (ix2 0 d)) (x5 (ix2 0 d)) d := by
  rw [pay6_eq, lnV_apply, ldG_apply, ldG_apply]
  exact congrArg (fun z => lnE z (x4 (ix2 0 d)) (x5 (ix2 0 d)) d) (funext fun k => sum_value x0 x1 x2 x3 hx r k)

end Cert.Kernel2Ideal.Val

end
-- ==== Proof.Mlp.Arrays.lean ====
/- Hand-written: THE CHANNEL MIXER'S RESULT ARRAYS. The arrays the region is entered with, the block of each grid point
   (`block_value`), the blocks put together (`final6`, `final7`), the lines after the region (`tail0`, `tail1`). -/
module

public import proofs.«01_k».proof.Proof.Mlp.Block
public import Idealize.ShloMosaic.Lib.Pointwise
public import Idealize.ShloMosaic.Lib.Claim

@[expose] public section

set_option maxRecDepth 16384

noncomputable section

namespace Cert.Kernel2Ideal.Val

open Cert.Kernel2Ideal Cert.Kernel2Ideal.Gen
open Idealize.ShloMosaic Idealize.ShloMosaic.TcCoe Idealize.SL.Sem
open Cert.Proof.Mlp

/-- Row `i` of the rows of all batches, one below the other. -/
def rowE (h : FVec Ideal S8x2048x1024 .f32) (i : Fin 16384) (d : Fin 1024) : EReal :=
  h (ix3 (⟨i.val / 2048, by omega⟩ : Fin 8) (⟨i.val % 2048, by omega⟩ : Fin 2048) d)

/-- The mixer's rows, one below the other. -/
def outR (h : FVec Ideal S8x2048x1024 .f32) (w : FVec Ideal S1024x4096 .f32) (u : FVec Ideal S4096x1024 .f32) (g b : FVec Ideal S1024 .f32) :
    S16384x1024.Idx → EReal := fun i =>
  lnE (zE (rowE h (i 0)) (fun k f => w (ix2 k f)) (fun f d => u (ix2 f d))) (g (ix1 (i 1))) (b (ix1 (i 1))) (i 1)

/-! ## The arrays the region is entered with -/

def flatV (h : FVec Ideal S8x2048x1024 .f32) : FVec Ideal S16384x1024 .f32 := shapeCast _ h shapeCasts_S8x2048x1024_S16384x1024

theorem flatV_apply (h : FVec Ideal S8x2048x1024 .f32) (i : Fin 16384) (d : Fin 1024) : flatV h (ix2 i d) = rowE h i d := by
  pointwise [flatV]
  rfl

def wideV (g : FVec Ideal S1024 .f32) : FVec Ideal S1x1024 .f32 := shapeCast _ g shapeCasts_S1024_S1x1024

theorem wideV_apply (g : FVec Ideal S1024 .f32) (d : Fin 1024) : wideV g (ix2 0 d) = g (ix1 d) := by
  pointwise [wideV]

section
variable (m : (ℓ : Loc nD τ sig) → Buf (Elt Ideal) ℓ) (c : Dev nD)

theorem V_h : Gen.V m c main_v0 = flatV (m ((c : Thread nD τ).loc main_arg0)) := by
  entry_read
  rfl

theorem V_x : (Gen.V m c main_v1 : S16384x1024.Idx → EReal) = flatV (m ((c : Thread nD τ).loc main_arg0)) := by
  entry_read
  rfl

theorem V_w : (Gen.V m c main_v2 : S1024x4096.Idx → EReal) = m ((c : Thread nD τ).loc main_arg1) := by
  entry_read
  rfl

theorem V_u : (Gen.V m c main_v3 : S4096x1024.Idx → EReal) = m ((c : Thread nD τ).loc main_arg2) := by
  entry_read
  rfl

theorem V_g (d : Fin 1024) : (Gen.V m c main_v4 : FVec Ideal S1x1024 .f32) (ix2 0 d) = (m ((c : Thread nD τ).loc main_arg3) : FVec Ideal S1024 .f32) (ix1 d) := by
  have e : Gen.V m c main_v4 = wideV (m ((c : Thread nD τ).loc main_arg3)) := by
    entry_read
    rfl
  rw [e]
  exact wideV_apply _ d

theorem V_b (d : Fin 1024) : (Gen.V m c main_v5 : FVec Ideal S1x1024 .f32) (ix2 0 d) = (m ((c : Thread nD τ).loc main_arg4) : FVec Ideal S1024 .f32) (ix1 d) := by
  have e : Gen.V m c main_v5 = wideV (m ((c : Thread nD τ).loc main_arg4)) := by
    entry_read
    rfl
  rw [e]
  exact wideV_apply _ d
end

/-! ## Where each window's block lies -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = t.val ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)
theorem lt_N (t : Fin cfg0.N) : t.val < 32 := lt_of_lt_of_eq t.isLt (by decide +kernel : grid0.N = 32)

/-- Row `r` of grid point `t`'s block. -/
def row (t : Fin cfg0.N) (r : Fin 512) : Fin 16384 := ⟨512 * t.val + r.val, by have := lt_N t; omega⟩

theorem emb6 (t : Fin cfg0.N) (r : Fin 512) (d : Fin 1024) :
    ((cfg0.win 6).blk t).view.emb (ix2 r d) = (ix2 (row t r) d : S16384x1024.Idx) := by
  obtain ⟨e0, e1⟩ := at6 t
  funext a
  match a with
  | ⟨0, _⟩ => exact Fin.ext (by show win0_6.index t (0 : Fin 2) * 512 + 1 * r.val = 512 * t.val + r.val; omega)
  | ⟨1, _⟩ => exact Fin.ext (by show win0_6.index t (1 : Fin 2) * 1024 + 1 * d.val = d.val; omega)

theorem emb7 (t : Fin cfg0.N) (r : Fin 512) (d : Fin 1024) :
    ((cfg0.win 7).blk t).view.emb (ix2 r d) = (ix2 (row t r) d : S16384x1024.Idx) := by
  obtain ⟨e0, e1⟩ := at7 t
  funext a
  match a with
  | ⟨0, _⟩ => exact Fin.ext (by show win0_7.index t (0 : Fin 2) * 512 + 1 * r.val = 512 * t.val + r.val; omega)
  | ⟨1, _⟩ => exact Fin.ext (by show win0_7.index t (1 : Fin 2) * 1024 + 1 * d.val = d.val; omega)

section Blocks

variable (m : (ℓ : Loc nD τ sig) → Buf (Elt Ideal) ℓ) (c : Dev nD) (t : Fin cfg0.N)

theorem iblk0 (r : Fin 512) (d : Fin 1024) : (iblk m c 0 t : S512x1024.Idx → EReal) (ix2 r d) = rowE (m ((c : Thread nD τ).loc main_arg0)) (row t r) d := by
  obtain ⟨e0, e1⟩ := at0 t
  show (V m c main_v1 : S16384x1024.Idx → EReal) (((cfg0.win 0).blk t).view.emb (ix2 r d)) = _
  rw [← flatV_apply, V_x]
  refine congrArg (flatV (m ((c : Thread nD τ).loc main_arg0))) (funext fun a => ?_)
  match a with
  | ⟨0, _⟩ => exact Fin.ext (by show win0_0.index t (0 : Fin 2) * 512 + 1 * r.val = 512 * t.val + r.val; omega)
  | ⟨1, _⟩ => exact Fin.ext (by show win0_0.index t (1 : Fin 2) * 1024 + 1 * d.val = d.val; omega)

theorem iblk1 (r : Fin 512) (d : Fin 1024) : (iblk m c 1 t : S512x1024.Idx → EReal) (ix2 r d) = rowE (m ((c : Thread nD τ).loc main_arg0)) (row t r) d := by
  obtain ⟨e0, e1⟩ := at1 t
  show (V m c main_v0 : S16384x1024.Idx → EReal) (((cfg0.win 1).blk t).view.emb (ix2 r d)) = _
  rw [← flatV_apply, V_h]
  refine congrArg (flatV (m ((c : Thread nD τ).loc main_arg0))) (funext fun a => ?_)
  match a with
  | ⟨0, _⟩ => exact Fin.ext (by show win0_1.index t (0 : Fin 2) * 512 + 1 * r.val = 512 * t.val + r.val; omega)
  | ⟨1, _⟩ => exact Fin.ext (by show win0_1.index t (1 : Fin 2) * 1024 + 1 * d.val = d.val; omega)

theorem iblk2 (k : Fin 1024) (f : Fin 4096) : (iblk m c 2 t : S1024x4096.Idx → EReal) (ix2 k f) = (m ((c : Thread nD τ).loc main_arg1) : S1024x4096.Idx → EReal) (ix2 k f) := by
  obtain ⟨e0, e1⟩ := at2 t
  show (V m c main_v2 : S1024x4096.Idx → EReal) (((cfg0.win 2).blk t).view.emb (ix2 k f)) = _
  rw [V_w]
  refine congrArg (m ((c : Thread nD τ).loc main_arg1) : S1024x4096.Idx → EReal) (funext fun a => ?_)
  match a with
  | ⟨0, _⟩ => exact Fin.ext (by show win0_2.index t (0 : Fin 2) * 1024 + 1 * k.val = k.val; omega)
  | ⟨1, _⟩ => exact Fin.ext (by show win0_2.index t (1 : Fin 2) * 4096 + 1 * f.val = f.val; omega)

theorem iblk3 (f : Fin 4096) (d : Fin 1024) : (iblk m c 3 t : S4096x1024.Idx → EReal) (ix2 f d) = (m ((c : Thread nD τ).loc main_arg2) : S4096x1024.Idx → EReal) (ix2 f d) := by
  obtain ⟨e0, e1⟩ := at3 t
  show (V m c main_v3 : S4096x1024.Idx → EReal) (((cfg0.win 3).blk t).view.emb (ix2 f d)) = _
  rw [V_u]
  refine congrArg (m ((c : Thread nD τ).loc main_arg2) : S4096x1024.Idx → EReal) (funext fun a => ?_)
  match a with
  | ⟨0, _⟩ => exact Fin.ext (by show win0_3.index t (0 : Fin 2) * 4096 + 1 * f.val = f.val; omega)
  | ⟨1, _⟩ => exact Fin.ext (by show win0_3.index t (1 : Fin 2) * 1024 + 1 * d.val = d.val; omega)

theorem iblk4 (d : Fin 1024) : (iblk m c 4 t : S1x1024.Idx → EReal) (ix2 0 d) = (m ((c : Thread nD τ).loc main_arg3) : S1024.Idx → EReal) (ix1 d) := by
  obtain ⟨e0, e1⟩ := at4 t
  refine Eq.trans ?_ (V_g m c d)
  refine congrArg (V m c main_v4 : S1x1024.Idx → EReal) (?_ : ((cfg0.win 4).blk t).view.emb (ix2 0 d) = ix2 0 d)
  funext a
  match a with
  | ⟨0, _⟩ => exact Fin.ext (by show win0_4.index t (0 : Fin 2) * 1 + 1 * 0 = 0; omega)
  | ⟨1, _⟩ => exact Fin.ext (by show win0_4.index t (1 : Fin 2) * 1024 + 1 * d.val = d.val; omega)

theorem iblk5 (d : Fin 1024) : (iblk m c 5 t : S1x1024.Idx → EReal) (ix2 0 d) = (m ((c : Thread nD τ).loc main_arg4) : S1024.Idx → EReal) (ix1 d) := by
  obtain ⟨e0, e1⟩ := at5 t
  refine Eq.trans ?_ (V_b m c d)
  refine congrArg (V m c main_v5 : S1x1024.Idx → EReal) (?_ : ((cfg0.win 5).blk t).view.emb (ix2 0 d) = ix2 0 d)
  funext a
  match a with
  | ⟨0, _⟩ => exact Fin.ext (by show win0_5.index t (0 : Fin 2) * 1 + 1 * 0 = 0; omega)
  | ⟨1, _⟩ => exact Fin.ext (by show win0_5.index t (1 : Fin 2) * 1024 + 1 * d.val = d.val; omega)

/-- The mixer's rows from the arguments in memory. -/
def outM : S16384x1024.Idx → EReal := outR (m ((c : Thread nD τ).loc main_arg0)) (m ((c : Thread nD τ).loc main_arg1)) (m ((c : Thread nD τ).loc main_arg2))
  (m ((c : Thread nD τ).loc main_arg3)) (m ((c : Thread nD τ).loc main_arg4))

theorem block_value (r : Fin 512) (d : Fin 1024) :
    k0_pay6 (iblk m c 0 t) (iblk m c 1 t) (iblk m c 2 t) (iblk m c 3 t) (iblk m c 4 t) (iblk m c 5 t) (ix2 r d) = outM m c (ix2 (row t r) d) := by
  refine (pay6_value _ _ _ _ _ _ (fun r d => (iblk0 m c t r d).trans (iblk1 m c t r d).symm) r d).trans ?_
  have e1 : (fun k => (iblk m c 1 t : S512x1024.Idx → EReal) (ix2 r k)) = rowE (m ((c : Thread nD τ).loc main_arg0)) (row t r) := funext fun k => iblk1 m c t r k
  have e2 : (fun (k : Fin 1024) (f : Fin 4096) => (iblk m c 2 t : S1024x4096.Idx → EReal) (ix2 k f)) = fun k f => (m ((c : Thread nD τ).loc main_arg1) : S1024x4096.Idx → EReal) (ix2 k f) :=
    funext fun k => funext fun f => iblk2 m c t k f
  have e3 : (fun (f : Fin 4096) (d : Fin 1024) => (iblk m c 3 t : S4096x1024.Idx → EReal) (ix2 f d)) = fun f d => (m ((c : Thread nD τ).loc main_arg2) : S4096x1024.Idx → EReal) (ix2 f d) :=
    funext fun f => funext fun d => iblk3 m c t f d
  exact congr (congr (congrArg₂ lnE (congr (congrArg₂ zE e1 e2) e3) (iblk4 m c t d)) (iblk5 m c t d)) rfl

theorem canon_one (p : Vec Ideal S512x1024 .f32) (r : Fin 512) (d : Fin 1024) :
    View.canon (Val := Elt Ideal) [(⟨r0_0, p⟩ : View.Piece (Elt Ideal) S512x1024 .f32)] (ix2 r d) = p (ix2 r d) := by
  have e : r0_0.emb (ix2 r d) = (ix2 r d : S512x1024.Idx) := by
    funext a
    match a with
    | ⟨0, _⟩ => exact Fin.ext (by show 0 + 1 * r.val = r.val; omega)
    | ⟨1, _⟩ => exact Fin.ext (by show 0 + 1 * d.val = d.val; omega)
  have h := View.canon_cons_emb (Val := Elt Ideal) (e := .f32) r0_0 p [] (ix2 r d)
  rw [e] at h
  exact h

theorem canon_two (p : Vec Ideal S512x1024 .bf16) (r : Fin 512) (d : Fin 1024) :
    View.canon (Val := Elt Ideal) [(⟨r0_0, p⟩ : View.Piece (Elt Ideal) S512x1024 .bf16)] (ix2 r d) = p (ix2 r d) := by
  have e : r0_0.emb (ix2 r d) = (ix2 r d : S512x1024.Idx) := by
    funext a
    match a with
    | ⟨0, _⟩ => exact Fin.ext (by show 0 + 1 * r.val = r.val; omega)
    | ⟨1, _⟩ => exact Fin.ext (by show 0 + 1 * d.val = d.val; omega)
  have h := View.canon_cons_emb (Val := Elt Ideal) (e := .bf16) r0_0 p [] (ix2 r d)
  rw [e] at h
  exact h

theorem ix_eta {a b : ℕ} (j : (⟨2, ![a, b]⟩ : Shape).Idx) : j = ix2 (j 0) (j 1) := by
  funext i
  match i with
  | ⟨0, _⟩ => rfl
  | ⟨1, _⟩ => rfl

theorem flushed6 : (dats m 0 c).flushed 6 t = ((cfg0.win 6).blk t).view.read (Elt Ideal) (outM m c : FVec Ideal S16384x1024 .f32) := by
  funext j
  show (dats m 0 c).after 6 t j = outM m c (((cfg0.win 6).blk t).view.emb j)
  rw [after0_6]
  obtain ⟨r, d, rfl⟩ : ∃ (r : Fin 512) (d : Fin 1024), j = ix2 r d := ⟨j 0, j 1, ix_eta (a := 512) (b := 1024) j⟩
  rw [emb6]
  exact (canon_one _ r d).trans (block_value m c t r d)

theorem flushed7 : (dats m 0 c).flushed 7 t = ((cfg0.win 7).blk t).view.read (Elt Ideal) (outM m c : FVec Ideal S16384x1024 .bf16) := by
  funext j
  show (dats m 0 c).after 7 t j = outM m c (((cfg0.win 7).blk t).view.emb j)
  rw [after0_7]
  obtain ⟨r, d, rfl⟩ : ∃ (r : Fin 512) (d : Fin 1024), j = ix2 r d := ⟨j 0, j 1, ix_eta (a := 512) (b := 1024) j⟩
  rw [emb7]
  exact (canon_two _ r d).trans (block_value m c t r d)

end Blocks

section Whole

variable (m : (ℓ : Loc nD τ sig) → Buf (Elt Ideal) ℓ) (c : Dev nD)

theorem covered6 (i : S16384x1024.Idx) : ∃ t : Fin cfg0.N, (cfg0.win 6).flush t = true ∧ i ∈ ((cfg0.win 6).blk t).view.set := by
  have h0 : (i 0).val < 16384 := (i 0).isLt
  let t : Fin cfg0.N := ⟨(i 0).val / 512, lt_of_lt_of_eq (by omega) (by decide +kernel : 32 = grid0.N)⟩
  refine ⟨t, flush0_6 _, ?_⟩
  have h := ((cfg0.win 6).blk t).view.emb_mem_set (ix2 (⟨(i 0).val % 512, by omega⟩ : Fin 512) (i 1 : Fin 1024) : S512x1024.Idx)
  refine Eq.mp (congrArg (fun z : S16384x1024.Idx => z ∈ ((cfg0.win 6).blk t).view.set) ((emb6 t _ _).trans (funext fun a => ?_))) h
  match a with
  | ⟨0, _⟩ => exact Fin.ext (by show 512 * ((i 0).val / 512) + (i 0).val % 512 = (i 0).val; omega)
  | ⟨1, _⟩ => rfl

theorem covered7 (i : S16384x1024.Idx) : ∃ t : Fin cfg0.N, (cfg0.win 7).flush t = true ∧ i ∈ ((cfg0.win 7).blk t).view.set := by
  have h0 : (i 0).val < 16384 := (i 0).isLt
  let t : Fin cfg0.N := ⟨(i 0).val / 512, lt_of_lt_of_eq (by omega) (by decide +kernel : 32 = grid0.N)⟩
  refine ⟨t, flush0_7 _, ?_⟩
  have h := ((cfg0.win 7).blk t).view.emb_mem_set (ix2 (⟨(i 0).val % 512, by omega⟩ : Fin 512) (i 1 : Fin 1024) : S512x1024.Idx)
  refine Eq.mp (congrArg (fun z : S16384x1024.Idx => z ∈ ((cfg0.win 7).blk t).view.set) ((emb7 t _ _).trans (funext fun a => ?_))) h
  match a with
  | ⟨0, _⟩ => exact Fin.ext (by show 512 * ((i 0).val / 512) + (i 0).val % 512 = (i 0).val; omega)
  | ⟨1, _⟩ => rfl

theorem final6 : (dats m 0 c).arrAt 6 cfg0.N = (outM m c : FVec Ideal S16384x1024 .f32) :=
  (dats m 0 c).arrAt_eq_of_cover 6 (outM m c : FVec Ideal S16384x1024 .f32) (fun t _ => flushed6 m c t) covered6

theorem final7 : (dats m 0 c).arrAt 7 cfg0.N = (outM m c : FVec Ideal S16384x1024 .bf16) :=
  (dats m 0 c).arrAt_eq_of_cover 7 (outM m c : FVec Ideal S16384x1024 .bf16) (fun t _ => flushed7 m c t) covered7

theorem tail0 : Pipeline.afterTail₀ cfgs (dats m) 0 (V0 m) [hostOps1] c main_v7 =
    (shapeCast S8x2048x1024 (outM m c) shapeCasts_S16384x1024_S8x2048x1024 : FVec Ideal S8x2048x1024 .f32) := by
  have e := Pipeline.withArrays_arr spec0 launch0.win.arr_inj c (V0 m c) (fun w => (dats m 0 c).arrAt w cfg0.N) 6
  rw [final6] at e
  unfold Pipeline.afterTail₀
  after_results
  exact congrArg (fun z : S16384x1024.Idx → EReal => shapeCast S8x2048x1024 z shapeCasts_S16384x1024_S8x2048x1024) e

theorem tail1 : Pipeline.afterTail₀ cfgs (dats m) 0 (V0 m) [hostOps1] c main_v8 =
    (shapeCast S8x2048x1024 (outM m c) shapeCasts_S16384x1024_S8x2048x1024 : FVec Ideal S8x2048x1024 .bf16) := by
  have e := Pipeline.withArrays_arr spec0 launch0.win.arr_inj c (V0 m c) (fun w => (dats m 0 c).arrAt w cfg0.N) 7
  rw [final7] at e
  unfold Pipeline.afterTail₀
  after_results
  exact congrArg (fun z : S16384x1024.Idx → EReal => shapeCast S8x2048x1024 z shapeCasts_S16384x1024_S8x2048x1024) e

end Whole

end Cert.Kernel2Ideal.Val

end
-- ==== Proof.Mlp.Refer.lean ====
/- Hand-written: THE REFERENCE'S RESULT ARRAYS: each column of each row is `lnE` of `zE` (`res_apply`). -/
module

public import proofs.«01_k».proof.Proof.Gen.Reference2Ideal.Run
public import proofs.«01_k».proof.Proof.Mlp.Spec
public import Idealize.ShloMosaic.Lib.Pointwise

@[expose] public section

set_option maxRecDepth 16384

noncomputable section

namespace Cert.Proof.MlpRef

open Cert.Reference2Ideal Cert.Reference2Ideal.Gen Cert.Reference2Ideal.Value
open Idealize.ShloMosaic Idealize.ShloMosaic.TcCoe Idealize.SL.Sem
open Cert.Proof.Mlp

/-- The hidden layer. -/
def hidV (h : FVec Ideal S8x2048x1024 .f32) (w : FVec Ideal S1024x4096 .f32) : FVec Ideal S8x2048x4096 .f32 :=
  mulf (maximumf (Host.dotGeneral dot_S8x2048x1024_S1024x4096_S8x2048x4096_2_0_01_1_n_n none h w) (broadcastInDim S8x2048x4096 ![] bcast_S_S8x2048x4096 (constant S_ .f32 0x00000000#32)))
    (maximumf (Host.dotGeneral dot_S8x2048x1024_S1024x4096_S8x2048x4096_2_0_01_1_n_n none h w) (broadcastInDim S8x2048x4096 ![] bcast_S_S8x2048x4096 (constant S_ .f32 0x00000000#32)))

theorem hidV_apply (h : FVec Ideal S8x2048x1024 .f32) (w : FVec Ideal S1024x4096 .f32) (b : Fin 8) (x : Fin 2048) (f : Fin 4096) :
    hidV h w (ix3 b x f) = sqE (∑ k : Fin 1024, h (ix3 b x k) * w (ix2 k f)) := by
  pointwise [hidV]
  rfl

/-- The rows before the norm. -/
def zV (h : FVec Ideal S8x2048x1024 .f32) (y : FVec Ideal S8x2048x4096 .f32) (u : FVec Ideal S4096x1024 .f32) : FVec Ideal S8x2048x1024 .f32 :=
  addf (mulf (broadcastInDim S8x2048x1024 ![] bcast_S_S8x2048x1024 (constant S_ .f32 0x3FB504F3#32)) h)
    (Host.dotGeneral dot_S8x2048x4096_S4096x1024_S8x2048x1024_2_0_01_1_n_n none y u)

theorem zV_apply (h : FVec Ideal S8x2048x1024 .f32) (y : FVec Ideal S8x2048x4096 .f32) (u : FVec Ideal S4096x1024 .f32) (b : Fin 8) (x : Fin 2048) (d : Fin 1024) :
    zV h y u (ix3 b x d) = Ideal.ofBits FTy.f32 0x3FB504F3#32 * h (ix3 b x d) + ∑ f : Fin 4096, y (ix3 b x f) * u (ix2 f d) := by
  pointwise [zV]

/-- The mean of each row. -/
def meanV (z : FVec Ideal S8x2048x1024 .f32) : FVec Ideal S8x2048x1 .f32 :=
  Host.divf (broadcastInDim S8x2048x1 ![0, 1] bcast_S8x2048_S8x2048x1_0_1 (Host.reduceAdd z (constant S_ .f32 0x00000000#32) reducesTo_S8x2048x1024_S8x2048_d2 h_S_))
    (broadcastInDim S8x2048x1 ![] bcast_S_S8x2048x1 (constant S_ .f32 0x44800000#32))

theorem meanV_apply (z : FVec Ideal S8x2048x1024 .f32) (b : Fin 8) (x : Fin 2048) : meanV z (ix3 b x 0) = muE (fun k => z (ix3 b x k)) := by
  pointwise [meanV]
  rfl

/-- The rows less their mean. -/
def devV (z : FVec Ideal S8x2048x1024 .f32) (u : FVec Ideal S8x2048x1 .f32) : FVec Ideal S8x2048x1024 .f32 :=
  subf z (broadcastInDim S8x2048x1024 ![0, 1, 2] bcast_S8x2048x1_S8x2048x1024_0_1_2 u)

theorem devV_apply (z : FVec Ideal S8x2048x1024 .f32) (u : FVec Ideal S8x2048x1 .f32) (b : Fin 8) (x : Fin 2048) (d : Fin 1024) :
    devV z u (ix3 b x d) = z (ix3 b x d) - u (ix3 b x 0) := by
  pointwise [devV]

/-- The rows scaled by the spread's inverse root, with gain and bias. -/
def endV (y : FVec Ideal S8x2048x1024 .f32) (s : FVec Ideal S8x2048x1 .f32) (g b : FVec Ideal S1024 .f32) : FVec Ideal S8x2048x1024 .f32 :=
  addf (mulf (mulf y (broadcastInDim S8x2048x1024 ![0, 1, 2] bcast_S8x2048x1_S8x2048x1024_0_1_2 (Host.rsqrt (addf s (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g)))
    (broadcastInDim S8x2048x1024 ![0, 1, 2] bcast_S1x1x1024_S8x2048x1024_0_1_2 (broadcastInDim S1x1x1024 ![2] bcast_S1024_S1x1x1024_2 b))

theorem endV_apply (y : FVec Ideal S8x2048x1024 .f32) (s : FVec Ideal S8x2048x1 .f32) (g b : FVec Ideal S1024 .f32) (i : Fin 8) (x : Fin 2048) (d : Fin 1024) :
    endV y s g b (ix3 i x d) = y (ix3 i x d) * Ideal.rsqrt (s (ix3 i x 0) + Ideal.ofBits FTy.f32 0x3727C5AC#32) * g (ix1 d) + b (ix1 d) := by
  pointwise [endV]

/-- The norm of each row. -/
def lnV (z : FVec Ideal S8x2048x1024 .f32) (g b : FVec Ideal S1024 .f32) : FVec Ideal S8x2048x1024 .f32 :=
  endV (devV z (meanV z)) (meanV (mulf (devV z (meanV z)) (devV z (meanV z)))) g b

theorem lnV_apply (z : FVec Ideal S8x2048x1024 .f32) (g b : FVec Ideal S1024 .f32) (i : Fin 8) (x : Fin 2048) (d : Fin 1024) :
    lnV z g b (ix3 i x d) = lnE (fun k => z (ix3 i x k)) (g (ix1 d)) (b (ix1 d)) d := by
  have e : ∀ k : Fin 1024, devV z (meanV z) (ix3 i x k) = z (ix3 i x k) - muE (fun k => z (ix3 i x k)) := fun k => by rw [devV_apply, meanV_apply]
  unfold lnV
  rw [endV_apply, meanV_apply, e]
  have e2 : (fun k : Fin 1024 => mulf (devV z (meanV z)) (devV z (meanV z)) (ix3 i x k)) =
      fun k => (z (ix3 i x k) - muE (fun k => z (ix3 i x k))) * (z (ix3 i x k) - muE (fun k => z (ix3 i x k))) := funext fun k => by
    show devV z (meanV z) (ix3 i x k) * devV z (meanV z) (ix3 i x k) = _
    rw [e]
  rw [e2]
  rfl

/-- The channel mixer's result array. -/
def outV (h : FVec Ideal S8x2048x1024 .f32) (w : FVec Ideal S1024x4096 .f32) (u : FVec Ideal S4096x1024 .f32) (g b : FVec Ideal S1024 .f32) : FVec Ideal S8x2048x1024 .f32 :=
  lnV (zV h (hidV h w) u) g b

theorem outV_apply (h : FVec Ideal S8x2048x1024 .f32) (w : FVec Ideal S1024x4096 .f32) (u : FVec Ideal S4096x1024 .f32) (g b : FVec Ideal S1024 .f32)
    (i : Fin 8) (x : Fin 2048) (d : Fin 1024) :
    outV h w u g b (ix3 i x d) = lnE (zE (fun k => h (ix3 i x k)) (fun k f => w (ix2 k f)) (fun f d => u (ix2 f d))) (g (ix1 d)) (b (ix1 d)) d := by
  unfold outV
  rw [lnV_apply]
  refine congrArg (fun z => lnE z (g (ix1 d)) (b (ix1 d)) d) (funext fun k => ?_)
  rw [zV_apply]
  simp only [hidV_apply]
  rfl

theorem res0_eq (m : (ℓ : Loc nD τ sig) → Buf (Elt Ideal) ℓ) (c : Dev nD) :
    res_out0 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem res1_eq (m : (ℓ : Loc nD τ sig) → Buf (Elt Ideal) ℓ) (c : Dev nD) :
    (res_out1 m c : S8x2048x1024.Idx → EReal) = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.Proof.MlpRef

end
-- ==== Proof.Mlp.Alg.lean ====
/- Hand-written: THE CHANNEL MIXER'S VALUE CLAIM: the kernel's rows put back into batches are the reference's result. -/
module

public import proofs.«01_k».proof.Defs
public import proofs.«01_k».proof.Proof.Mlp.Arrays
public import proofs.«01_k».proof.Proof.Mlp.Refer

@[expose] public section

set_option maxRecDepth 16384

noncomputable section

namespace Cert.Proof

open Idealize.ShloMosaic Idealize.ShloMosaic.TcCoe Idealize.SL.Sem

theorem frame_ref2 : Cert.quiescent_Reference2Ideal (hReference2Ideal := Cert.Reference2Ideal.Gen.facts) :=
  fun m ρ _ => (θ_run Cert.Reference2Ideal.defs _ _).mono (fun r h => ⟨fun c => (h c).2.2, sem_eq_zero_of_no_sems rfl r.2⟩)
    (Cert.Reference2Ideal.Value.run (F := Ideal) m ρ)

section Run

open Cert.Kernel2Ideal Cert.Kernel2Ideal.Gen

variable (m : (ℓ : Loc nD τ sig) → Buf (Elt Ideal) ℓ) (ρ : Dev nD → PrngReg)

/-- The mixer's run with its result arrays. -/
theorem run_value2 : θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v7 (Pipeline.mem_restRefs_of main_v7 (by decide) (by decide)),
      (h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Run

section Meet

open Cert.Kernel2Ideal Cert.Kernel2Ideal.Gen Cert.Kernel2Ideal.Val Cert.Proof.Mlp

/-- The rows put back into batches. -/
def batchV (z : FVec Ideal S16384x1024 .f32) : FVec Ideal S8x2048x1024 .f32 := shapeCast S8x2048x1024 z shapeCasts_S16384x1024_S8x2048x1024

theorem batchV_apply (z : FVec Ideal S16384x1024 .f32) (i : Fin 8) (x : Fin 2048) (d : Fin 1024) :
    batchV z (ix3 i x d) = z (ix2 (⟨i.val * 2048 + x.val, by omega⟩ : Fin 16384) d) := by
  pointwise [batchV]

theorem meet2 (h : FVec Ideal S8x2048x1024 .f32) (w : FVec Ideal S1024x4096 .f32) (u : FVec Ideal S4096x1024 .f32) (g b : FVec Ideal S1024 .f32) :
    Cert.Proof.MlpRef.outV h w u g b = batchV (outR h w u g b) := by
  funext j
  obtain ⟨i, x, d, rfl⟩ : ∃ (i : Fin 8) (x : Fin 2048) (d : Fin 1024), j = ix3 i x d := ⟨j 0, j 1, j 2, funext fun a => by
    match a with
    | ⟨0, _⟩ => rfl
    | ⟨1, _⟩ => rfl
    | ⟨2, _⟩ => rfl⟩
  rw [batchV_apply]
  refine (Cert.Proof.MlpRef.outV_apply h w u g b i x d).trans ?_
  have e : rowE h (⟨i.val * 2048 + x.val, by omega⟩ : Fin 16384) = fun k => h (ix3 i x k) := funext fun k =>
    congrArg h (funext fun a => by
      match a with
      | ⟨0, _⟩ => exact Fin.ext (by show (i.val * 2048 + x.val) / 2048 = i.val; omega)
      | ⟨1, _⟩ => exact Fin.ext (by show (i.val * 2048 + x.val) % 2048 = x.val; omega)
      | ⟨2, _⟩ => rfl)
  show _ = lnE (zE (rowE h (⟨i.val * 2048 + x.val, by omega⟩ : Fin 16384)) (fun k f => w (ix2 k f)) (fun f d => u (ix2 f d))) (g (ix1 d)) (b (ix1 d)) d
  rw [e]

end Meet

theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, run_value2 m ρ, ?_⟩
  refine (θ_run Cert.Reference2Ideal.defs _ _).mono (fun _ h c => ⟨(h c).1.trans ?_, (h c).2.1.trans ?_, (h c).2.2⟩) (Cert.Reference2Ideal.Value.run (F := Ideal) m' ρ')
  · obtain ⟨a0, a1, a2, a3, a4⟩ := hagree c
    refine (Cert.Proof.MlpRef.res0_eq m' c).trans ?_
    rw [a0, a1, a2, a3, a4]
    exact (meet2 _ _ _ _ _).trans (Cert.Kernel2Ideal.Val.tail0 m c).symm
  · obtain ⟨a0, a1, a2, a3, a4⟩ := hagree c
    refine (Cert.Proof.MlpRef.res1_eq m' c).trans ?_
    rw [a0, a1, a2, a3, a4]
    exact (meet2 _ _ _ _ _).trans (Cert.Kernel2Ideal.Val.tail1 m c).symm

end Cert.Proof

end
-- ==== Proof.Merge.Block.lean ====
/- Hand-written: THE MERGE OF ONE ROW (`mixE`, `zmE`) and what one block of 512 rows computes: the norm of the residual with the
   projected sum of the three gated branches (`payM_value`). -/
module

public import proofs.«01_k».proof.Proof.Gen.Kernel3Ideal.Frame
public import proofs.«01_k».proof.Proof.Mlp.Block
public import Idealize.ShloMosaic.Lib.Pointwise

@[expose] public section

set_option maxRecDepth 16384

noncomputable section

namespace Cert.Proof.Mlp

/-- Column `d` of the gated sum of three branches. -/
def mixE (ga gb gc ya yb yc : Fin 1024 → EReal) (wa wb wc : Fin 1024 → Fin 1024 → EReal) (d : Fin 1024) : EReal :=
  ga d * (∑ k : Fin 1024, ya k * wa k d) + gb d * (∑ k : Fin 1024, yb k * wb k d) + gc d * (∑ k : Fin 1024, yc k * wc k d)

/-- Column `d` of the residual with the projected sum. -/
def zmE (x h : Fin 1024 → EReal) (w : Fin 1024 → Fin 1024 → EReal) (d : Fin 1024) : EReal :=
  Idealize.ShloMosaic.Ideal.ofBits Idealize.ShloMosaic.FTy.f32 0x3FB504F3#32 * h d + ∑ k : Fin 1024, x k * w k d

end Cert.Proof.Mlp

namespace Cert.Kernel3Ideal.Val

open Cert.Kernel3Ideal Cert.Kernel3Ideal.Gen
open Idealize.ShloMosaic Idealize.ShloMosaic.TcCoe
open Cert.Proof.Mlp
open Cert.Kernel2Ideal.Val (lnV lnV_apply accV accV_apply resV resV_apply)

/-- One branch's product, gated and added. -/
def gateV (a : FVec Ideal S512x1024 .f32) (g y : FVec Ideal S512x1024 .bf16) (w : FVec Ideal S1024x1024 .bf16) : FVec Ideal S512x1024 .f32 :=
  addf a (mulf (extf .f32 g bitsLt_bf16_f32) (matmul dot_S512x1024_S1024x1024_S512x1024_1_0_0_1_n_n none y w (constant S512x1024 .f32 0x00000000#32)))

theorem gateV_apply (a : FVec Ideal S512x1024 .f32) (g y : FVec Ideal S512x1024 .bf16) (w : FVec Ideal S1024x1024 .bf16) (r : Fin 512) (d : Fin 1024) :
    gateV a g y w (ix2 r d) = a (ix2 r d) + g (ix2 r d) * ∑ k : Fin 1024, y (ix2 r k) * w (ix2 k d) := by
  pointwise [gateV]

/-- The three gated branches. -/
def mixV (g0 y0 : FVec Ideal S512x1024 .bf16) (w0 : FVec Ideal S1024x1024 .bf16) (g1 y1 : FVec Ideal S512x1024 .bf16) (w1 : FVec Ideal S1024x1024 .bf16)
    (g2 y2 : FVec Ideal S512x1024 .bf16) (w2 : FVec Ideal S1024x1024 .bf16) : FVec Ideal S512x1024 .f32 :=
  gateV (gateV (gateV (broadcast S512x1024 (Scalar.ofBits .f32 0x00000000#32)) g0 y0 w0) g1 y1 w1) g2 y2 w2

theorem zero_word : (broadcast S512x1024 (Scalar.ofBits (F := Ideal) .f32 0x00000000#32) : FVec Ideal S512x1024 .f32) = fun _ => (0 : EReal) := by
  funext j
  show Ideal.ofBits FTy.f32 0x00000000#32 = 0
  simp [Ideal.ofBits, Ideal.ieee]

theorem mixV_apply (g0 y0 : FVec Ideal S512x1024 .bf16) (w0 : FVec Ideal S1024x1024 .bf16) (g1 y1 : FVec Ideal S512x1024 .bf16) (w1 : FVec Ideal S1024x1024 .bf16)
    (g2 y2 : FVec Ideal S512x1024 .bf16) (w2 : FVec Ideal S1024x1024 .bf16) (r : Fin 512) (d : Fin 1024) :
    mixV g0 y0 w0 g1 y1 w1 g2 y2 w2 (ix2 r d) = mixE (fun d => g0 (ix2 r d)) (fun d => g1 (ix2 r d)) (fun d => g2 (ix2 r d))
      (fun k => y0 (ix2 r k)) (fun k => y1 (ix2 r k)) (fun k => y2 (ix2 r k)) (fun k d => w0 (ix2 k d)) (fun k d => w1 (ix2 k d)) (fun k d => w2 (ix2 k d)) d := by
  unfold mixV mixE
  rw [gateV_apply, gateV_apply, gateV_apply, zero_word]
  show (0 : EReal) + _ + _ + _ = _
  rw [zero_add]

variable (x0 x1 x2 : Vec Ideal S512x1024 .bf16) (x3 : Vec Ideal S512x3072 .bf16) (x4 : Vec Ideal S512x1024 .f32) (x5 x6 x7 x8 : Vec Ideal S1024x1024 .bf16) (x9 x10 : Vec Ideal S1x1024 .f32)

def ldY (x : Vec Ideal S512x1024 .bf16) : FVec Ideal S512x1024 .bf16 := View.ld (Val := Elt Ideal) (e' := .bf16) x r0_1
def ldH (x : Vec Ideal S512x1024 .f32) : FVec Ideal S512x1024 .f32 := View.ld (Val := Elt Ideal) (e' := .f32) x r0_1
def ldW (x : Vec Ideal S1024x1024 .bf16) : FVec Ideal S1024x1024 .bf16 := View.ld (Val := Elt Ideal) (e' := .bf16) x r0_2
def ldB (x : Vec Ideal S1x1024 .f32) : FVec Ideal S1x1024 .f32 := View.ld (Val := Elt Ideal) (e' := .f32) x r0_5
def ldG0 : FVec Ideal S512x1024 .bf16 := View.ld (Val := Elt Ideal) (e' := .bf16) x3 r0_0
def ldG1 : FVec Ideal S512x1024 .bf16 := View.ld (Val := Elt Ideal) (e' := .bf16) x3 r0_3
def ldG2 : FVec Ideal S512x1024 .bf16 := View.ld (Val := Elt Ideal) (e' := .bf16) x3 r0_4

theorem ldY_apply (x : Vec Ideal S512x1024 .bf16) (r : Fin 512) (d : Fin 1024) : ldY x (ix2 r d) = x (ix2 r d) := by pointwise [ldY]
theorem ldH_apply (x : Vec Ideal S512x1024 .f32) (r : Fin 512) (d : Fin 1024) : ldH x (ix2 r d) = x (ix2 r d) := by pointwise [ldH]
theorem ldW_apply (x : Vec Ideal S1024x1024 .bf16) (k d : Fin 1024) : ldW x (ix2 k d) = x (ix2 k d) := by pointwise [ldW]
theorem ldB_apply (x : Vec Ideal S1x1024 .f32) (d : Fin 1024) : ldB x (ix2 0 d) = x (ix2 0 d) := by pointwise [ldB]
theorem ldG0_apply (r : Fin 512) (d : Fin 1024) : ldG0 x3 (ix2 r d) = x3 (ix2 r (⟨d.val, by omega⟩ : Fin 3072)) := by pointwise [ldG0]
theorem ldG1_apply (r : Fin 512) (d : Fin 1024) : ldG1 x3 (ix2 r d) = x3 (ix2 r (⟨1024 + d.val, by omega⟩ : Fin 3072)) := by pointwise [ldG1]
theorem ldG2_apply (r : Fin 512) (d : Fin 1024) : ldG2 x3 (ix2 r d) = x3 (ix2 r (⟨2048 + d.val, by omega⟩ : Fin 3072)) := by pointwise [ldG2]

/-- The block's payload. -/
def payM : FVec Ideal S512x1024 .f32 :=
  k0_pay1 (k0_pay6 x0 x1 x2 x3 x4 x5 x6 x7 x8 x9 x10) (k0_pay7 x0 x1 x2 x3 x4 x5 x6 x7 x8 x9 x10) (k0_pay8 x0 x1 x2 x3 x4 x5 x6 x7 x8 x9 x10)
    (View.ld x8 r0_2) (View.ld x9 r0_5) (View.ld x10 r0_5)

/-- The gated branches in the narrow type. -/
def narrowV (z : FVec Ideal S512x1024 .f32) : FVec Ideal S512x1024 .bf16 := truncf .bf16 z bitsLt_bf16_f32

theorem payM_eq : payM x0 x1 x2 x3 x4 x5 x6 x7 x8 x9 x10 =
    lnV (accV (resV (ldH x4)) (narrowV (mixV (ldG0 x3) (ldY x0) (ldW x5) (ldG1 x3) (ldY x1) (ldW x6) (ldG2 x3) (ldY x2) (ldW x7))) (ldW x8)) (ldB x9) (ldB x10) := by
  unfold payM k0_pay1 k0_pay6 k0_pay7 k0_pay8 k0_pay3 k0_pay4 k0_pay5
  simp only [shapeCast_self]
  rfl

/-- Each column of each row of the block. -/
theorem payM_value (r : Fin 512) (d : Fin 1024) : payM x0 x1 x2 x3 x4 x5 x6 x7 x8 x9 x10 (ix2 r d) =
    lnE (zmE (mixE (fun d => x3 (ix2 r (⟨d.val, by omega⟩ : Fin 3072))) (fun d => x3 (ix2 r (⟨1024 + d.val, by omega⟩ : Fin 3072))) (fun d => x3 (ix2 r (⟨2048 + d.val, by omega⟩ : Fin 3072)))
      (fun k => x0 (ix2 r k)) (fun k => x1 (ix2 r k)) (fun k => x2 (ix2 r k)) (fun k d => x5 (ix2 k d)) (fun k d => x6 (ix2 k d)) (fun k d => x7 (ix2 k d)))
      (fun k => x4 (ix2 r k)) (fun k d => x8 (ix2 k d))) (x9 (ix2 0 d)) (x10 (ix2 0 d)) d := by
  rw [payM_eq, lnV_apply, ldB_apply, ldB_apply]
  refine congrArg (fun z => lnE z (x9 (ix2 0 d)) (x10 (ix2 0 d)) d) (funext fun e => ?_)
  rw [accV_apply, resV_apply, ldH_apply]
  have hm : ∀ k : Fin 1024, narrowV (mixV (ldG0 x3) (ldY x0) (ldW x5) (ldG1 x3) (ldY x1) (ldW x6) (ldG2 x3) (ldY x2) (ldW x7)) (ix2 r k) =
      mixE (fun d => x3 (ix2 r (⟨d.val, by omega⟩ : Fin 3072))) (fun d => x3 (ix2 r (⟨1024 + d.val, by omega⟩ : Fin 3072))) (fun d => x3 (ix2 r (⟨2048 + d.val, by omega⟩ : Fin 3072)))
      (fun k => x0 (ix2 r k)) (fun k => x1 (ix2 r k)) (fun k => x2 (ix2 r k)) (fun k d => x5 (ix2 k d)) (fun k d => x6 (ix2 k d)) (fun k d => x7 (ix2 k d)) k := fun k => by
    refine (mixV_apply _ _ _ _ _ _ _ _ _ r k).trans ?_
    simp only [ldG0_apply, ldG1_apply, ldG2_apply, ldY_apply, ldW_apply]
  simp only [hm, ldW_apply]
  rfl

end Cert.Kernel3Ideal.Val

end
-- ==== Proof.Merge.Arrays.lean ====
/- Hand-written: THE MERGE'S RESULT ARRAYS. The arrays the region is entered with, the block of each grid point
   (`block_value`), the blocks put together (`final11`, `final12`), the lines after the region (`tail0`, `tail1`). -/
module

public import proofs.«01_k».proof.Proof.Merge.Block
public import proofs.«01_k».proof.Proof.Mlp.Arrays
public import Idealize.ShloMosaic.Lib.Pointwise
public import Idealize.ShloMosaic.Lib.Claim

@[expose] public section

set_option maxRecDepth 16384

noncomputable section

namespace Cert.Kernel3Ideal.Val

open Cert.Kernel3Ideal Cert.Kernel3Ideal.Gen
open Idealize.ShloMosaic Idealize.ShloMosaic.TcCoe Idealize.SL.Sem
open Cert.Proof.Mlp
open Cert.Kernel2Ideal.Val (rowE flatV flatV_apply wideV wideV_apply ix_eta canon_one canon_two)

/-- Gate `n` of row `i` of the rows of all batches. -/
def gateE (g : FVec Ideal S8x2048x3x1024 .f32) (n : Fin 3) (i : Fin 16384) (d : Fin 1024) : EReal :=
  g (ix4 (⟨i.val / 2048, by omega⟩ : Fin 8) (⟨i.val % 2048, by omega⟩ : Fin 2048) n d)

/-- The merge's rows, one below the other. -/
def outR (ya yb yc : FVec Ideal S8x2048x1024 .f32) (g : FVec Ideal S8x2048x3x1024 .f32) (h : FVec Ideal S8x2048x1024 .f32) (wa wb wc wo : FVec Ideal S1024x1024 .f32) (lg lb : FVec Ideal S1024 .f32) :
    S16384x1024.Idx → EReal := fun i =>
  lnE (zmE (mixE (gateE g 0 (i 0)) (gateE g 1 (i 0)) (gateE g 2 (i 0)) (rowE ya (i 0)) (rowE yb (i 0)) (rowE yc (i 0))
    (fun k d => wa (ix2 k d)) (fun k d => wb (ix2 k d)) (fun k d => wc (ix2 k d))) (rowE h (i 0)) (fun k d => wo (ix2 k d))) (lg (ix1 (i 1))) (lb (ix1 (i 1))) (i 1)

/-! ## The arrays the region is entered with -/

def flatG (g : FVec Ideal S8x2048x3x1024 .f32) : FVec Ideal S16384x3072 .f32 := shapeCast _ g shapeCasts_S8x2048x3x1024_S16384x3072

theorem flatG_apply (g : FVec Ideal S8x2048x3x1024 .f32) (i : Fin 16384) (e : Fin 3072) :
    flatG g (ix2 i e) = g (ix4 (⟨i.val / 2048, by omega⟩ : Fin 8) (⟨i.val % 2048, by omega⟩ : Fin 2048) (⟨e.val / 1024, by omega⟩ : Fin 3) (⟨e.val % 1024, by omega⟩ : Fin 1024)) := by
  pointwise [flatG]

theorem flatG_gate (g : FVec Ideal S8x2048x3x1024 .f32) (i : Fin 16384) (n : Fin 3) (d : Fin 1024) (e : Fin 3072) (he : e.val = 1024 * n.val + d.val) : flatG g (ix2 i e) = gateE g n i d := by
  rw [flatG_apply]
  refine congrArg g (funext fun a => ?_)
  match a with
  | ⟨0, _⟩ => rfl
  | ⟨1, _⟩ => rfl
  | ⟨2, _⟩ => exact Fin.ext (by show e.val / 1024 = n.val; omega)
  | ⟨3, _⟩ => exact Fin.ext (by show e.val % 1024 = d.val; omega)

section
variable (m : (ℓ : Loc nD τ sig) → Buf (Elt Ideal) ℓ) (c : Dev nD)

theorem V_0 : (Gen.V m c main_v1 : S16384x1024.Idx → EReal) = flatV (m ((c : Thread nD τ).loc main_arg0)) := by
  entry_read
  rfl

theorem V_1 : (Gen.V m c main_v3 : S16384x1024.Idx → EReal) = flatV (m ((c : Thread nD τ).loc main_arg1)) := by
  entry_read
  rfl

theorem V_2 : (Gen.V m c main_v5 : S16384x1024.Idx → EReal) = flatV (m ((c : Thread nD τ).loc main_arg2)) := by
  entry_read
  rfl

theorem V_4 : (Gen.V m c main_v8 : S16384x1024.Idx → EReal) = flatV (m ((c : Thread nD τ).loc main_arg4)) := by
  entry_read
  rfl

theorem V_3 : (Gen.V m c main_v7 : S16384x3072.Idx → EReal) = flatG (m ((c : Thread nD τ).loc main_arg3)) := by
  entry_read
  rfl

theorem V_5 : (Gen.V m c main_v9 : S1024x1024.Idx → EReal) = m ((c : Thread nD τ).loc main_arg5) := by
  entry_read
  rfl

theorem V_6 : (Gen.V m c main_v10 : S1024x1024.Idx → EReal) = m ((c : Thread nD τ).loc main_arg6) := by
  entry_read
  rfl

theorem V_7 : (Gen.V m c main_v11 : S1024x1024.Idx → EReal) = m ((c : Thread nD τ).loc main_arg7) := by
  entry_read
  rfl

theorem V_8 : (Gen.V m c main_v12 : S1024x1024.Idx → EReal) = m ((c : Thread nD τ).loc main_arg8) := by
  entry_read
  rfl

theorem V_9 (d : Fin 1024) : (Gen.V m c main_v13 : FVec Ideal S1x1024 .f32) (ix2 0 d) = (m ((c : Thread nD τ).loc main_arg9) : FVec Ideal S1024 .f32) (ix1 d) := by
  have e : Gen.V m c main_v13 = wideV (m ((c : Thread nD τ).loc main_arg9)) := by
    entry_read
    rfl
  rw [e]
  exact wideV_apply _ d

theorem V_10 (d : Fin 1024) : (Gen.V m c main_v14 : FVec Ideal S1x1024 .f32) (ix2 0 d) = (m ((c : Thread nD τ).loc main_arg10) : FVec Ideal S1024 .f32) (ix1 d) := by
  have e : Gen.V m c main_v14 = wideV (m ((c : Thread nD τ).loc main_arg10)) := by
    entry_read
    rfl
  rw [e]
  exact wideV_apply _ d

end

/-! ## Where each window's block lies -/

theorem at0 : ∀ t : Fin cfg0.N, win0_0.index t (0 : Fin 2) = t.val ∧ win0_0.index t (1 : Fin 2) = 0 := (by decide +kernel : ∀ t : Fin grid0.N, _)
theorem at1 : ∀ t : Fin cfg0.N, win0_1.index t (0 : Fin 2) = t.val ∧ win0_1.index t (1 : Fin 2) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)
theorem at8 : ∀ t : Fin cfg0.N, win0_8.index t (0 : Fin 2) = 0 ∧ win0_8.index t (1 : Fin 2) = 0 := (by decide +kernel : ∀ t : Fin grid0.N, _)
theorem at9 : ∀ t : Fin cfg0.N, win0_9.index t (0 : Fin 2) = 0 ∧ win0_9.index t (1 : Fin 2) = 0 := (by decide +kernel : ∀ t : Fin grid0.N, _)
theorem at10 : ∀ t : Fin cfg0.N, win0_10.index t (0 : Fin 2) = 0 ∧ win0_10.index t (1 : Fin 2) = 0 := (by decide +kernel : ∀ t : Fin grid0.N, _)
theorem at11 : ∀ t : Fin cfg0.N, win0_11.index t (0 : Fin 2) = t.val ∧ win0_11.index t (1 : Fin 2) = 0 := (by decide +kernel : ∀ t : Fin grid0.N, _)
theorem at12 : ∀ t : Fin cfg0.N, win0_12.index t (0 : Fin 2) = t.val ∧ win0_12.index t (1 : Fin 2) = 0 := (by decide +kernel : ∀ t : Fin grid0.N, _)
theorem lt_N (t : Fin cfg0.N) : t.val < 32 := lt_of_lt_of_eq t.isLt (by decide +kernel : grid0.N = 32)

/-- Row `r` of grid point `t`'s block. -/
def row (t : Fin cfg0.N) (r : Fin 512) : Fin 16384 := ⟨512 * t.val + r.val, by have := lt_N t; omega⟩

theorem emb11 (t : Fin cfg0.N) (r : Fin 512) (d : Fin 1024) :
    ((cfg0.win 11).blk t).view.emb (ix2 r d) = (ix2 (row t r) d : S16384x1024.Idx) := by
  obtain ⟨e0, e1⟩ := at11 t
  funext a
  match a with
  | ⟨0, _⟩ => exact Fin.ext (by show win0_11.index t (0 : Fin 2) * 512 + 1 * r.val = 512 * t.val + r.val; omega)
  | ⟨1, _⟩ => exact Fin.ext (by show win0_11.index t (1 : Fin 2) * 1024 + 1 * d.val = d.val; omega)

theorem emb12 (t : Fin cfg0.N) (r : Fin 512) (d : Fin 1024) :
    ((cfg0.win 12).blk t).view.emb (ix2 r d) = (ix2 (row t r) d : S16384x1024.Idx) := by
  obtain ⟨e0, e1⟩ := at12 t
  funext a
  match a with
  | ⟨0, _⟩ => exact Fin.ext (by show win0_12.index t (0 : Fin 2) * 512 + 1 * r.val = 512 * t.val + r.val; omega)
  | ⟨1, _⟩ => exact Fin.ext (by show win0_12.index t (1 : Fin 2) * 1024 + 1 * d.val = d.val; omega)

section Blocks

variable (m : (ℓ : Loc nD τ sig) → Buf (Elt Ideal) ℓ) (c : Dev nD) (t : Fin cfg0.N)

theorem iblk0 (r : Fin 512) (d : Fin 1024) : (iblk m c 0 t : S512x1024.Idx → EReal) (ix2 r d) = rowE (m ((c : Thread nD τ).loc main_arg0)) (row t r) d := by
  obtain ⟨e0, e1⟩ := at0 t
  show (V m c main_v1 : S16384x1024.Idx → EReal) (((cfg0.win 0).blk t).view.emb (ix2 r d)) = _
  rw [← flatV_apply, V_0]
  refine congrArg (flatV (m ((c : Thread nD τ).loc main_arg0))) (funext fun a => ?_)
  match a with
  | ⟨0, _⟩ => exact Fin.ext (by show win0_0.index t (0 : Fin 2) * 512 + 1 * r.val = 512 * t.val + r.val; omega)
  | ⟨1, _⟩ => exact Fin.ext (by show win0_0.index t (1 : Fin 2) * 1024 + 1 * d.val = d.val; omega)

theorem iblk1 (r : Fin 512) (d : Fin 1024) : (iblk m c 1 t : S512x1024.Idx → EReal) (ix2 r d) = rowE (m ((c : Thread nD τ).loc main_arg1)) (row t r) d := by
  obtain ⟨e0, e1⟩ := at1 t
  show (V m c main_v3 : S16384x1024.Idx → EReal) (((cfg0.win 1).blk t).view.emb (ix2 r d)) = _
  rw [← flatV_apply, V_1]
  refine congrArg (flatV (m ((c : Thread nD τ).loc main_arg1))) (funext fun a => ?_)
  match a with
  | ⟨0, _⟩ => exact Fin.ext (by show win0_1.index t (0 : Fin 2) * 512 + 1 * r.val = 512 * t.val + r.val; omega)
  | ⟨1, _⟩ => exact Fin.ext (by show win0_1.index t (1 : Fin 2) * 1024 + 1 * d.val = d.val; omega)

theorem iblk2 (r : Fin 512) (d : Fin 1024) : (iblk m c 2 t : S512x1024.Idx → EReal) (ix2 r d) = rowE (m ((c : Thread nD τ).loc main_arg2)) (row t r) d := by
  obtain ⟨e0, e1⟩ := at2 t
  show (V m c main_v5 : S16384x1024.Idx → EReal) (((cfg0.win 2).blk t).view.emb (ix2 r d)) = _
  rw [← flatV_apply, V_2]
  refine congrArg (flatV (m ((c : Thread nD τ).loc main_arg2))) (funext fun a => ?_)
  match a with
  | ⟨0, _⟩ => exact Fin.ext (by show win0_2.index t (0 : Fin 2) * 512 + 1 * r.val = 512 * t.val + r.val; omega)
  | ⟨1, _⟩ => exact Fin.ext (by show win0_2.index t (1 : Fin 2) * 1024 + 1 * d.val = d.val; omega)

theorem iblk4 (r : Fin 512) (d : Fin 1024) : (iblk m c 4 t : S512x1024.Idx → EReal) (ix2 r d) = rowE (m ((c : Thread nD τ).loc main_arg4)) (row t r) d := by
  obtain ⟨e0, e1⟩ := at4 t
  show (V m c main_v8 : S16384x1024.Idx → EReal) (((cfg0.win 4).blk t).view.emb (ix2 r d)) = _
  rw [← flatV_apply, V_4]
  refine congrArg (flatV (m ((c : Thread nD τ).loc main_arg4))) (funext fun a => ?_)
  match a with
  | ⟨0, _⟩ => exact Fin.ext (by show win0_4.index t (0 : Fin 2) * 512 + 1 * r.val = 512 * t.val + r.val; omega)
  | ⟨1, _⟩ => exact Fin.ext (by show win0_4.index t (1 : Fin 2) * 1024 + 1 * d.val = d.val; omega)

theorem iblk3 (r : Fin 512) (n : Fin 3) (d : Fin 1024) (e : Fin 3072) (he : e.val = 1024 * n.val + d.val) :
    (iblk m c 3 t : S512x3072.Idx → EReal) (ix2 r e) = gateE (m ((c : Thread nD τ).loc main_arg3)) n (row t r) d := by
  obtain ⟨e0, e1⟩ := at3 t
  show (V m c main_v7 : S16384x3072.Idx → EReal) (((cfg0.win 3).blk t).view.emb (ix2 r e)) = _
  rw [← flatG_gate _ _ n d e he, V_3]
  refine congrArg (flatG (m ((c : Thread nD τ).loc main_arg3))) (funext fun a => ?_)
  match a with
  | ⟨0, _⟩ => exact Fin.ext (by show win0_3.index t (0 : Fin 2) * 512 + 1 * r.val = 512 * t.val + r.val; omega)
  | ⟨1, _⟩ => exact Fin.ext (by show win0_3.index t (1 : Fin 2) * 3072 + 1 * e.val = e.val; omega)

theorem iblk5 (k d : Fin 1024) : (iblk m c 5 t : S1024x1024.Idx → EReal) (ix2 k d) = (m ((c : Thread nD τ).loc main_arg5) : S1024x1024.Idx → EReal) (ix2 k d) := by
  obtain ⟨e0, e1⟩ := at5 t
  show (V m c main_v9 : S1024x1024.Idx → EReal) (((cfg0.win 5).blk t).view.emb (ix2 k d)) = _
  rw [V_5]
  refine congrArg (m ((c : Thread nD τ).loc main_arg5) : S1024x1024.Idx → EReal) (funext fun a => ?_)
  match a with
  | ⟨0, _⟩ => exact Fin.ext (by show win0_5.index t (0 : Fin 2) * 1024 + 1 * k.val = k.val; omega)
  | ⟨1, _⟩ => exact Fin.ext (by show win0_5.index t (1 : Fin 2) * 1024 + 1 * d.val = d.val; omega)

theorem iblk6 (k d : Fin 1024) : (iblk m c 6 t : S1024x1024.Idx → EReal) (ix2 k d) = (m ((c : Thread nD τ).loc main_arg6) : S1024x1024.Idx → EReal) (ix2 k d) := by
  obtain ⟨e0, e1⟩ := at6 t
  show (V m c main_v10 : S1024x1024.Idx → EReal) (((cfg0.win 6).blk t).view.emb (ix2 k d)) = _
  rw [V_6]
  refine congrArg (m ((c : Thread nD τ).loc main_arg6) : S1024x1024.Idx → EReal) (funext fun a => ?_)
  match a with
  | ⟨0, _⟩ => exact Fin.ext (by show win0_6.index t (0 : Fin 2) * 1024 + 1 * k.val = k.val; omega)
  | ⟨1, _⟩ => exact Fin.ext (by show win0_6.index t (1 : Fin 2) * 1024 + 1 * d.val = d.val; omega)

theorem iblk7 (k d : Fin 1024) : (iblk m c 7 t : S1024x1024.Idx → EReal) (ix2 k d) = (m ((c : Thread nD τ).loc main_arg7) : S1024x1024.Idx → EReal) (ix2 k d) := by
  obtain ⟨e0, e1⟩ := at7 t
  show (V m c main_v11 : S1024x1024.Idx → EReal) (((cfg0.win 7).blk t).view.emb (ix2 k d)) = _
  rw [V_7]
  refine congrArg (m ((c : Thread nD τ).loc main_arg7) : S1024x1024.Idx → EReal) (funext fun a => ?_)
  match a with
  | ⟨0, _⟩ => exact Fin.ext (by show win0_7.index t (0 : Fin 2) * 1024 + 1 * k.val = k.val; omega)
  | ⟨1, _⟩ => exact Fin.ext (by show win0_7.index t (1 : Fin 2) * 1024 + 1 * d.val = d.val; omega)

theorem iblk8 (k d : Fin 1024) : (iblk m c 8 t : S1024x1024.Idx → EReal) (ix2 k d) = (m ((c : Thread nD τ).loc main_arg8) : S1024x1024.Idx → EReal) (ix2 k d) := by
  obtain ⟨e0, e1⟩ := at8 t
  show (V m c main_v12 : S1024x1024.Idx → EReal) (((cfg0.win 8).blk t).view.emb (ix2 k d)) = _
  rw [V_8]
  refine congrArg (m ((c : Thread nD τ).loc main_arg8) : S1024x1024.Idx → EReal) (funext fun a => ?_)
  match a with
  | ⟨0, _⟩ => exact Fin.ext (by show win0_8.index t (0 : Fin 2) * 1024 + 1 * k.val = k.val; omega)
  | ⟨1, _⟩ => exact Fin.ext (by show win0_8.index t (1 : Fin 2) * 1024 + 1 * d.val = d.val; omega)

theorem iblk9 (d : Fin 1024) : (iblk m c 9 t : S1x1024.Idx → EReal) (ix2 0 d) = (m ((c : Thread nD τ).loc main_arg9) : S1024.Idx → EReal) (ix1 d) := by
  obtain ⟨e0, e1⟩ := at9 t
  refine Eq.trans ?_ (V_9 m c d)
  refine congrArg (V m c main_v13 : S1x1024.Idx → EReal) (?_ : ((cfg0.win 9).blk t).view.emb (ix2 0 d) = ix2 0 d)
  funext a
  match a with
  | ⟨0, _⟩ => exact Fin.ext (by show win0_9.index t (0 : Fin 2) * 1 + 1 * 0 = 0; omega)
  | ⟨1, _⟩ => exact Fin.ext (by show win0_9.index t (1 : Fin 2) * 1024 + 1 * d.val = d.val; omega)

theorem iblk10 (d : Fin 1024) : (iblk m c 10 t : S1x1024.Idx → EReal) (ix2 0 d) = (m ((c : Thread nD τ).loc main_arg10) : S1024.Idx → EReal) (ix1 d) := by
  obtain ⟨e0, e1⟩ := at10 t
  refine Eq.trans ?_ (V_10 m c d)
  refine congrArg (V m c main_v14 : S1x1024.Idx → EReal) (?_ : ((cfg0.win 10).blk t).view.emb (ix2 0 d) = ix2 0 d)
  funext a
  match a with
  | ⟨0, _⟩ => exact Fin.ext (by show win0_10.index t (0 : Fin 2) * 1 + 1 * 0 = 0; omega)
  | ⟨1, _⟩ => exact Fin.ext (by show win0_10.index t (1 : Fin 2) * 1024 + 1 * d.val = d.val; omega)

/-- The merge's rows from the arguments in memory. -/
def outM : S16384x1024.Idx → EReal := outR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem block_value (r : Fin 512) (d : Fin 1024) :
    payM (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d) = outM m c (ix2 (row t r) d) := by
  refine (payM_value _ _ _ _ _ _ _ _ _ _ _ r d).trans ?_

  have e0 : (fun k => (iblk m c 0 t : S512x1024.Idx → EReal) (ix2 r k)) = rowE (m ((c : Thread nD τ).loc main_arg0)) (row t r) := funext fun k => iblk0 m c t r k
  have e1 : (fun k => (iblk m c 1 t : S512x1024.Idx → EReal) (ix2 r k)) = rowE (m ((c : Thread nD τ).loc main_arg1)) (row t r) := funext fun k => iblk1 m c t r k
  have e2 : (fun k => (iblk m c 2 t : S512x1024.Idx → EReal) (ix2 r k)) = rowE (m ((c : Thread nD τ).loc main_arg2)) (row t r) := funext fun k => iblk2 m c t r k
  have e4 : (fun k => (iblk m c 4 t : S512x1024.Idx → EReal) (ix2 r k)) = rowE (m ((c : Thread nD τ).loc main_arg4)) (row t r) := funext fun k => iblk4 m c t r k
  have g0 : (fun d : Fin 1024 => (iblk m c 3 t : S512x3072.Idx → EReal) (ix2 r (⟨d.val, by omega⟩ : Fin 3072))) = gateE (m ((c : Thread nD τ).loc main_arg3)) 0 (row t r) := funext fun d => iblk3 m c t r 0 d _ (by show d.val = 1024 * 0 + d.val; omega)
  have g1 : (fun d : Fin 1024 => (iblk m c 3 t : S512x3072.Idx → EReal) (ix2 r (⟨1024 + d.val, by omega⟩ : Fin 3072))) = gateE (m ((c : Thread nD τ).loc main_arg3)) 1 (row t r) := funext fun d => iblk3 m c t r 1 d _ (by show 1024 + d.val = 1024 * 1 + d.val; omega)
  have g2 : (fun d : Fin 1024 => (iblk m c 3 t : S512x3072.Idx → EReal) (ix2 r (⟨2048 + d.val, by omega⟩ : Fin 3072))) = gateE (m ((c : Thread nD τ).loc main_arg3)) 2 (row t r) := funext fun d => iblk3 m c t r 2 d _ (by show 2048 + d.val = 1024 * 2 + d.val; omega)
  have e5 : (fun k d : Fin 1024 => (iblk m c 5 t : S1024x1024.Idx → EReal) (ix2 k d)) = fun k d => (m ((c : Thread nD τ).loc main_arg5) : S1024x1024.Idx → EReal) (ix2 k d) := funext fun k => funext fun d => iblk5 m c t k d
  have e6 : (fun k d : Fin 1024 => (iblk m c 6 t : S1024x1024.Idx → EReal) (ix2 k d)) = fun k d => (m ((c : Thread nD τ).loc main_arg6) : S1024x1024.Idx → EReal) (ix2 k d) := funext fun k => funext fun d => iblk6 m c t k d
  have e7 : (fun k d : Fin 1024 => (iblk m c 7 t : S1024x1024.Idx → EReal) (ix2 k d)) = fun k d => (m ((c : Thread nD τ).loc main_arg7) : S1024x1024.Idx → EReal) (ix2 k d) := funext fun k => funext fun d => iblk7 m c t k d
  have e8 : (fun k d : Fin 1024 => (iblk m c 8 t : S1024x1024.Idx → EReal) (ix2 k d)) = fun k d => (m ((c : Thread nD τ).loc main_arg8) : S1024x1024.Idx → EReal) (ix2 k d) := funext fun k => funext fun d => iblk8 m c t k d
  have emx := congr (congr (congr (congr (congr (congr (congr (congrArg₂ mixE g0 g1) g2) e0) e1) e2) e5) e6) e7
  exact congr (congr (congrArg₂ lnE (congr (congrArg₂ zmE emx e4) e8) (iblk9 m c t d)) (iblk10 m c t d)) rfl

theorem flushed11 : (dats m 0 c).flushed 11 t = ((cfg0.win 11).blk t).view.read (Elt Ideal) (outM m c : FVec Ideal S16384x1024 .f32) := by
  funext j
  show (dats m 0 c).after 11 t j = outM m c (((cfg0.win 11).blk t).view.emb j)
  rw [after0_11]
  obtain ⟨r, d, rfl⟩ : ∃ (r : Fin 512) (d : Fin 1024), j = ix2 r d := ⟨j 0, j 1, ix_eta (a := 512) (b := 1024) j⟩
  rw [emb11]
  exact (canon_one _ r d).trans (block_value m c t r d)

theorem flushed12 : (dats m 0 c).flushed 12 t = ((cfg0.win 12).blk t).view.read (Elt Ideal) (outM m c : FVec Ideal S16384x1024 .bf16) := by
  funext j
  show (dats m 0 c).after 12 t j = outM m c (((cfg0.win 12).blk t).view.emb j)
  rw [after0_12]
  obtain ⟨r, d, rfl⟩ : ∃ (r : Fin 512) (d : Fin 1024), j = ix2 r d := ⟨j 0, j 1, ix_eta (a := 512) (b := 1024) j⟩
  rw [emb12]
  exact (canon_two _ r d).trans (block_value m c t r d)

end Blocks

section Whole

variable (m : (ℓ : Loc nD τ sig) → Buf (Elt Ideal) ℓ) (c : Dev nD)

theorem covered11 (i : S16384x1024.Idx) : ∃ t : Fin cfg0.N, (cfg0.win 11).flush t = true ∧ i ∈ ((cfg0.win 11).blk t).view.set := by
  have h0 : (i 0).val < 16384 := (i 0).isLt
  let t : Fin cfg0.N := ⟨(i 0).val / 512, lt_of_lt_of_eq (by omega) (by decide +kernel : 32 = grid0.N)⟩
  refine ⟨t, flush0_11 _, ?_⟩
  have h := ((cfg0.win 11).blk t).view.emb_mem_set (ix2 (⟨(i 0).val % 512, by omega⟩ : Fin 512) (i 1 : Fin 1024) : S512x1024.Idx)
  refine Eq.mp (congrArg (fun z : S16384x1024.Idx => z ∈ ((cfg0.win 11).blk t).view.set) ((emb11 t _ _).trans (funext fun a => ?_))) h
  match a with
  | ⟨0, _⟩ => exact Fin.ext (by show 512 * ((i 0).val / 512) + (i 0).val % 512 = (i 0).val; omega)
  | ⟨1, _⟩ => rfl

theorem final11 : (dats m 0 c).arrAt 11 cfg0.N = (outM m c : FVec Ideal S16384x1024 .f32) :=
  (dats m 0 c).arrAt_eq_of_cover 11 (outM m c : FVec Ideal S16384x1024 .f32) (fun t _ => flushed11 m c t) covered11

theorem covered12 (i : S16384x1024.Idx) : ∃ t : Fin cfg0.N, (cfg0.win 12).flush t = true ∧ i ∈ ((cfg0.win 12).blk t).view.set := by
  have h0 : (i 0).val < 16384 := (i 0).isLt
  let t : Fin cfg0.N := ⟨(i 0).val / 512, lt_of_lt_of_eq (by omega) (by decide +kernel : 32 = grid0.N)⟩
  refine ⟨t, flush0_12 _, ?_⟩
  have h := ((cfg0.win 12).blk t).view.emb_mem_set (ix2 (⟨(i 0).val % 512, by omega⟩ : Fin 512) (i 1 : Fin 1024) : S512x1024.Idx)
  refine Eq.mp (congrArg (fun z : S16384x1024.Idx => z ∈ ((cfg0.win 12).blk t).view.set) ((emb12 t _ _).trans (funext fun a => ?_))) h
  match a with
  | ⟨0, _⟩ => exact Fin.ext (by show 512 * ((i 0).val / 512) + (i 0).val % 512 = (i 0).val; omega)
  | ⟨1, _⟩ => rfl

theorem final12 : (dats m 0 c).arrAt 12 cfg0.N = (outM m c : FVec Ideal S16384x1024 .bf16) :=
  (dats m 0 c).arrAt_eq_of_cover 12 (outM m c : FVec Ideal S16384x1024 .bf16) (fun t _ => flushed12 m c t) covered12

theorem tail0 : Pipeline.afterTail₀ cfgs (dats m) 0 (V0 m) [hostOps1] c main_v16 =
    (shapeCast S8x2048x1024 (outM m c) shapeCasts_S16384x1024_S8x2048x1024 : FVec Ideal S8x2048x1024 .f32) := by
  have e := Pipeline.withArrays_arr spec0 launch0.win.arr_inj c (V0 m c) (fun w => (dats m 0 c).arrAt w cfg0.N) 11
  rw [final11] at e
  unfold Pipeline.afterTail₀
  after_results
  exact congrArg (fun z : S16384x1024.Idx → EReal => shapeCast S8x2048x1024 z shapeCasts_S16384x1024_S8x2048x1024) e

theorem tail1 : Pipeline.afterTail₀ cfgs (dats m) 0 (V0 m) [hostOps1] c main_v17 =
    (shapeCast S8x2048x1024 (outM m c) shapeCasts_S16384x1024_S8x2048x1024 : FVec Ideal S8x2048x1024 .bf16) := by
  have e := Pipeline.withArrays_arr spec0 launch0.win.arr_inj c (V0 m c) (fun w => (dats m 0 c).arrAt w cfg0.N) 12
  rw [final12] at e
  unfold Pipeline.afterTail₀
  after_results
  exact congrArg (fun z : S16384x1024.Idx → EReal => shapeCast S8x2048x1024 z shapeCasts_S16384x1024_S8x2048x1024) e

end Whole

end Cert.Kernel3Ideal.Val

end
-- ==== Proof.Merge.Refer.lean ====
/- Hand-written: THE MERGE'S REFERENCE: each column of each row is `lnE` of `zmE` of `mixE` (`outV_apply`). -/
module

public import proofs.«01_k».proof.Proof.Gen.Reference3Ideal.Run
public import proofs.«01_k».proof.Proof.Merge.Block
public import proofs.«01_k».proof.Proof.Mlp.Refer
public import Idealize.ShloMosaic.Lib.Pointwise

@[expose] public section

set_option maxRecDepth 16384

noncomputable section

namespace Cert.Proof.MergeRef

open Cert.Reference3Ideal Cert.Reference3Ideal.Gen Cert.Reference3Ideal.Value
open Idealize.ShloMosaic Idealize.ShloMosaic.TcCoe Idealize.SL.Sem
open Cert.Proof.Mlp
open Cert.Proof.MlpRef (lnV lnV_apply)

/-- One gated branch. -/
def brV (g y : FVec Ideal S8x2048x1024 .f32) (w : FVec Ideal S1024x1024 .f32) : FVec Ideal S8x2048x1024 .f32 :=
  mulf g (Host.dotGeneral dot_S8x2048x1024_S1024x1024_S8x2048x1024_2_0_01_1_n_n none y w)

theorem brV_apply (g y : FVec Ideal S8x2048x1024 .f32) (w : FVec Ideal S1024x1024 .f32) (i : Fin 8) (x : Fin 2048) (d : Fin 1024) :
    brV g y w (ix3 i x d) = g (ix3 i x d) * ∑ k : Fin 1024, y (ix3 i x k) * w (ix2 k d) := by
  pointwise [brV]

def g0V (g : FVec Ideal S8x2048x3x1024 .f32) : FVec Ideal S8x2048x1024 .f32 :=
  shapeCast _ (extractStridedSlice S8x2048x1x1024 ![0, 0, 0, 0] g slices_S8x2048x3x1024_S8x2048x1x1024_0_0_0_0) shapeCasts_S8x2048x1x1024_S8x2048x1024
def g1V (g : FVec Ideal S8x2048x3x1024 .f32) : FVec Ideal S8x2048x1024 .f32 :=
  shapeCast _ (extractStridedSlice S8x2048x1x1024 ![0, 0, 1, 0] g slices_S8x2048x3x1024_S8x2048x1x1024_0_0_1_0) shapeCasts_S8x2048x1x1024_S8x2048x1024
def g2V (g : FVec Ideal S8x2048x3x1024 .f32) : FVec Ideal S8x2048x1024 .f32 :=
  shapeCast _ (extractStridedSlice S8x2048x1x1024 ![0, 0, 2, 0] g slices_S8x2048x3x1024_S8x2048x1x1024_0_0_2_0) shapeCasts_S8x2048x1x1024_S8x2048x1024

theorem g0V_apply (g : FVec Ideal S8x2048x3x1024 .f32) (i : Fin 8) (x : Fin 2048) (d : Fin 1024) : g0V g (ix3 i x d) = g (ix4 i x 0 d) := by
  pointwise [g0V]
theorem g1V_apply (g : FVec Ideal S8x2048x3x1024 .f32) (i : Fin 8) (x : Fin 2048) (d : Fin 1024) : g1V g (ix3 i x d) = g (ix4 i x 1 d) := by
  pointwise [g1V]
theorem g2V_apply (g : FVec Ideal S8x2048x3x1024 .f32) (i : Fin 8) (x : Fin 2048) (d : Fin 1024) : g2V g (ix3 i x d) = g (ix4 i x 2 d) := by
  pointwise [g2V]

/-- The rows before the norm. -/
def zV (h x : FVec Ideal S8x2048x1024 .f32) (w : FVec Ideal S1024x1024 .f32) : FVec Ideal S8x2048x1024 .f32 :=
  addf (mulf (broadcastInDim S8x2048x1024 ![] bcast_S_S8x2048x1024 (constant S_ .f32 0x3FB504F3#32)) h)
    (Host.dotGeneral dot_S8x2048x1024_S1024x1024_S8x2048x1024_2_0_01_1_n_n none x w)

theorem zV_apply (h y : FVec Ideal S8x2048x1024 .f32) (w : FVec Ideal S1024x1024 .f32) (i : Fin 8) (x : Fin 2048) (d : Fin 1024) :
    zV h y w (ix3 i x d) = zmE (fun k => y (ix3 i x k)) (fun k => h (ix3 i x k)) (fun k d => w (ix2 k d)) d := by
  pointwise [zV]
  rfl

/-- The gated sum. -/
def mixV (ya yb yc : FVec Ideal S8x2048x1024 .f32) (g : FVec Ideal S8x2048x3x1024 .f32) (wa wb wc : FVec Ideal S1024x1024 .f32) : FVec Ideal S8x2048x1024 .f32 :=
  addf (addf (brV (g0V g) ya wa) (brV (g1V g) yb wb)) (brV (g2V g) yc wc)

theorem mixV_apply (ya yb yc : FVec Ideal S8x2048x1024 .f32) (g : FVec Ideal S8x2048x3x1024 .f32) (wa wb wc : FVec Ideal S1024x1024 .f32) (i : Fin 8) (x : Fin 2048) (d : Fin 1024) :
    mixV ya yb yc g wa wb wc (ix3 i x d) = mixE (fun d => g (ix4 i x 0 d)) (fun d => g (ix4 i x 1 d)) (fun d => g (ix4 i x 2 d))
      (fun k => ya (ix3 i x k)) (fun k => yb (ix3 i x k)) (fun k => yc (ix3 i x k)) (fun k d => wa (ix2 k d)) (fun k d => wb (ix2 k d)) (fun k d => wc (ix2 k d)) d := by
  show brV (g0V g) ya wa (ix3 i x d) + brV (g1V g) yb wb (ix3 i x d) + brV (g2V g) yc wc (ix3 i x d) = _
  rw [brV_apply, brV_apply, brV_apply, g0V_apply, g1V_apply, g2V_apply]
  rfl

/-- The merge's result array. -/
def outV (ya yb yc : FVec Ideal S8x2048x1024 .f32) (g : FVec Ideal S8x2048x3x1024 .f32) (h : FVec Ideal S8x2048x1024 .f32) (wa wb wc wo : FVec Ideal S1024x1024 .f32) (lg lb : FVec Ideal S1024 .f32) :
    FVec Ideal S8x2048x1024 .f32 := lnV (zV h (mixV ya yb yc g wa wb wc) wo) lg lb

theorem outV_apply (ya yb yc : FVec Ideal S8x2048x1024 .f32) (g : FVec Ideal S8x2048x3x1024 .f32) (h : FVec Ideal S8x2048x1024 .f32) (wa wb wc wo : FVec Ideal S1024x1024 .f32) (lg lb : FVec Ideal S1024 .f32)
    (i : Fin 8) (x : Fin 2048) (d : Fin 1024) : outV ya yb yc g h wa wb wc wo lg lb (ix3 i x d) =
      lnE (zmE (mixE (fun d => g (ix4 i x 0 d)) (fun d => g (ix4 i x 1 d)) (fun d => g (ix4 i x 2 d))
        (fun k => ya (ix3 i x k)) (fun k => yb (ix3 i x k)) (fun k => yc (ix3 i x k)) (fun k d => wa (ix2 k d)) (fun k d => wb (ix2 k d)) (fun k d => wc (ix2 k d)))
        (fun k => h (ix3 i x k)) (fun k d => wo (ix2 k d))) (lg (ix1 d)) (lb (ix1 d)) d := by
  unfold outV
  refine (lnV_apply _ _ _ i x d).trans ?_
  refine congrArg (fun z => lnE z (lg (ix1 d)) (lb (ix1 d)) d) (funext fun k => ?_)
  rw [zV_apply]
  refine congrArg (fun z => zmE z (fun k => h (ix3 i x k)) (fun k d => wo (ix2 k d)) k) (funext fun e => ?_)
  exact mixV_apply ya yb yc g wa wb wc i x e

theorem res0_eq (m : (ℓ : Loc nD τ sig) → Buf (Elt Ideal) ℓ) (c : Dev nD) :
    res_out0 m c = outV (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

theorem res1_eq (m : (ℓ : Loc nD τ sig) → Buf (Elt Ideal) ℓ) (c : Dev nD) :
    (res_out1 m c : S8x2048x1024.Idx → EReal) = outV (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

end Cert.Proof.MergeRef

end
-- ==== Proof.Merge.Alg.lean ====
/- Hand-written: THE MERGE'S VALUE CLAIM: the kernel's rows put back into batches are the reference's result. -/
module

public import proofs.«01_k».proof.Defs
public import proofs.«01_k».proof.Proof.Merge.Arrays
public import proofs.«01_k».proof.Proof.Merge.Refer
public import proofs.«01_k».proof.Proof.Mlp.Alg

@[expose] public section

set_option maxRecDepth 16384

noncomputable section

namespace Cert.Proof

open Idealize.ShloMosaic Idealize.ShloMosaic.TcCoe Idealize.SL.Sem

theorem frame_ref3 : Cert.quiescent_Reference3Ideal (hReference3Ideal := Cert.Reference3Ideal.Gen.facts) :=
  fun m ρ _ => (θ_run Cert.Reference3Ideal.defs _ _).mono (fun r h => ⟨fun c => (h c).2.2, sem_eq_zero_of_no_sems rfl r.2⟩)
    (Cert.Reference3Ideal.Value.run (F := Ideal) m ρ)

section Run

open Cert.Kernel3Ideal Cert.Kernel3Ideal.Gen

variable (m : (ℓ : Loc nD τ sig) → Buf (Elt Ideal) ℓ) (ρ : Dev nD → PrngReg)

/-- The merge's run with its result arrays. -/
theorem run_value3 : θ_run defs (onTc (τ := τ) (main (F := Ideal))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v16 (Pipeline.mem_restRefs_of main_v16 (by decide) (by decide)),
      (h c).2 main_v17 (Pipeline.mem_restRefs_of main_v17 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Run

section Meet

open Cert.Kernel3Ideal Cert.Kernel3Ideal.Gen Cert.Kernel3Ideal.Val Cert.Proof.Mlp
open Cert.Kernel2Ideal.Val (rowE)

theorem meet3 (ya yb yc : FVec Ideal S8x2048x1024 .f32) (g : FVec Ideal S8x2048x3x1024 .f32) (h : FVec Ideal S8x2048x1024 .f32) (wa wb wc wo : FVec Ideal S1024x1024 .f32) (lg lb : FVec Ideal S1024 .f32) :
    Cert.Proof.MergeRef.outV ya yb yc g h wa wb wc wo lg lb = batchV (Cert.Kernel3Ideal.Val.outR ya yb yc g h wa wb wc wo lg lb) := by
  funext j
  obtain ⟨i, x, d, rfl⟩ : ∃ (i : Fin 8) (x : Fin 2048) (d : Fin 1024), j = ix3 i x d := ⟨j 0, j 1, j 2, funext fun a => by
    match a with
    | ⟨0, _⟩ => rfl
    | ⟨1, _⟩ => rfl
    | ⟨2, _⟩ => rfl⟩
  rw [batchV_apply]
  refine (Cert.Proof.MergeRef.outV_apply ya yb yc g h wa wb wc wo lg lb i x d).trans ?_
  have e : ∀ y : FVec Ideal S8x2048x1024 .f32, rowE y (⟨i.val * 2048 + x.val, by omega⟩ : Fin 16384) = fun k => y (ix3 i x k) := fun y => funext fun k =>
    congrArg y (funext fun a => by
      match a with
      | ⟨0, _⟩ => exact Fin.ext (by show (i.val * 2048 + x.val) / 2048 = i.val; omega)
      | ⟨1, _⟩ => exact Fin.ext (by show (i.val * 2048 + x.val) % 2048 = x.val; omega)
      | ⟨2, _⟩ => rfl)
  have eg : ∀ n : Fin 3, gateE g n (⟨i.val * 2048 + x.val, by omega⟩ : Fin 16384) = fun k => g (ix4 i x n k) := fun n => funext fun k =>
    congrArg g (funext fun a => by
      match a with
      | ⟨0, _⟩ => exact Fin.ext (by show (i.val * 2048 + x.val) / 2048 = i.val; omega)
      | ⟨1, _⟩ => exact Fin.ext (by show (i.val * 2048 + x.val) % 2048 = x.val; omega)
      | ⟨2, _⟩ => rfl
      | ⟨3, _⟩ => rfl)
  refine Eq.trans ?_ (show lnE (zmE (mixE (gateE g 0 (⟨i.val * 2048 + x.val, by omega⟩ : Fin 16384)) (gateE g 1 (⟨i.val * 2048 + x.val, by omega⟩ : Fin 16384)) (gateE g 2 (⟨i.val * 2048 + x.val, by omega⟩ : Fin 16384))
    (rowE ya (⟨i.val * 2048 + x.val, by omega⟩ : Fin 16384)) (rowE yb (⟨i.val * 2048 + x.val, by omega⟩ : Fin 16384)) (rowE yc (⟨i.val * 2048 + x.val, by omega⟩ : Fin 16384))
    (fun k d => wa (ix2 k d)) (fun k d => wb (ix2 k d)) (fun k d => wc (ix2 k d))) (rowE h (⟨i.val * 2048 + x.val, by omega⟩ : Fin 16384)) (fun k d => wo (ix2 k d))) (lg (ix1 d)) (lb (ix1 d)) d = _ from rfl)
  rw [e, e, e, e, eg, eg, eg]

end Meet

theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, run_value3 m ρ, ?_⟩
  refine (θ_run Cert.Reference3Ideal.defs _ _).mono (fun _ h c => ⟨(h c).1.trans ?_, (h c).2.1.trans ?_, (h c).2.2⟩) (Cert.Reference3Ideal.Value.run (F := Ideal) m' ρ')
  · obtain ⟨a0, a1, a2, a3, a4, a5, a6, a7, a8, a9, a10⟩ := hagree c
    refine (Cert.Proof.MergeRef.res0_eq m' c).trans ?_
    rw [a0, a1, a2, a3, a4, a5, a6, a7, a8, a9, a10]
    exact (meet3 _ _ _ _ _ _ _ _ _ _ _).trans (Cert.Kernel3Ideal.Val.tail0 m c).symm
  · obtain ⟨a0, a1, a2, a3, a4, a5, a6, a7, a8, a9, a10⟩ := hagree c
    refine (Cert.Proof.MergeRef.res1_eq m' c).trans ?_
    rw [a0, a1, a2, a3, a4, a5, a6, a7, a8, a9, a10]
    exact (meet3 _ _ _ _ _ _ _ _ _ _ _).trans (Cert.Kernel3Ideal.Val.tail1 m c).symm

end Cert.Proof

end
-- ==== Proof.Cross.Block.lean ====
/- Hand-written: THE CROSS-ATTENTION OF ONE ROW (`attE`) and what one block of 512 rows computes: the norm of the residual with
   the projected attention (`payC_value`). -/
module

public import proofs.«01_k».proof.Proof.Gen.Kernel4Ideal.Frame
public import proofs.«01_k».proof.Proof.Merge.Block
public import proofs.«01_k».proof.Proof.Online
public import Idealize.ShloMosaic.Lib.Pointwise

@[expose] public section

set_option maxRecDepth 16384

noncomputable section

namespace Cert.Proof.Mlp

open Idealize.ShloMosaic

/-- Column `d` of a projected row. -/
def qE (x : Fin 1024 → EReal) (w : Fin 1024 → Fin 1024 → EReal) (d : Fin 1024) : EReal := ∑ k : Fin 1024, x k * w k d

/-- The score of key `y` in head `n`. -/
def sE (q : Fin 1024 → EReal) (kv : Fin 256 → Fin 2048 → EReal) (n : Fin 4) (y : Fin 256) : EReal :=
  (∑ e : Fin 256, q (⟨256 * n.val + e.val, by omega⟩ : Fin 1024) * kv y (⟨256 * n.val + e.val, by omega⟩ : Fin 2048)) * Ideal.ofBits FTy.f32 0x3D800000#32

/-- The weight of key `y` before the row is divided by its sum. -/
def exE (S : Fin 256 → EReal) (y : Fin 256) : EReal := Ideal.exp (S y - Finset.fold max (⊥ : EReal) S Finset.univ)

/-- The values averaged with the weights of the scores. -/
def avE (S v : Fin 256 → EReal) : EReal := Ideal.div (∑ y : Fin 256, exE S y * v y) (∑ y : Fin 256, exE S y)

/-- Column `j` of the four heads side by side. -/
def attE (q : Fin 1024 → EReal) (kv : Fin 256 → Fin 2048 → EReal) (j : Fin 1024) : EReal :=
  avE (sE q kv (⟨j.val / 256, by omega⟩ : Fin 4)) (fun y => kv y (⟨1024 + j.val, by omega⟩ : Fin 2048))

end Cert.Proof.Mlp

namespace Cert.Kernel4Ideal.Val

open Cert.Kernel4Ideal Cert.Kernel4Ideal.Gen
open Idealize.ShloMosaic Idealize.ShloMosaic.TcCoe
open Cert.Proof.Mlp
open Cert.Proof.Online (bot_word)
open Cert.Kernel2Ideal.Val (lnV lnV_apply accV accV_apply)

/-- The projected rows. -/
def qV (x : FVec Ideal S1x512x1024 .bf16) (w : FVec Ideal S1024x1024 .bf16) : FVec Ideal S512x1024 .bf16 :=
  truncf .bf16 (matmul dot_S512x1024_S1024x1024_S512x1024_1_0_0_1_n_n none (shapeCast S512x1024 x shapeCasts_S1x512x1024_S512x1024) w (constant S512x1024 .f32 0x00000000#32)) bitsLt_bf16_f32

theorem qV_apply (x : FVec Ideal S1x512x1024 .bf16) (w : FVec Ideal S1024x1024 .bf16) (r : Fin 512) (d : Fin 1024) :
    qV x w (ix2 r d) = ∑ k : Fin 1024, x (ix3 0 r k) * w (ix2 k d) := by
  pointwise [qV]

/-- The keys and values of one batch. -/
def kvV (x : FVec Ideal S1x256x2048 .bf16) : FVec Ideal S256x2048 .bf16 := shapeCast S256x2048 x shapeCasts_S1x256x2048_S256x2048

theorem kvV_apply (x : FVec Ideal S1x256x2048 .bf16) (y : Fin 256) (e : Fin 2048) : kvV x (ix2 y e) = x (ix3 0 y e) := by
  pointwise [kvV]

/-- The scores of one head. -/
def scV (q : FVec Ideal S512x256 .bf16) (k : FVec Ideal S256x256 .bf16) : FVec Ideal S512x256 .f32 :=
  mulf (matmul dot_S512x256_S256x256_S512x256_1_1_0_0_n_n none q k (constant S512x256 .f32 0x00000000#32)) (broadcast S512x256 (Scalar.ofBits .f32 0x3D800000#32))

theorem scV_apply (q : FVec Ideal S512x256 .bf16) (k : FVec Ideal S256x256 .bf16) (r : Fin 512) (y : Fin 256) :
    scV q k (ix2 r y) = (∑ e : Fin 256, q (ix2 r e) * k (ix2 y e)) * Ideal.ofBits FTy.f32 0x3D800000#32 := by
  pointwise [scV]

/-- The exponentials of the scores less their row's maximum. -/
def exV (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))

theorem exV_apply (s : FVec Ideal S512x256 .f32) (r : Fin 512) (y : Fin 256) : exV s (ix2 r y) = exE (fun y => s (ix2 r y)) y := by
  unfold exE
  pointwise [exV]
  rw [bot_word]

/-- The values of one head averaged. -/
def avV (e : FVec Ideal S512x256 .f32) (v : FVec Ideal S256x256 .bf16) : FVec Ideal S512x256 .bf16 :=
  truncf .bf16 (divf (matmul dot_S512x256_S256x256_S512x256_1_0_0_1_n_n none (truncf .bf16 e bitsLt_bf16_f32) v (constant S512x256 .f32 0x00000000#32))
    (broadcastTo S512x256 (shapeCast S512x1 (multiReduction .add [1] S512 e 0x00000000#32 reduces_S512x256_S512 (.inl rfl) rfl) shapeCasts_S512_S512x1) broadcasts_S512x1_S512x256)) bitsLt_bf16_f32

theorem avV_apply (e : FVec Ideal S512x256 .f32) (v : FVec Ideal S256x256 .bf16) (r : Fin 512) (d : Fin 256) :
    avV e v (ix2 r d) = Ideal.div (∑ y : Fin 256, e (ix2 r y) * v (ix2 y d)) (∑ y : Fin 256, e (ix2 r y)) := by
  pointwise [avV]

def q0V (q : FVec Ideal S512x1024 .bf16) : FVec Ideal S512x256 .bf16 := extractStridedSlice S512x256 ![0, 0] q slices_S512x1024_o0_0_S512x256
def q1V (q : FVec Ideal S512x1024 .bf16) : FVec Ideal S512x256 .bf16 := extractStridedSlice S512x256 ![0, 256] q slices_S512x1024_o0_256_S512x256
def q2V (q : FVec Ideal S512x1024 .bf16) : FVec Ideal S512x256 .bf16 := extractStridedSlice S512x256 ![0, 512] q slices_S512x1024_o0_512_S512x256
def q3V (q : FVec Ideal S512x1024 .bf16) : FVec Ideal S512x256 .bf16 := extractStridedSlice S512x256 ![0, 768] q slices_S512x1024_o0_768_S512x256
def k0V (k : FVec Ideal S256x2048 .bf16) : FVec Ideal S256x256 .bf16 := extractStridedSlice S256x256 ![0, 0] k slices_S256x2048_o0_0_S256x256
def k1V (k : FVec Ideal S256x2048 .bf16) : FVec Ideal S256x256 .bf16 := extractStridedSlice S256x256 ![0, 256] k slices_S256x2048_o0_256_S256x256
def k2V (k : FVec Ideal S256x2048 .bf16) : FVec Ideal S256x256 .bf16 := extractStridedSlice S256x256 ![0, 512] k slices_S256x2048_o0_512_S256x256
def k3V (k : FVec Ideal S256x2048 .bf16) : FVec Ideal S256x256 .bf16 := extractStridedSlice S256x256 ![0, 768] k slices_S256x2048_o0_768_S256x256
def v0V (k : FVec Ideal S256x2048 .bf16) : FVec Ideal S256x256 .bf16 := extractStridedSlice S256x256 ![0, 1024] k slices_S256x2048_o0_1024_S256x256
def v1V (k : FVec Ideal S256x2048 .bf16) : FVec Ideal S256x256 .bf16 := extractStridedSlice S256x256 ![0, 1280] k slices_S256x2048_o0_1280_S256x256
def v2V (k : FVec Ideal S256x2048 .bf16) : FVec Ideal S256x256 .bf16 := extractStridedSlice S256x256 ![0, 1536] k slices_S256x2048_o0_1536_S256x256
def v3V (k : FVec Ideal S256x2048 .bf16) : FVec Ideal S256x256 .bf16 := extractStridedSlice S256x256 ![0, 1792] k slices_S256x2048_o0_1792_S256x256

theorem q0V_apply (q : FVec Ideal S512x1024 .bf16) (r : Fin 512) (e : Fin 256) : q0V q (ix2 r e) = q (ix2 r (⟨e.val, by omega⟩ : Fin 1024)) := by pointwise [q0V]
theorem q1V_apply (q : FVec Ideal S512x1024 .bf16) (r : Fin 512) (e : Fin 256) : q1V q (ix2 r e) = q (ix2 r (⟨256 + e.val, by omega⟩ : Fin 1024)) := by pointwise [q1V]
theorem q2V_apply (q : FVec Ideal S512x1024 .bf16) (r : Fin 512) (e : Fin 256) : q2V q (ix2 r e) = q (ix2 r (⟨512 + e.val, by omega⟩ : Fin 1024)) := by pointwise [q2V]
theorem q3V_apply (q : FVec Ideal S512x1024 .bf16) (r : Fin 512) (e : Fin 256) : q3V q (ix2 r e) = q (ix2 r (⟨768 + e.val, by omega⟩ : Fin 1024)) := by pointwise [q3V]
theorem k0V_apply (k : FVec Ideal S256x2048 .bf16) (r : Fin 256) (e : Fin 256) : k0V k (ix2 r e) = k (ix2 r (⟨e.val, by omega⟩ : Fin 2048)) := by pointwise [k0V]
theorem k1V_apply (k : FVec Ideal S256x2048 .bf16) (r : Fin 256) (e : Fin 256) : k1V k (ix2 r e) = k (ix2 r (⟨256 + e.val, by omega⟩ : Fin 2048)) := by pointwise [k1V]
theorem k2V_apply (k : FVec Ideal S256x2048 .bf16) (r : Fin 256) (e : Fin 256) : k2V k (ix2 r e) = k (ix2 r (⟨512 + e.val, by omega⟩ : Fin 2048)) := by pointwise [k2V]
theorem k3V_apply (k : FVec Ideal S256x2048 .bf16) (r : Fin 256) (e : Fin 256) : k3V k (ix2 r e) = k (ix2 r (⟨768 + e.val, by omega⟩ : Fin 2048)) := by pointwise [k3V]
theorem v0V_apply (k : FVec Ideal S256x2048 .bf16) (r : Fin 256) (e : Fin 256) : v0V k (ix2 r e) = k (ix2 r (⟨1024 + e.val, by omega⟩ : Fin 2048)) := by pointwise [v0V]
theorem v1V_apply (k : FVec Ideal S256x2048 .bf16) (r : Fin 256) (e : Fin 256) : v1V k (ix2 r e) = k (ix2 r (⟨1280 + e.val, by omega⟩ : Fin 2048)) := by pointwise [v1V]
theorem v2V_apply (k : FVec Ideal S256x2048 .bf16) (r : Fin 256) (e : Fin 256) : v2V k (ix2 r e) = k (ix2 r (⟨1536 + e.val, by omega⟩ : Fin 2048)) := by pointwise [v2V]
theorem v3V_apply (k : FVec Ideal S256x2048 .bf16) (r : Fin 256) (e : Fin 256) : v3V k (ix2 r e) = k (ix2 r (⟨1792 + e.val, by omega⟩ : Fin 2048)) := by pointwise [v3V]

/-- One head. -/
def hdV (q : FVec Ideal S512x256 .bf16) (k v : FVec Ideal S256x256 .bf16) : FVec Ideal S512x256 .bf16 := avV (exV (scV q k)) v

theorem hdV_apply (q : FVec Ideal S512x256 .bf16) (k v : FVec Ideal S256x256 .bf16) (r : Fin 512) (d : Fin 256) :
    hdV q k v (ix2 r d) = avE (fun y => (∑ e : Fin 256, q (ix2 r e) * k (ix2 y e)) * Ideal.ofBits FTy.f32 0x3D800000#32) (fun y => v (ix2 y d)) := by
  unfold hdV avE
  rw [avV_apply]
  simp only [exV_apply, scV_apply]

/-- The four heads side by side. -/
def catV (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1

theorem catV_apply0 (a b c d : FVec Ideal S512x256 .bf16) (r : Fin 512) (e : Fin 256) : catV a b c d (ix2 r (⟨e.val, by omega⟩ : Fin 1024)) = a (ix2 r e) := by
  pointwise [catV]
theorem catV_apply1 (a b c d : FVec Ideal S512x256 .bf16) (r : Fin 512) (e : Fin 256) : catV a b c d (ix2 r (⟨256 + e.val, by omega⟩ : Fin 1024)) = b (ix2 r e) := by
  pointwise [catV]
theorem catV_apply2 (a b c d : FVec Ideal S512x256 .bf16) (r : Fin 512) (e : Fin 256) : catV a b c d (ix2 r (⟨512 + e.val, by omega⟩ : Fin 1024)) = c (ix2 r e) := by
  pointwise [catV]
  rw [dif_neg (by omega), dif_neg (by omega), dif_pos (by omega)]
  exact congrArg (fun z => c (ix2 r z)) (Fin.ext (by show 512 + e.val - 256 - 256 = e.val; omega))
theorem catV_apply3 (a b c d : FVec Ideal S512x256 .bf16) (r : Fin 512) (e : Fin 256) : catV a b c d (ix2 r (⟨768 + e.val, by omega⟩ : Fin 1024)) = d (ix2 r e) := by
  pointwise [catV]
  rw [dif_neg (by omega), dif_neg (by omega), dif_neg (by omega)]
  exact congrArg (fun z => d (ix2 r z)) (Fin.ext (by show 768 + e.val - 256 - 256 - 256 = e.val; omega))

/-- The attention of a block. -/
def atV (q : FVec Ideal S512x1024 .bf16) (k : FVec Ideal S256x2048 .bf16) : FVec Ideal S512x1024 .bf16 :=
  catV (hdV (q0V q) (k0V k) (v0V k)) (hdV (q1V q) (k1V k) (v1V k)) (hdV (q2V q) (k2V k) (v2V k)) (hdV (q3V q) (k3V k) (v3V k))

theorem att_at (q : FVec Ideal S512x1024 .bf16) (k : FVec Ideal S256x2048 .bf16) (r : Fin 512) (n : Fin 4) (d : Fin 256) (j : Fin 1024) (hj : j.val = 256 * n.val + d.val)
    (qh : FVec Ideal S512x256 .bf16) (kh vh : FVec Ideal S256x256 .bf16)
    (hq : ∀ e : Fin 256, qh (ix2 r e) = q (ix2 r (⟨256 * n.val + e.val, by omega⟩ : Fin 1024)))
    (hk : ∀ y e : Fin 256, kh (ix2 y e) = k (ix2 y (⟨256 * n.val + e.val, by omega⟩ : Fin 2048)))
    (hv : ∀ y : Fin 256, vh (ix2 y d) = k (ix2 y (⟨1024 + j.val, by omega⟩ : Fin 2048))) :
    hdV qh kh vh (ix2 r d) = attE (fun e => q (ix2 r e)) (fun y e => k (ix2 y e)) j := by
  rw [hdV_apply]
  simp only [hq, hk, hv]
  unfold attE
  have e : (⟨j.val / 256, by omega⟩ : Fin 4) = n := Fin.ext (by show j.val / 256 = n.val; omega)
  rw [e]
  rfl

theorem atV_apply (q : FVec Ideal S512x1024 .bf16) (k : FVec Ideal S256x2048 .bf16) (r : Fin 512) (j : Fin 1024) :
    atV q k (ix2 r j) = attE (fun e => q (ix2 r e)) (fun y e => k (ix2 y e)) j := by
  have fe : ∀ {N : ℕ} (a b : ℕ) (ha : a < N) (hb : b < N), a = b → (⟨a, ha⟩ : Fin N) = ⟨b, hb⟩ := fun a b _ _ h => Fin.ext h
  rcases (by omega : j.val < 256 ∨ (256 ≤ j.val ∧ j.val < 512) ∨ (512 ≤ j.val ∧ j.val < 768) ∨ 768 ≤ j.val) with h | h | h | h
  · have e : j = (⟨(⟨j.val, h⟩ : Fin 256).val, by omega⟩ : Fin 1024) := rfl
    rw [e]
    refine (catV_apply0 _ _ _ _ r ⟨j.val, h⟩).trans (att_at q k r 0 ⟨j.val, h⟩ _ (by show j.val = 256 * 0 + j.val; omega) _ _ _ (fun e => ?_) (fun y e => ?_) (fun y => ?_))
    · rw [q0V_apply]; exact congrArg (fun z => q (ix2 r z)) (fe _ _ _ _ (by show e.val = 256 * 0 + e.val; omega))
    · rw [k0V_apply]; exact congrArg (fun z => k (ix2 y z)) (fe _ _ _ _ (by show e.val = 256 * 0 + e.val; omega))
    · rw [v0V_apply]
  · have e : j = (⟨256 + (⟨j.val - 256, by omega⟩ : Fin 256).val, by show 256 + (j.val - 256) < 1024; omega⟩ : Fin 1024) := Fin.ext (by show j.val = 256 + (j.val - 256); omega)
    rw [e]
    refine (catV_apply1 _ _ _ _ r ⟨j.val - 256, by omega⟩).trans (att_at q k r 1 ⟨j.val - 256, by omega⟩ _ (by show 256 + (j.val - 256) = 256 * 1 + (j.val - 256); omega) _ _ _ (fun e => ?_) (fun y e => ?_) (fun y => ?_))
    · rw [q1V_apply]; exact congrArg (fun z => q (ix2 r z)) (fe _ _ _ _ (by show 256 + e.val = 256 * 1 + e.val; omega))
    · rw [k1V_apply]; exact congrArg (fun z => k (ix2 y z)) (fe _ _ _ _ (by show 256 + e.val = 256 * 1 + e.val; omega))
    · rw [v1V_apply]; exact congrArg (fun z => k (ix2 y z)) (fe _ _ _ _ (by show 1280 + (j.val - 256) = 1024 + (256 + (j.val - 256)); omega))
  · have e : j = (⟨512 + (⟨j.val - 512, by omega⟩ : Fin 256).val, by show 512 + (j.val - 512) < 1024; omega⟩ : Fin 1024) := Fin.ext (by show j.val = 512 + (j.val - 512); omega)
    rw [e]
    refine (catV_apply2 _ _ _ _ r ⟨j.val - 512, by omega⟩).trans (att_at q k r 2 ⟨j.val - 512, by omega⟩ _ (by show 512 + (j.val - 512) = 256 * 2 + (j.val - 512); omega) _ _ _ (fun e => ?_) (fun y e => ?_) (fun y => ?_))
    · rw [q2V_apply]; exact congrArg (fun z => q (ix2 r z)) (fe _ _ _ _ (by show 512 + e.val = 256 * 2 + e.val; omega))
    · rw [k2V_apply]; exact congrArg (fun z => k (ix2 y z)) (fe _ _ _ _ (by show 512 + e.val = 256 * 2 + e.val; omega))
    · rw [v2V_apply]; exact congrArg (fun z => k (ix2 y z)) (fe _ _ _ _ (by show 1536 + (j.val - 512) = 1024 + (512 + (j.val - 512)); omega))
  · have e : j = (⟨768 + (⟨j.val - 768, by omega⟩ : Fin 256).val, by show 768 + (j.val - 768) < 1024; omega⟩ : Fin 1024) := Fin.ext (by show j.val = 768 + (j.val - 768); omega)
    rw [e]
    refine (catV_apply3 _ _ _ _ r ⟨j.val - 768, by omega⟩).trans (att_at q k r 3 ⟨j.val - 768, by omega⟩ _ (by show 768 + (j.val - 768) = 256 * 3 + (j.val - 768); omega) _ _ _ (fun e => ?_) (fun y e => ?_) (fun y => ?_))
    · rw [q3V_apply]; exact congrArg (fun z => q (ix2 r z)) (fe _ _ _ _ (by show 768 + e.val = 256 * 3 + e.val; omega))
    · rw [k3V_apply]; exact congrArg (fun z => k (ix2 y z)) (fe _ _ _ _ (by show 768 + e.val = 256 * 3 + e.val; omega))
    · rw [v3V_apply]; exact congrArg (fun z => k (ix2 y z)) (fe _ _ _ _ (by show 1792 + (j.val - 768) = 1024 + (768 + (j.val - 768)); omega))

/-- The scaled residual. -/
def resV (h : FVec Ideal S1x512x1024 .f32) : FVec Ideal S512x1024 .f32 :=
  mulf (broadcast S512x1024 (Scalar.ofBits .f32 0x3FB504F3#32)) (shapeCast S512x1024 h shapeCasts_S1x512x1024_S512x1024)

theorem resV_apply (h : FVec Ideal S1x512x1024 .f32) (r : Fin 512) (d : Fin 1024) :
    resV h (ix2 r d) = Ideal.ofBits FTy.f32 0x3FB504F3#32 * h (ix3 0 r d) := by
  pointwise [resV]

variable (x0 : Vec Ideal S1x512x1024 .bf16) (x1 : Vec Ideal S1x512x1024 .f32) (x2 : Vec Ideal S1x256x2048 .bf16) (x3 x4 : Vec Ideal S1024x1024 .bf16) (x5 x6 : Vec Ideal S1x1024 .f32)

def ldX : FVec Ideal S1x512x1024 .bf16 := View.ld (Val := Elt Ideal) (e' := .bf16) x0 r0_0
def ldH : FVec Ideal S1x512x1024 .f32 := View.ld (Val := Elt Ideal) (e' := .f32) x1 r0_0
def ldK : FVec Ideal S1x256x2048 .bf16 := View.ld (Val := Elt Ideal) (e' := .bf16) x2 r0_2
def ldW (x : Vec Ideal S1024x1024 .bf16) : FVec Ideal S1024x1024 .bf16 := View.ld (Val := Elt Ideal) (e' := .bf16) x r0_1
def ldB (x : Vec Ideal S1x1024 .f32) : FVec Ideal S1x1024 .f32 := View.ld (Val := Elt Ideal) (e' := .f32) x r0_3

theorem ldX_apply (r : Fin 512) (d : Fin 1024) : ldX x0 (ix3 0 r d) = x0 (ix3 0 r d) := by pointwise [ldX]
theorem ldH_apply (r : Fin 512) (d : Fin 1024) : ldH x1 (ix3 0 r d) = x1 (ix3 0 r d) := by pointwise [ldH]
theorem ldK_apply (y : Fin 256) (e : Fin 2048) : ldK x2 (ix3 0 y e) = x2 (ix3 0 y e) := by pointwise [ldK]
theorem ldW_apply (x : Vec Ideal S1024x1024 .bf16) (k d : Fin 1024) : ldW x (ix2 k d) = x (ix2 k d) := by pointwise [ldW]
theorem ldB_apply (x : Vec Ideal S1x1024 .f32) (d : Fin 1024) : ldB x (ix2 0 d) = x (ix2 0 d) := by pointwise [ldB]

/-- The block's payload. -/
def payC : FVec Ideal S512x1024 .f32 :=
  k0_pay1 (k0_pay12 x0 x1 x2 x3 x4 x5 x6) (k0_pay13 x0 x1 x2 x3 x4 x5 x6) (View.ld x4 r0_1) (View.ld x5 r0_3) (View.ld x6 r0_3)

theorem p4_eq (x : Vec Ideal S1x512x1024 .bf16) (w : Vec Ideal S1024x1024 .bf16) : k0_pay4 (F := Ideal) x w = qV x w := by
  unfold k0_pay4
  simp only [shapeCast_self]
  rfl

theorem p5_eq (x : Vec Ideal S1x256x2048 .bf16) : k0_pay5 (F := Ideal) x = kvV x := rfl

theorem p6_eq (x : Vec Ideal S1x512x1024 .bf16) (w : Vec Ideal S1024x1024 .bf16) (k : Vec Ideal S1x256x2048 .bf16) :
    k0_pay6 (F := Ideal) x w k = scV (q2V (k0_pay4 x w)) (k2V (k0_pay5 k)) := rfl

theorem p7_eq (x : Vec Ideal S1x512x1024 .bf16) (w : Vec Ideal S1024x1024 .bf16) (k : Vec Ideal S1x256x2048 .bf16) :
    k0_pay7 (F := Ideal) x w k = scV (q3V (k0_pay4 x w)) (k3V (k0_pay5 k)) := rfl

theorem p8_eq (x : Vec Ideal S1x512x1024 .bf16) (w : Vec Ideal S1024x1024 .bf16) (k : Vec Ideal S1x256x2048 .bf16) :
    k0_pay8 (F := Ideal) x w k = exV (scV (q0V (k0_pay4 x w)) (k0V (k0_pay5 k))) := rfl

theorem p9_eq (x : Vec Ideal S1x512x1024 .bf16) (w : Vec Ideal S1024x1024 .bf16) (k : Vec Ideal S1x256x2048 .bf16) :
    k0_pay9 (F := Ideal) x w k = exV (scV (q1V (k0_pay4 x w)) (k1V (k0_pay5 k))) := rfl

theorem p10_eq (k : FVec Ideal S256x2048 .bf16) (a b c d : FVec Ideal S512x256 .f32) :
    k0_pay10 (F := Ideal) k a b c d = catV (avV c (v0V k)) (avV d (v1V k)) (avV (exV a) (v2V k)) (avV (exV b) (v3V k)) := rfl

theorem p12_eq : k0_pay12 (F := Ideal) x0 x1 x2 x3 x4 x5 x6 = atV (qV (ldX x0) (ldW x3)) (kvV (ldK x2)) := by
  unfold k0_pay12
  rw [p10_eq, p6_eq, p7_eq, p8_eq, p9_eq, p4_eq, p5_eq]
  rfl

theorem p1_eq (a : FVec Ideal S512x1024 .bf16) (z : FVec Ideal S512x1024 .f32) (w : Vec Ideal S1024x1024 .bf16) (g b : Vec Ideal S1x1024 .f32) :
    k0_pay1 (F := Ideal) a z w g b = lnV (accV z a w) g b := by
  unfold k0_pay1
  simp only [shapeCast_self]
  rfl

theorem payC_eq : payC x0 x1 x2 x3 x4 x5 x6 = lnV (accV (resV (ldH x1)) (atV (qV (ldX x0) (ldW x3)) (kvV (ldK x2))) (ldW x4)) (ldB x5) (ldB x6) := by
  unfold payC
  rw [p12_eq, p1_eq]
  rfl

/-- Each column of each row of the block. -/
theorem payC_value (r : Fin 512) (d : Fin 1024) : payC x0 x1 x2 x3 x4 x5 x6 (ix2 r d) =
    lnE (zmE (attE (qE (fun k => x0 (ix3 0 r k)) (fun k d => x3 (ix2 k d))) (fun y e => x2 (ix3 0 y e)))
      (fun k => x1 (ix3 0 r k)) (fun k d => x4 (ix2 k d))) (x5 (ix2 0 d)) (x6 (ix2 0 d)) d := by
  rw [payC_eq, lnV_apply, ldB_apply, ldB_apply]
  refine congrArg (fun z => lnE z (x5 (ix2 0 d)) (x6 (ix2 0 d)) d) (funext fun e => ?_)
  rw [accV_apply, resV_apply, ldH_apply]
  have hm : ∀ k : Fin 1024, atV (qV (ldX x0) (ldW x3)) (kvV (ldK x2)) (ix2 r k) =
      attE (qE (fun k => x0 (ix3 0 r k)) (fun k d => x3 (ix2 k d))) (fun y e => x2 (ix3 0 y e)) k := fun k => by
    refine (atV_apply _ _ r k).trans ?_
    simp only [qV_apply, kvV_apply, ldX_apply, ldW_apply, ldK_apply]
    rfl
  simp only [hm, ldW_apply]
  rfl

end Cert.Kernel4Ideal.Val

end
-- ==== Proof.Cross.Arrays.lean ====
/- Hand-written: THE CROSS-ATTENTION'S RESULT ARRAYS. The arrays the region is entered with, the block of each grid point
   (`block_value`), the blocks put together (`final7`, `final8`). -/
module

public import proofs.«01_k».proof.Proof.Cross.Block
public import proofs.«01_k».proof.Proof.Mlp.Arrays
public import Idealize.ShloMosaic.Lib.Pointwise
public import Idealize.ShloMosaic.Lib.Claim

@[expose] public section

set_option maxRecDepth 16384

noncomputable section

namespace Cert.Kernel4Ideal.Val

open Cert.Kernel4Ideal Cert.Kernel4Ideal.Gen
open Idealize.ShloMosaic Idealize.ShloMosaic.TcCoe Idealize.SL.Sem
open Cert.Proof.Mlp
open Cert.Kernel2Ideal.Val (wideV wideV_apply)

/-- The cross-attention's result array. -/
def outC (h : FVec Ideal S8x2048x1024 .f32) (kv : FVec Ideal S8x256x2048 .f32) (wq wo : FVec Ideal S1024x1024 .f32) (g b : FVec Ideal S1024 .f32) :
    S8x2048x1024.Idx → EReal := fun i =>
  lnE (zmE (attE (qE (fun k => h (ix3 (i 0 : Fin 8) (i 1 : Fin 2048) k)) (fun k d => wq (ix2 k d))) (fun y e => kv (ix3 (i 0 : Fin 8) y e)))
    (fun k => h (ix3 (i 0 : Fin 8) (i 1 : Fin 2048) k)) (fun k d => wo (ix2 k d))) (g (ix1 (i 2))) (b (ix1 (i 2))) (i 2)

/-! ## The arrays the region is entered with -/

section
variable (m : (ℓ : Loc nD τ sig) → Buf (Elt Ideal) ℓ) (c : Dev nD)

theorem V_0 : (Gen.V m c main_v0 : S8x2048x1024.Idx → EReal) = m ((c : Thread nD τ).loc main_arg0) := by
  entry_read
  rfl

theorem V_2 : (Gen.V m c main_v1 : S8x256x2048.Idx → EReal) = m ((c : Thread nD τ).loc main_arg1) := by
  entry_read
  rfl

theorem V_3 : (Gen.V m c main_v2 : S1024x1024.Idx → EReal) = m ((c : Thread nD τ).loc main_arg2) := by
  entry_read
  rfl

theorem V_4 : (Gen.V m c main_v3 : S1024x1024.Idx → EReal) = m ((c : Thread nD τ).loc main_arg3) := by
  entry_read
  rfl

theorem V_5 (d : Fin 1024) : (Gen.V m c main_v4 : FVec Ideal S1x1024 .f32) (ix2 0 d) = (m ((c : Thread nD τ).loc main_arg4) : FVec Ideal S1024 .f32) (ix1 d) := by
  have e : Gen.V m c main_v4 = wideV (m ((c : Thread nD τ).loc main_arg4)) := by
    entry_read
    rfl
  rw [e]
  exact wideV_apply _ d

theorem V_6 (d : Fin 1024) : (Gen.V m c main_v5 : FVec Ideal S1x1024 .f32) (ix2 0 d) = (m ((c : Thread nD τ).loc main_arg5) : FVec Ideal S1024 .f32) (ix1 d) := by
  have e : Gen.V m c main_v5 = wideV (m ((c : Thread nD τ).loc main_arg5)) := by
    entry_read
    rfl
  rw [e]
  exact wideV_apply _ d

end

/-! ## Where each window's block lies -/

theorem at0 : ∀ t : Fin cfg0.N, win0_0.index t (0 : Fin 3) = t.val / 4 ∧ win0_0.index t (1 : Fin 3) = t.val % 4 ∧ win0_0.index t (2 : Fin 3) = 0 := (by decide +kernel : ∀ t : Fin grid0.N, _)
theorem at1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)
theorem at7 : ∀ t : Fin cfg0.N, win0_7.index t (0 : Fin 3) = t.val / 4 ∧ win0_7.index t (1 : Fin 3) = t.val % 4 ∧ win0_7.index t (2 : Fin 3) = 0 := (by decide +kernel : ∀ t : Fin grid0.N, _)
theorem at8 : ∀ t : Fin cfg0.N, win0_8.index t (0 : Fin 3) = t.val / 4 ∧ win0_8.index t (1 : Fin 3) = t.val % 4 ∧ win0_8.index t (2 : Fin 3) = 0 := (by decide +kernel : ∀ t : Fin grid0.N, _)
theorem at2 : ∀ t : Fin cfg0.N, win0_2.index t (0 : Fin 3) = t.val / 4 ∧ win0_2.index t (1 : Fin 3) = 0 ∧ win0_2.index t (2 : Fin 3) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem lt_N (t : Fin cfg0.N) : t.val < 32 := lt_of_lt_of_eq t.isLt (by decide +kernel : grid0.N = 32)

/-- The batch of grid point `t`. -/
def bat (t : Fin cfg0.N) : Fin 8 := ⟨t.val / 4, by have := lt_N t; omega⟩

/-- Row `r` of grid point `t`'s block. -/
def row (t : Fin cfg0.N) (r : Fin 512) : Fin 2048 := ⟨512 * (t.val % 4) + r.val, by omega⟩

theorem emb0 (t : Fin cfg0.N) (r : Fin 512) (d : Fin 1024) :
    ((cfg0.win 0).blk t).view.emb (ix3 0 r d) = (ix3 (bat t) (row t r) d : S8x2048x1024.Idx) := by
  obtain ⟨e0, e1, e2⟩ := at0 t
  funext a
  match a with
  | ⟨0, _⟩ => exact Fin.ext (by show win0_0.index t (0 : Fin 3) * 1 + 1 * 0 = t.val / 4; omega)
  | ⟨1, _⟩ => exact Fin.ext (by show win0_0.index t (1 : Fin 3) * 512 + 1 * r.val = 512 * (t.val % 4) + r.val; omega)
  | ⟨2, _⟩ => exact Fin.ext (by show win0_0.index t (2 : Fin 3) * 1024 + 1 * d.val = d.val; omega)

theorem emb1 (t : Fin cfg0.N) (r : Fin 512) (d : Fin 1024) :
    ((cfg0.win 1).blk t).view.emb (ix3 0 r d) = (ix3 (bat t) (row t r) d : S8x2048x1024.Idx) := by
  obtain ⟨e0, e1, e2⟩ := at1 t
  funext a
  match a with
  | ⟨0, _⟩ => exact Fin.ext (by show win0_1.index t (0 : Fin 3) * 1 + 1 * 0 = t.val / 4; omega)
  | ⟨1, _⟩ => exact Fin.ext (by show win0_1.index t (1 : Fin 3) * 512 + 1 * r.val = 512 * (t.val % 4) + r.val; omega)
  | ⟨2, _⟩ => exact Fin.ext (by show win0_1.index t (2 : Fin 3) * 1024 + 1 * d.val = d.val; omega)

theorem emb7 (t : Fin cfg0.N) (r : Fin 512) (d : Fin 1024) :
    ((cfg0.win 7).blk t).view.emb (ix3 0 r d) = (ix3 (bat t) (row t r) d : S8x2048x1024.Idx) := by
  obtain ⟨e0, e1, e2⟩ := at7 t
  funext a
  match a with
  | ⟨0, _⟩ => exact Fin.ext (by show win0_7.index t (0 : Fin 3) * 1 + 1 * 0 = t.val / 4; omega)
  | ⟨1, _⟩ => exact Fin.ext (by show win0_7.index t (1 : Fin 3) * 512 + 1 * r.val = 512 * (t.val % 4) + r.val; omega)
  | ⟨2, _⟩ => exact Fin.ext (by show win0_7.index t (2 : Fin 3) * 1024 + 1 * d.val = d.val; omega)

theorem emb8 (t : Fin cfg0.N) (r : Fin 512) (d : Fin 1024) :
    ((cfg0.win 8).blk t).view.emb (ix3 0 r d) = (ix3 (bat t) (row t r) d : S8x2048x1024.Idx) := by
  obtain ⟨e0, e1, e2⟩ := at8 t
  funext a
  match a with
  | ⟨0, _⟩ => exact Fin.ext (by show win0_8.index t (0 : Fin 3) * 1 + 1 * 0 = t.val / 4; omega)
  | ⟨1, _⟩ => exact Fin.ext (by show win0_8.index t (1 : Fin 3) * 512 + 1 * r.val = 512 * (t.val % 4) + r.val; omega)
  | ⟨2, _⟩ => exact Fin.ext (by show win0_8.index t (2 : Fin 3) * 1024 + 1 * d.val = d.val; omega)

theorem emb2 (t : Fin cfg0.N) (y : Fin 256) (e : Fin 2048) :
    ((cfg0.win 2).blk t).view.emb (ix3 0 y e) = (ix3 (bat t) y e : S8x256x2048.Idx) := by
  obtain ⟨e0, e1, e2⟩ := at2 t
  funext a
  match a with
  | ⟨0, _⟩ => exact Fin.ext (by show win0_2.index t (0 : Fin 3) * 1 + 1 * 0 = t.val / 4; omega)
  | ⟨1, _⟩ => exact Fin.ext (by show win0_2.index t (1 : Fin 3) * 256 + 1 * y.val = y.val; omega)
  | ⟨2, _⟩ => exact Fin.ext (by show win0_2.index t (2 : Fin 3) * 2048 + 1 * e.val = e.val; omega)

section Blocks

variable (m : (ℓ : Loc nD τ sig) → Buf (Elt Ideal) ℓ) (c : Dev nD) (t : Fin cfg0.N)

theorem iblk0 (r : Fin 512) (d : Fin 1024) : (iblk m c 0 t : S1x512x1024.Idx → EReal) (ix3 0 r d) = (m ((c : Thread nD τ).loc main_arg0) : S8x2048x1024.Idx → EReal) (ix3 (bat t) (row t r) d) := by
  show (V m c main_v0 : S8x2048x1024.Idx → EReal) (((cfg0.win 0).blk t).view.emb (ix3 0 r d)) = _
  rw [V_0, emb0]

theorem iblk1 (r : Fin 512) (d : Fin 1024) : (iblk m c 1 t : S1x512x1024.Idx → EReal) (ix3 0 r d) = (m ((c : Thread nD τ).loc main_arg0) : S8x2048x1024.Idx → EReal) (ix3 (bat t) (row t r) d) := by
  show (V m c main_arg0 : S8x2048x1024.Idx → EReal) (((cfg0.win 1).blk t).view.emb (ix3 0 r d)) = _
  rw [V_main_arg0, emb1]

theorem iblk2 (y : Fin 256) (e : Fin 2048) : (iblk m c 2 t : S1x256x2048.Idx → EReal) (ix3 0 y e) = (m ((c : Thread nD τ).loc main_arg1) : S8x256x2048.Idx → EReal) (ix3 (bat t) y e) := by
  show (V m c main_v1 : S8x256x2048.Idx → EReal) (((cfg0.win 2).blk t).view.emb (ix3 0 y e)) = _
  rw [V_2, emb2]

theorem iblk3 (k d : Fin 1024) : (iblk m c 3 t : S1024x1024.Idx → EReal) (ix2 k d) = (m ((c : Thread nD τ).loc main_arg2) : S1024x1024.Idx → EReal) (ix2 k d) := by
  obtain ⟨e0, e1⟩ := at3 t
  show (V m c main_v2 : S1024x1024.Idx → EReal) (((cfg0.win 3).blk t).view.emb (ix2 k d)) = _
  rw [V_3]
  refine congrArg (m ((c : Thread nD τ).loc main_arg2) : S1024x1024.Idx → EReal) (funext fun a => ?_)
  match a with
  | ⟨0, _⟩ => exact Fin.ext (by show win0_3.index t (0 : Fin 2) * 1024 + 1 * k.val = k.val; omega)
  | ⟨1, _⟩ => exact Fin.ext (by show win0_3.index t (1 : Fin 2) * 1024 + 1 * d.val = d.val; omega)

theorem iblk4 (k d : Fin 1024) : (iblk m c 4 t : S1024x1024.Idx → EReal) (ix2 k d) = (m ((c : Thread nD τ).loc main_arg3) : S1024x1024.Idx → EReal) (ix2 k d) := by
  obtain ⟨e0, e1⟩ := at4 t
  show (V m c main_v3 : S1024x1024.Idx → EReal) (((cfg0.win 4).blk t).view.emb (ix2 k d)) = _
  rw [V_4]
  refine congrArg (m ((c : Thread nD τ).loc main_arg3) : S1024x1024.Idx → EReal) (funext fun a => ?_)
  match a with
  | ⟨0, _⟩ => exact Fin.ext (by show win0_4.index t (0 : Fin 2) * 1024 + 1 * k.val = k.val; omega)
  | ⟨1, _⟩ => exact Fin.ext (by show win0_4.index t (1 : Fin 2) * 1024 + 1 * d.val = d.val; omega)

theorem iblk5 (d : Fin 1024) : (iblk m c 5 t : S1x1024.Idx → EReal) (ix2 0 d) = (m ((c : Thread nD τ).loc main_arg4) : S1024.Idx → EReal) (ix1 d) := by
  obtain ⟨e0, e1⟩ := at5 t
  refine Eq.trans ?_ (V_5 m c d)
  refine congrArg (V m c main_v4 : S1x1024.Idx → EReal) (?_ : ((cfg0.win 5).blk t).view.emb (ix2 0 d) = ix2 0 d)
  funext a
  match a with
  | ⟨0, _⟩ => exact Fin.ext (by show win0_5.index t (0 : Fin 2) * 1 + 1 * 0 = 0; omega)
  | ⟨1, _⟩ => exact Fin.ext (by show win0_5.index t (1 : Fin 2) * 1024 + 1 * d.val = d.val; omega)

theorem iblk6 (d : Fin 1024) : (iblk m c 6 t : S1x1024.Idx → EReal) (ix2 0 d) = (m ((c : Thread nD τ).loc main_arg5) : S1024.Idx → EReal) (ix1 d) := by
  obtain ⟨e0, e1⟩ := at6 t
  refine Eq.trans ?_ (V_6 m c d)
  refine congrArg (V m c main_v5 : S1x1024.Idx → EReal) (?_ : ((cfg0.win 6).blk t).view.emb (ix2 0 d) = ix2 0 d)
  funext a
  match a with
  | ⟨0, _⟩ => exact Fin.ext (by show win0_6.index t (0 : Fin 2) * 1 + 1 * 0 = 0; omega)
  | ⟨1, _⟩ => exact Fin.ext (by show win0_6.index t (1 : Fin 2) * 1024 + 1 * d.val = d.val; omega)

/-- The result array from the arguments in memory. -/
def outM : S8x2048x1024.Idx → EReal := outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem block_value (r : Fin 512) (d : Fin 1024) : payC (iblk m c 0 t) (iblk m c 1 t) (iblk m c 2 t) (iblk m c 3 t) (iblk m c 4 t) (iblk m c 5 t) (iblk m c 6 t) (ix2 r d) = outM m c (ix3 (bat t) (row t r) d) := by
  refine (payC_value _ _ _ _ _ _ _ r d).trans ?_
  have e0 : (fun k => (iblk m c 0 t : S1x512x1024.Idx → EReal) (ix3 0 r k)) = fun k => (m ((c : Thread nD τ).loc main_arg0) : S8x2048x1024.Idx → EReal) (ix3 (bat t) (row t r) k) := funext fun k => iblk0 m c t r k
  have e1 : (fun k => (iblk m c 1 t : S1x512x1024.Idx → EReal) (ix3 0 r k)) = fun k => (m ((c : Thread nD τ).loc main_arg0) : S8x2048x1024.Idx → EReal) (ix3 (bat t) (row t r) k) := funext fun k => iblk1 m c t r k
  have e2 : (fun y e => (iblk m c 2 t : S1x256x2048.Idx → EReal) (ix3 0 y e)) = fun y e => (m ((c : Thread nD τ).loc main_arg1) : S8x256x2048.Idx → EReal) (ix3 (bat t) y e) := funext fun y => funext fun e => iblk2 m c t y e
  have e3 : (fun k d : Fin 1024 => (iblk m c 3 t : S1024x1024.Idx → EReal) (ix2 k d)) = fun k d => (m ((c : Thread nD τ).loc main_arg2) : S1024x1024.Idx → EReal) (ix2 k d) := funext fun k => funext fun d => iblk3 m c t k d
  have e4 : (fun k d : Fin 1024 => (iblk m c 4 t : S1024x1024.Idx → EReal) (ix2 k d)) = fun k d => (m ((c : Thread nD τ).loc main_arg3) : S1024x1024.Idx → EReal) (ix2 k d) := funext fun k => funext fun d => iblk4 m c t k d
  exact congr (congr (congrArg₂ lnE (congr (congrArg₂ zmE (congrArg₂ attE (congrArg₂ qE e0 e3) e2) e1) e4) (iblk5 m c t d)) (iblk6 m c t d)) rfl

theorem wide_apply (z : FVec Ideal S512x1024 .f32) (r : Fin 512) (d : Fin 1024) :
    (shapeCast S1x512x1024 z shapeCasts_S512x1024_S1x512x1024 : FVec Ideal S1x512x1024 .f32) (ix3 0 r d) = z (ix2 r d) := by
  pointwise

theorem canon_f (p : Vec Ideal S1x512x1024 .f32) (r : Fin 512) (d : Fin 1024) :
    View.canon (Val := Elt Ideal) [(⟨r0_0, p⟩ : View.Piece (Elt Ideal) S1x512x1024 .f32)] (ix3 0 r d) = p (ix3 0 r d) := by
  have e : r0_0.emb (ix3 0 r d) = (ix3 0 r d : S1x512x1024.Idx) := by
    funext a
    match a with
    | ⟨0, _⟩ => rfl
    | ⟨1, _⟩ => exact Fin.ext (by show 0 + 1 * r.val = r.val; omega)
    | ⟨2, _⟩ => exact Fin.ext (by show 0 + 1 * d.val = d.val; omega)
  have h := View.canon_cons_emb (Val := Elt Ideal) (e := .f32) r0_0 p [] (ix3 0 r d)
  rw [e] at h
  exact h

theorem canon_b (p : Vec Ideal S1x512x1024 .bf16) (r : Fin 512) (d : Fin 1024) :
    View.canon (Val := Elt Ideal) [(⟨r0_0, p⟩ : View.Piece (Elt Ideal) S1x512x1024 .bf16)] (ix3 0 r d) = p (ix3 0 r d) := by
  have e : r0_0.emb (ix3 0 r d) = (ix3 0 r d : S1x512x1024.Idx) := by
    funext a
    match a with
    | ⟨0, _⟩ => rfl
    | ⟨1, _⟩ => exact Fin.ext (by show 0 + 1 * r.val = r.val; omega)
    | ⟨2, _⟩ => exact Fin.ext (by show 0 + 1 * d.val = d.val; omega)
  have h := View.canon_cons_emb (Val := Elt Ideal) (e := .bf16) r0_0 p [] (ix3 0 r d)
  rw [e] at h
  exact h

theorem ix_eta3 (j : S1x512x1024.Idx) : ∃ (r : Fin 512) (d : Fin 1024), j = ix3 0 r d :=
  ⟨j 1, j 2, funext fun a => by
    match a with
    | ⟨0, _⟩ => exact Subsingleton.elim (α := Fin 1) _ _
    | ⟨1, _⟩ => rfl
    | ⟨2, _⟩ => rfl⟩

theorem flushed7 : (dats m 0 c).flushed 7 t = ((cfg0.win 7).blk t).view.read (Elt Ideal) (outM m c : FVec Ideal S8x2048x1024 .f32) := by
  funext j
  show (dats m 0 c).after 7 t j = outM m c (((cfg0.win 7).blk t).view.emb j)
  rw [after0_7]
  obtain ⟨r, d, rfl⟩ := ix_eta3 j
  rw [emb7]
  exact (canon_f _ r d).trans ((wide_apply (payC (iblk m c 0 t) (iblk m c 1 t) (iblk m c 2 t) (iblk m c 3 t) (iblk m c 4 t) (iblk m c 5 t) (iblk m c 6 t)) r d).trans (block_value m c t r d))

theorem flushed8 : (dats m 0 c).flushed 8 t = ((cfg0.win 8).blk t).view.read (Elt Ideal) (outM m c : FVec Ideal S8x2048x1024 .bf16) := by
  funext j
  show (dats m 0 c).after 8 t j = outM m c (((cfg0.win 8).blk t).view.emb j)
  rw [after0_8]
  obtain ⟨r, d, rfl⟩ := ix_eta3 j
  rw [emb8]
  exact (canon_b _ r d).trans ((wide_apply (payC (iblk m c 0 t) (iblk m c 1 t) (iblk m c 2 t) (iblk m c 3 t) (iblk m c 4 t) (iblk m c 5 t) (iblk m c 6 t)) r d).trans (block_value m c t r d))

end Blocks

section Whole

variable (m : (ℓ : Loc nD τ sig) → Buf (Elt Ideal) ℓ) (c : Dev nD)

theorem covered7 (i : S8x2048x1024.Idx) : ∃ t : Fin cfg0.N, (cfg0.win 7).flush t = true ∧ i ∈ ((cfg0.win 7).blk t).view.set := by
  have h0 : (i 0).val < 8 := (i 0).isLt
  have h1 : (i 1).val < 2048 := (i 1).isLt
  let t : Fin cfg0.N := ⟨4 * (i 0).val + (i 1).val / 512, lt_of_lt_of_eq (by omega) (by decide +kernel : 32 = grid0.N)⟩
  refine ⟨t, flush0_7 _, ?_⟩
  have h := ((cfg0.win 7).blk t).view.emb_mem_set (ix3 0 (⟨(i 1).val % 512, by omega⟩ : Fin 512) (i 2 : Fin 1024) : S1x512x1024.Idx)
  refine Eq.mp (congrArg (fun z : S8x2048x1024.Idx => z ∈ ((cfg0.win 7).blk t).view.set) ((emb7 t _ _).trans (funext fun a => ?_))) h
  match a with
  | ⟨0, _⟩ => exact Fin.ext (by show (4 * (i 0).val + (i 1).val / 512) / 4 = (i 0).val; omega)
  | ⟨1, _⟩ => exact Fin.ext (by show 512 * ((4 * (i 0).val + (i 1).val / 512) % 4) + (i 1).val % 512 = (i 1).val; omega)
  | ⟨2, _⟩ => rfl

theorem final7 : (dats m 0 c).arrAt 7 cfg0.N = (outM m c : FVec Ideal S8x2048x1024 .f32) :=
  (dats m 0 c).arrAt_eq_of_cover 7 (outM m c : FVec Ideal S8x2048x1024 .f32) (fun t _ => flushed7 m c t) covered7

theorem covered8 (i : S8x2048x1024.Idx) : ∃ t : Fin cfg0.N, (cfg0.win 8).flush t = true ∧ i ∈ ((cfg0.win 8).blk t).view.set := by
  have h0 : (i 0).val < 8 := (i 0).isLt
  have h1 : (i 1).val < 2048 := (i 1).isLt
  let t : Fin cfg0.N := ⟨4 * (i 0).val + (i 1).val / 512, lt_of_lt_of_eq (by omega) (by decide +kernel : 32 = grid0.N)⟩
  refine ⟨t, flush0_8 _, ?_⟩
  have h := ((cfg0.win 8).blk t).view.emb_mem_set (ix3 0 (⟨(i 1).val % 512, by omega⟩ : Fin 512) (i 2 : Fin 1024) : S1x512x1024.Idx)
  refine Eq.mp (congrArg (fun z : S8x2048x1024.Idx => z ∈ ((cfg0.win 8).blk t).view.set) ((emb8 t _ _).trans (funext fun a => ?_))) h
  match a with
  | ⟨0, _⟩ => exact Fin.ext (by show (4 * (i 0).val + (i 1).val / 512) / 4 = (i 0).val; omega)
  | ⟨1, _⟩ => exact Fin.ext (by show 512 * ((4 * (i 0).val + (i 1).val / 512) % 4) + (i 1).val % 512 = (i 1).val; omega)
  | ⟨2, _⟩ => rfl

theorem final8 : (dats m 0 c).arrAt 8 cfg0.N = (outM m c : FVec Ideal S8x2048x1024 .bf16) :=
  (dats m 0 c).arrAt_eq_of_cover 8 (outM m c : FVec Ideal S8x2048x1024 .bf16) (fun t _ => flushed8 m c t) covered8

end Whole

end Cert.Kernel4Ideal.Val

end
-- ==== Proof.Cross.Refer.lean ====
/- Hand-written: THE CROSS-ATTENTION'S REFERENCE: each column of each row is the norm of the residual with the projected
   attention, where the weights of a row are divided by their sum before the values are averaged (`outV_apply`); on real scores
   that is the kernel's average (`soft_eq`). -/
module

public import proofs.«01_k».proof.Proof.Gen.Reference4Ideal.Run
public import proofs.«01_k».proof.Proof.Cross.Block
public import proofs.«01_k».proof.Proof.Merge.Refer
public import Idealize.ShloMosaic.Lib.Pointwise

@[expose] public section

set_option maxRecDepth 16384

noncomputable section

namespace Cert.Proof.Mlp

open Idealize.ShloMosaic
open Cert.Proof.Online (coe_sum fold_max_real div_real)

/-- The values averaged with weights divided by their sum first, the scores less `K`. -/
def refE (S : Fin 256 → EReal) (K : EReal) (v : Fin 256 → EReal) : EReal :=
  ∑ y : Fin 256, v y * Ideal.div (Ideal.exp (S y - max ⊥ K)) (∑ y' : Fin 256, Ideal.exp (S y' - max ⊥ K))

/-- A sum times a real number that is not negative. -/
theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

theorem exp_less (σ K : ℝ) : Ideal.exp ((σ : EReal) - (K : EReal)) = ((Real.exp σ * (Real.exp K)⁻¹ : ℝ) : EReal) := by
  rw [← EReal.coe_sub, Ideal.exp_coe, Real.exp_sub]; rfl

/-- On real scores the two ways to average are one, whatever the values. -/
theorem soft_eq (σ : Fin 256 → ℝ) (S : Fin 256 → EReal) (hS : ∀ y, S y = (σ y : EReal)) (K : EReal) (hK : ∃ k : ℝ, K = k) (v : Fin 256 → EReal) :
    refE S K v = avE S v := by
  obtain ⟨k, rfl⟩ := hK
  obtain ⟨M, hM⟩ := fold_max_real S (fun y => by rw [hS]; exact EReal.coe_ne_top _) ⟨0, by rw [hS]; exact EReal.coe_ne_bot _⟩
  have pos : ∀ c : ℝ, 0 < ∑ y : Fin 256, Real.exp (σ y) * (Real.exp c)⁻¹ := fun c =>
    Finset.sum_pos (fun y _ => mul_pos (Real.exp_pos _) (inv_pos.2 (Real.exp_pos _))) ⟨0, Finset.mem_univ _⟩
  unfold refE avE exE
  rw [hM, max_eq_right bot_le]
  simp only [hS, exp_less]
  rw [← coe_sum, ← coe_sum, Ideal.div_coe (pos M).ne', sum_mul_real _ _ _ (by have := (pos M).le; positivity)]
  refine Finset.sum_congr rfl fun y _ => ?_
  rw [div_real (pos k).ne', mul_comm ((_ : ℝ) : EReal) (v y), mul_assoc, ← EReal.coe_mul]
  congr 2
  rw [← Finset.sum_mul, ← Finset.sum_mul]
  have h0 : (∑ y : Fin 256, Real.exp (σ y)) ≠ 0 := (Finset.sum_pos (fun y _ => Real.exp_pos (σ y)) ⟨0, Finset.mem_univ _⟩).ne'
  have h1 := (Real.exp_pos k).ne'
  have h2 := (Real.exp_pos M).ne'
  field_simp

end Cert.Proof.Mlp

namespace Cert.Proof.CrossRef

open Cert.Reference4Ideal Cert.Reference4Ideal.Gen Cert.Reference4Ideal.Value
open Idealize.ShloMosaic Idealize.ShloMosaic.TcCoe Idealize.SL.Sem
open Cert.Proof.Mlp
open Cert.Proof.Online (bot_word fold_max_real')
open Cert.Proof.MlpRef (lnV lnV_apply)
open Cert.Proof.MergeRef (zV zV_apply)

/-- The queries, head by head. -/
def qV (h : FVec Ideal S8x2048x1024 .f32) (w : FVec Ideal S1024x1024 .f32) : FVec Ideal S8x2048x4x256 .f32 :=
  shapeCast _ (Host.dotGeneral dot_S8x2048x1024_S1024x1024_S8x2048x1024_2_0_01_1_n_n none h w) shapeCasts_S8x2048x1024_S8x2048x4x256

theorem qV_apply (h : FVec Ideal S8x2048x1024 .f32) (w : FVec Ideal S1024x1024 .f32) (i : Fin 8) (x : Fin 2048) (n : Fin 4) (e : Fin 256) :
    qV h w (ix4 i x n e) = ∑ k : Fin 1024, h (ix3 i x k) * w (ix2 k (⟨256 * n.val + e.val, by omega⟩ : Fin 1024)) := by
  pointwise [qV]
  simp only [Nat.mul_comm n.val 256]

/-- The keys, head by head. -/
def kV (kv : FVec Ideal S8x256x2048 .f32) : FVec Ideal S8x256x4x256 .f32 :=
  shapeCast _ (extractStridedSlice S8x256x1024 ![0, 0, 0] kv slices_S8x256x2048_S8x256x1024_0_0_0) shapeCasts_S8x256x1024_S8x256x4x256

theorem kV_apply (kv : FVec Ideal S8x256x2048 .f32) (i : Fin 8) (y : Fin 256) (n : Fin 4) (e : Fin 256) :
    kV kv (ix4 i y n e) = kv (ix3 i y (⟨256 * n.val + e.val, by omega⟩ : Fin 2048)) := by
  pointwise [kV]
  simp only [Nat.mul_comm n.val 256]

/-- The values, head by head. -/
def vV (kv : FVec Ideal S8x256x2048 .f32) : FVec Ideal S8x256x4x256 .f32 :=
  shapeCast _ (extractStridedSlice S8x256x1024 ![0, 0, 1024] kv slices_S8x256x2048_S8x256x1024_0_0_1024) shapeCasts_S8x256x1024_S8x256x4x256

theorem vV_apply (kv : FVec Ideal S8x256x2048 .f32) (i : Fin 8) (y : Fin 256) (n : Fin 4) (e : Fin 256) :
    vV kv (ix4 i y n e) = kv (ix3 i y (⟨1024 + (256 * n.val + e.val), by omega⟩ : Fin 2048)) := by
  pointwise [vV]
  simp only [Nat.mul_comm n.val 256]

/-- The scores. -/
def sV (q : FVec Ideal S8x2048x4x256 .f32) (k : FVec Ideal S8x256x4x256 .f32) : FVec Ideal S8x4x2048x256 .f32 :=
  mulf (Host.dotGeneral dot_S8x2048x4x256_S8x256x4x256_S8x4x2048x256_3_3_1_1_02_02 none q k) (broadcastInDim S8x4x2048x256 ![] bcast_S_S8x4x2048x256 (constant S_ .f32 0x3D800000#32))

theorem sV_apply (q : FVec Ideal S8x2048x4x256 .f32) (k : FVec Ideal S8x256x4x256 .f32) (i : Fin 8) (n : Fin 4) (x : Fin 2048) (y : Fin 256) :
    sV q k (ix4 i n x y) = (∑ e : Fin 256, q (ix4 i x n e) * k (ix4 i y n e)) * Ideal.ofBits FTy.f32 0x3D800000#32 := by
  pointwise [sV]

/-- The maximum of each row of scores. -/
def xV (M : FVec Ideal S8x4x2048x256 .f32) : FVec Ideal S8x4x2048 .f32 :=
  Host.reduce FloatOps.maximumf M (constant S_ .f32 0xFF800000#32) reducesTo_S8x4x2048x256_S8x4x2048_d3 h_S_

theorem drop_eq (i : Fin 8) (n : Fin 4) (x : Fin 2048) (y : Fin 256) :
    reducesTo_S8x4x2048x256_S8x4x2048_d3.drop (ix4 i n x y) = ix3 i n x := by
  funext a
  fin_cases a <;> rfl

/-- The maximum of a row of scores is real where every score is. -/
theorem xV_real (M : FVec Ideal S8x4x2048x256 .f32) (i : Fin 8) (n : Fin 4) (x : Fin 2048) (hM : ∀ j, ∃ r : ℝ, M j = (r : EReal)) :
    ∃ K : ℝ, xV M (ix3 i n x) = (K : EReal) := by
  have e := Host.reduce_eq_fold FloatOps.maximumf M (constant (F := Ideal) S_ .f32 0xFF800000#32) reducesTo_S8x4x2048x256_S8x4x2048_d3 h_S_ (ix3 i n x)
  obtain ⟨K, hK⟩ := fold_max_real' (Finset.univ.filter fun j => reducesTo_S8x4x2048x256_S8x4x2048_d3.drop j = ix3 i n x) M
    (fun j => by obtain ⟨r, hr⟩ := hM j; rw [hr]; exact EReal.coe_ne_top r)
    ⟨ix4 i n x 0, Finset.mem_filter.2 ⟨Finset.mem_univ _, drop_eq i n x 0⟩, by obtain ⟨r, hr⟩ := hM (ix4 i n x 0); rw [hr]; exact EReal.coe_ne_bot r⟩
  refine ⟨K, e.trans (Eq.trans ?_ hK)⟩
  exact congrArg (fun z : EReal => Finset.fold max z M _) bot_word

/-- The exponentials of the scores less their row's maximum. -/
def eV (M : FVec Ideal S8x4x2048x256 .f32) (X : FVec Ideal S8x4x2048 .f32) : FVec Ideal S8x4x2048x256 .f32 :=
  Host.exp (subf M (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) X))))

theorem eV_apply (M : FVec Ideal S8x4x2048x256 .f32) (X : FVec Ideal S8x4x2048 .f32) (i : Fin 8) (n : Fin 4) (x : Fin 2048) (y : Fin 256) :
    eV M X (ix4 i n x y) = Ideal.exp (M (ix4 i n x y) - max ⊥ (X (ix3 i n x))) := by
  pointwise [eV]
  rw [bot_word]

/-- The exponentials over their row's sum. -/
def pV (E : FVec Ideal S8x4x2048x256 .f32) : FVec Ideal S8x4x2048x256 .f32 :=
  Host.divf E (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd E (constant S_ .f32 0x00000000#32) reducesTo_S8x4x2048x256_S8x4x2048_d3 h_S_)))

theorem pV_apply (E : FVec Ideal S8x4x2048x256 .f32) (i : Fin 8) (n : Fin 4) (x : Fin 2048) (y : Fin 256) :
    pV E (ix4 i n x y) = Ideal.div (E (ix4 i n x y)) (∑ y' : Fin 256, E (ix4 i n x y')) := by
  pointwise [pV]

/-- The averaged values, the heads side by side. -/
def oV (v : FVec Ideal S8x256x4x256 .f32) (P : FVec Ideal S8x4x2048x256 .f32) : FVec Ideal S8x2048x1024 .f32 :=
  shapeCast _ (transpose S8x2048x4x256 [0, 3, 1, 2] (Host.dotGeneral dot_S8x256x4x256_S8x4x2048x256_S8x4x256x2048_1_3_3_2_02_01 none v P) transposes_S8x4x256x2048_S8x2048x4x256_0_3_1_2) shapeCasts_S8x2048x4x256_S8x2048x1024

theorem oV_apply (v : FVec Ideal S8x256x4x256 .f32) (P : FVec Ideal S8x4x2048x256 .f32) (i : Fin 8) (x : Fin 2048) (j : Fin 1024) :
    oV v P (ix3 i x j) = ∑ y : Fin 256, v (ix4 i y (⟨j.val / 256, by omega⟩ : Fin 4) (⟨j.val % 256, by omega⟩ : Fin 256)) * P (ix4 i (⟨j.val / 256, by omega⟩ : Fin 4) x y) := by
  pointwise [oV]

/-- The attention. -/
def atV (h : FVec Ideal S8x2048x1024 .f32) (kv : FVec Ideal S8x256x2048 .f32) (wq : FVec Ideal S1024x1024 .f32) : FVec Ideal S8x2048x1024 .f32 :=
  oV (vV kv) (pV (eV (sV (qV h wq) (kV kv)) (xV (sV (qV h wq) (kV kv)))))

/-- The reference's result array. -/
def outV (h : FVec Ideal S8x2048x1024 .f32) (kv : FVec Ideal S8x256x2048 .f32) (wq wo : FVec Ideal S1024x1024 .f32) (g b : FVec Ideal S1024 .f32) : FVec Ideal S8x2048x1024 .f32 :=
  lnV (zV h (atV h kv wq) wo) g b

theorem scores (h : FVec Ideal S8x2048x1024 .f32) (kv : FVec Ideal S8x256x2048 .f32) (wq : FVec Ideal S1024x1024 .f32) (i : Fin 8) (n : Fin 4) (x : Fin 2048) (y : Fin 256) :
    sV (qV h wq) (kV kv) (ix4 i n x y) = sE (qE (fun k => h (ix3 i x k)) (fun k d => wq (ix2 k d))) (fun y e => kv (ix3 i y e)) n y := by
  rw [sV_apply]
  simp only [qV_apply, kV_apply]
  rfl

theorem atV_apply (h : FVec Ideal S8x2048x1024 .f32) (kv : FVec Ideal S8x256x2048 .f32) (wq : FVec Ideal S1024x1024 .f32)
    (hS : ∀ j, ∃ r : ℝ, sV (qV h wq) (kV kv) j = (r : EReal)) (i : Fin 8) (x : Fin 2048) (j : Fin 1024) :
    atV h kv wq (ix3 i x j) = attE (qE (fun k => h (ix3 i x k)) (fun k d => wq (ix2 k d))) (fun y e => kv (ix3 i y e)) j := by
  unfold atV attE
  rw [oV_apply]
  simp only [pV_apply, eV_apply, scores, vV_apply]
  choose r hr using hS
  refine Eq.trans ?_ (soft_eq (fun y => r (ix4 i (⟨j.val / 256, by omega⟩ : Fin 4) x y)) _ (fun y => ?_) _ (xV_real (sV (qV h wq) (kV kv)) i (⟨j.val / 256, by omega⟩ : Fin 4) x (fun j => ⟨r j, hr j⟩)) _)
  · unfold refE
    refine Finset.sum_congr rfl fun y _ => ?_
    refine congrArg (fun z : Fin 2048 => kv (ix3 i y z) * _) (Fin.ext ?_)
    show 1024 + (256 * (j.val / 256) + j.val % 256) = 1024 + j.val
    omega
  · rw [← scores]
    exact hr _

theorem outV_apply (h : FVec Ideal S8x2048x1024 .f32) (kv : FVec Ideal S8x256x2048 .f32) (wq wo : FVec Ideal S1024x1024 .f32) (g b : FVec Ideal S1024 .f32)
    (hS : ∀ j, ∃ r : ℝ, sV (qV h wq) (kV kv) j = (r : EReal)) (i : Fin 8) (x : Fin 2048) (d : Fin 1024) :
    outV h kv wq wo g b (ix3 i x d) = lnE (zmE (attE (qE (fun k => h (ix3 i x k)) (fun k d => wq (ix2 k d))) (fun y e => kv (ix3 i y e)))
      (fun k => h (ix3 i x k)) (fun k d => wo (ix2 k d))) (g (ix1 d)) (b (ix1 d)) d := by
  unfold outV
  refine (lnV_apply _ _ _ i x d).trans ?_
  refine congrArg (fun z => lnE z (g (ix1 d)) (b (ix1 d)) d) (funext fun k => ?_)
  rw [zV_apply]
  exact congrArg (fun z => zmE z (fun k => h (ix3 i x k)) (fun k d => wo (ix2 k d)) k) (funext fun e => atV_apply h kv wq hS i x e)

theorem res0_eq (m : (ℓ : Loc nD τ sig) → Buf (Elt Ideal) ℓ) (c : Dev nD) :
    res_out0 m c = outV (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := rfl

theorem res1_eq (m : (ℓ : Loc nD τ sig) → Buf (Elt Ideal) ℓ) (c : Dev nD) :
    (res_out1 m c : S8x2048x1024.Idx → EReal) = outV (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) := rfl

end Cert.Proof.CrossRef

end
-- ==== Proof.Cross.Alg.lean ====
/- Hand-written: THE CROSS-ATTENTION'S VALUE CLAIM. Where the rows, the keys and the queries' weights are finite every score is
   real (`scores_real`), and the kernel's result arrays are the reference's. -/
module

public import proofs.«01_k».proof.Defs
public import proofs.«01_k».proof.Proof.Gen.Kernel4Ideal.Value
public import proofs.«01_k».proof.Proof.Cross.Arrays
public import proofs.«01_k».proof.Proof.Cross.Refer
public import proofs.«01_k».proof.Proof.Algebraic
public import Idealize.ShloMosaic.Lib.Pointwise

@[expose] public section

set_option maxRecDepth 16384

noncomputable section

namespace Cert.Proof

open Idealize.ShloMosaic Idealize.ShloMosaic.TcCoe Idealize.SL.Sem

theorem preFacts4 : Cert.Pre_finite4.Facts := ⟨by decide, by decide, by decide, by decide⟩

theorem frame_ref4 : Cert.quiescent_Reference4Ideal (hReference4Ideal := Cert.Reference4Ideal.Gen.facts) :=
  fun m ρ _ => (θ_run Cert.Reference4Ideal.defs _ _).mono (fun r h => ⟨fun c => (h c).2.2, sem_eq_zero_of_no_sems rfl r.2⟩)
    (Cert.Reference4Ideal.Value.run (F := Ideal) m ρ)

theorem frame_ref4_finite : Cert.quiescent_Reference4Ideal_pre_finite4 (hReference4Ideal := Cert.Reference4Ideal.Gen.facts) (hPre_finite4 := preFacts4) :=
  fun m ρ _ => (θ_run Cert.Reference4Ideal.defs _ _).mono (fun r h => ⟨fun c => (h c).2.2, sem_eq_zero_of_no_sems rfl r.2⟩)
    (Cert.Reference4Ideal.Value.run (F := Ideal) m ρ)

theorem frame_ideal4_finite : Cert.quiescent_Kernel4Ideal_pre_finite4 (hKernel4Ideal := Cert.Kernel4Ideal.Gen.facts) (hPre_finite4 := preFacts4) :=
  fun m ρ _ => Cert.Kernel4Ideal.Gen.frame m ρ

section Run

open Cert.Kernel4Ideal Cert.Kernel4Ideal.Gen

variable (m : (ℓ : Loc nD τ sig) → Buf (Elt Ideal) ℓ) (ρ : Dev nD → PrngReg)

/-- The cross-attention's run with its result arrays. -/
theorem run_value4 : θ_run defs (onTc (τ := τ) (main (F := Ideal))) ⟨m, fun _ => 0, ρ⟩ (fun r => ∀ c : Dev nD,
      r.2.mem ((c.tc : Thread nD τ).loc main_v6_0) = (dats m 0 c).arrAt 7 cfg0.N
      ∧ r.2.mem ((c.tc : Thread nD τ).loc main_v6_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.Kernel4Ideal.Value.run_blocks m ρ

end Run

section Meet

open Cert.Kernel4Ideal Cert.Kernel4Ideal.Gen Cert.Proof.Mlp
open Cert.Kernel4Ideal.Val (outC)
open Cert.Proof.Ref (up)
open Cert.Proof.Online (coe_sum)
open Cert.Proof.CrossRef (sV sV_apply qV qV_apply kV kV_apply)

theorem scale_word : ∃ r : ℝ, Ideal.ofBits FTy.f32 0x3D800000#32 = (r : EReal) := by
  simp [Ideal.ofBits, Ideal.ieee, -EReal.coe_mul]

theorem ix_eta4 {a b c d : ℕ} (j : (⟨4, ![a, b, c, d]⟩ : Shape).Idx) : j = ix4 (j 0) (j 1) (j 2) (j 3) := by
  funext i
  match i with
  | ⟨0, _⟩ => rfl
  | ⟨1, _⟩ => rfl
  | ⟨2, _⟩ => rfl
  | ⟨3, _⟩ => rfl

/-- Every score is real where the rows, the keys and the queries' weights are. -/
theorem scores_real (h : FVec Ideal S8x2048x1024 .f32) (kv : FVec Ideal S8x256x2048 .f32) (wq : FVec Ideal S1024x1024 .f32)
    (hh : ∀ i x k, ∃ r : ℝ, h (ix3 i x k) = (r : EReal)) (hk : ∀ i y (e : Fin 1024), ∃ r : ℝ, kv (ix3 i y (⟨e.val, by omega⟩ : Fin 2048)) = (r : EReal))
    (hw : ∀ k d, ∃ r : ℝ, wq (ix2 k d) = (r : EReal)) (j) : ∃ r : ℝ, sV (qV h wq) (kV kv) j = (r : EReal) := by
  obtain ⟨i, n, x, y, rfl⟩ : ∃ (i : Fin 8) (n : Fin 4) (x : Fin 2048) (y : Fin 256), j = ix4 i n x y := ⟨j 0, j 1, j 2, j 3, ix_eta4 (a := 8) (b := 4) (c := 2048) (d := 256) j⟩
  obtain ⟨s, hs⟩ := scale_word
  choose a ha using hh
  choose b hb using hk
  choose w hw' using hw
  have hk' : ∀ e : Fin 256, kV kv (ix4 i y n e) = (b i y (⟨256 * n.val + e.val, by omega⟩ : Fin 1024) : EReal) := fun e => by
    rw [kV_apply]
    exact hb i y (⟨256 * n.val + e.val, by omega⟩ : Fin 1024)
  rw [sV_apply, hs]
  simp only [hk', qV_apply, ha, hw', ← EReal.coe_mul, ← coe_sum]
  exact ⟨_, rfl⟩

theorem meet4 (h : FVec Ideal S8x2048x1024 .f32) (kv : FVec Ideal S8x256x2048 .f32) (wq wo : FVec Ideal S1024x1024 .f32) (g b : FVec Ideal S1024 .f32)
    (hS : ∀ j, ∃ r : ℝ, sV (qV h wq) (kV kv) j = (r : EReal)) : Cert.Proof.CrossRef.outV h kv wq wo g b = outC h kv wq wo g b := by
  funext j
  obtain ⟨i, x, d, rfl⟩ : ∃ (i : Fin 8) (x : Fin 2048) (d : Fin 1024), j = ix3 i x d := ⟨j 0, j 1, j 2, funext fun a => by
    match a with
    | ⟨0, _⟩ => rfl
    | ⟨1, _⟩ => rfl
    | ⟨2, _⟩ => rfl⟩
  exact (Cert.Proof.CrossRef.outV_apply h kv wq wo g b hS i x d).trans rfl

theorem real_of_pre [Cert.Pre_finite4.Facts] (h : FVec Ideal S8x2048x1024 .f32) (kv : FVec Ideal S8x256x2048 .f32) (wq wo : FVec Ideal S1024x1024 .f32) (g b : FVec Ideal S1024 .f32)
    (p : (Cert.Pre_finite4.fn (F := Ideal) h kv wq wo g b).1 = (fun _ => 1#1) ∧ (Cert.Pre_finite4.fn (F := Ideal) h kv wq wo g b).2.1 = (fun _ => 1#1)
      ∧ (Cert.Pre_finite4.fn (F := Ideal) h kv wq wo g b).2.2 = (fun _ => 1#1)) (j) : ∃ r : ℝ, sV (qV h wq) (kV kv) j = (r : EReal) := by
  obtain ⟨p0, p1, p2⟩ := p
  have r0 := real_of_fin _ _ p0
  have r1 := real_of_fin _ _ p1
  have r2 := real_of_fin _ _ p2
  refine scores_real h kv wq (fun i x k => ⟨_, congrFun r0 (ix3 i x k)⟩) (fun i y e => ⟨_, Eq.trans ?_ (congrFun r1 (ix3 i y e))⟩) (fun k d => ⟨_, congrFun r2 (ix2 k d)⟩) j
  pointwise

end Meet

theorem algebraic4 : Cert.algebraic_Kernel4Ideal_Reference4Ideal_pre_finite4 (hKernel4Ideal := Cert.Kernel4Ideal.Gen.facts)
    (hReference4Ideal := Cert.Reference4Ideal.Gen.facts) (hPre_finite4 := preFacts4) := by
  intro m ρ m' ρ' hpre hagree
  refine ⟨_, _, run_value4 m ρ, ?_⟩
  refine (θ_run Cert.Reference4Ideal.defs _ _).mono (fun _ h c => ⟨(h c).1.trans ?_, (h c).2.1.trans ?_, (h c).2.2⟩) (Cert.Reference4Ideal.Value.run (F := Ideal) m' ρ')
  · obtain ⟨a0, a1, a2, a3, a4, a5⟩ := hagree c
    refine (Cert.Proof.CrossRef.res0_eq m' c).trans ?_
    rw [a0, a1, a2, a3, a4, a5]
    exact (meet4 _ _ _ _ _ _ (@real_of_pre preFacts4 _ _ _ _ _ _ (hpre c))).trans (Cert.Kernel4Ideal.Val.final7 m c).symm
  · obtain ⟨a0, a1, a2, a3, a4, a5⟩ := hagree c
    refine (Cert.Proof.CrossRef.res1_eq m' c).trans ?_
    rw [a0, a1, a2, a3, a4, a5]
    exact (meet4 _ _ _ _ _ _ (@real_of_pre preFacts4 _ _ _ _ _ _ (hpre c))).trans (Cert.Kernel4Ideal.Val.final8 m c).symm

end Cert.Proof

end
-- ==== Proof.lean ====
/- The proof of the certificate's claims: the frames and the named constants (Proof/Frames.lean), and the value claims
   (Proof/Algebraic.lean, Mlp/Alg.lean, Merge/Alg.lean, Cross/Alg.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Algebraic
public import proofs.«01_k».proof.Proof.Mlp.Alg
public import proofs.«01_k».proof.Proof.Merge.Alg
public import proofs.«01_k».proof.Proof.Cross.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, preFacts, preFacts4,
    frame_words, frame_ideal, frame_ideal_finite, frame_ref, frame_ref_finite,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ideal4_finite, frame_ref4, frame_ref4_finite,
    preserves, algebraic, trivial, algebraic2, trivial, algebraic3, trivial, algebraic4⟩

end Cert.Proof

end
